-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def preserves_Kernel_KernelIdeal : Prop :=
  IdealRules.named_const.Statement Cert.KernelIdeal.κ "gelu_half_3" .f32 0x3E922279#32 ((80338380498831 / 281474976710656 : ℝ) : EReal)
  ∧ IdealRules.named_const.Statement Cert.KernelIdeal.κ "exp2_scale" .f32 0x3E0293EE#32 (((11863283 / 134217728) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)) (v5 : (c : Dev Cert.KernelIdeal.nD) → Buf (Elt Ideal) ((c.tc : Thread Cert.KernelIdeal.nD Cert.KernelIdeal.τ).loc Cert.KernelIdeal.main_v36_5)) (v6 : (c : Dev Cert.KernelIdeal.nD) → Buf (Elt Ideal) ((c.tc : Thread Cert.KernelIdeal.nD Cert.KernelIdeal.τ).loc Cert.KernelIdeal.main_v36_6)) (v7 : (c : Dev Cert.KernelIdeal.nD) → Buf (Elt Ideal) ((c.tc : Thread Cert.KernelIdeal.nD Cert.KernelIdeal.τ).loc Cert.KernelIdeal.main_v36_7)) (v8 : (c : Dev Cert.KernelIdeal.nD) → Buf (Elt Ideal) ((c.tc : Thread Cert.KernelIdeal.nD Cert.KernelIdeal.τ).loc Cert.KernelIdeal.main_v36_8)) (v9 : (c : Dev Cert.KernelIdeal.nD) → Buf (Elt Ideal) ((c.tc : Thread Cert.KernelIdeal.nD Cert.KernelIdeal.τ).loc Cert.KernelIdeal.main_v36_9)) (v10 : (c : Dev Cert.KernelIdeal.nD) → Buf (Elt Ideal) ((c.tc : Thread Cert.KernelIdeal.nD Cert.KernelIdeal.τ).loc Cert.KernelIdeal.main_v36_10)) (v11 : (c : Dev Cert.KernelIdeal.nD) → Buf (Elt Ideal) ((c.tc : Thread Cert.KernelIdeal.nD Cert.KernelIdeal.τ).loc Cert.KernelIdeal.main_v36_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_v36_5) = v5 c
          ∧ r.2.mem ((c.tc : Thread Cert.KernelIdeal.nD Cert.KernelIdeal.τ).loc Cert.KernelIdeal.main_v36_6) = v6 c
          ∧ r.2.mem ((c.tc : Thread Cert.KernelIdeal.nD Cert.KernelIdeal.τ).loc Cert.KernelIdeal.main_v36_7) = v7 c
          ∧ r.2.mem ((c.tc : Thread Cert.KernelIdeal.nD Cert.KernelIdeal.τ).loc Cert.KernelIdeal.main_v36_8) = v8 c
          ∧ r.2.mem ((c.tc : Thread Cert.KernelIdeal.nD Cert.KernelIdeal.τ).loc Cert.KernelIdeal.main_v36_9) = v9 c
          ∧ r.2.mem ((c.tc : Thread Cert.KernelIdeal.nD Cert.KernelIdeal.τ).loc Cert.KernelIdeal.main_v36_10) = v10 c
          ∧ r.2.mem ((c.tc : Thread Cert.KernelIdeal.nD Cert.KernelIdeal.τ).loc Cert.KernelIdeal.main_v36_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v129) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_v133) = v7 c
          ∧ r.2.mem ((c.tc : Thread Cert.ReferenceIdeal.nD Cert.ReferenceIdeal.τ).loc Cert.ReferenceIdeal.main_v135) = v8 c
          ∧ r.2.mem ((c.tc : Thread Cert.ReferenceIdeal.nD Cert.ReferenceIdeal.τ).loc Cert.ReferenceIdeal.main_v137) = v9 c
          ∧ r.2.mem ((c.tc : Thread Cert.ReferenceIdeal.nD Cert.ReferenceIdeal.τ).loc Cert.ReferenceIdeal.main_v139) = v10 c
          ∧ r.2.mem ((c.tc : Thread Cert.ReferenceIdeal.nD Cert.ReferenceIdeal.τ).loc Cert.ReferenceIdeal.main_v141) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  IdealRules.named_const.Statement Cert.Kernel2Ideal.κ "gelu_3" .f32 0x3D122279#32 ((80338380498831 / 2251799813685248 : ℝ) : EReal)

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts) (hPre_finite_inputs2 : Cert.Pre_finite_inputs2.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
-- ==== Pre_finite_inputs.lean ====
abbrev S8x2048x1024 : Shape := ⟨3, ![8, 2048, 1024]⟩
abbrev S1x1024 : Shape := ⟨2, ![1, 1024]⟩
abbrev S1x1024x5120 : Shape := ⟨3, ![1, 1024, 5120]⟩
abbrev S1x3072 : Shape := ⟨2, ![1, 3072]⟩
abbrev S1x512 : Shape := ⟨2, ![1, 512]⟩
abbrev S1x4x128x128 : Shape := ⟨4, ![1, 4, 128, 128]⟩
abbrev S1x4x128 : Shape := ⟨3, ![1, 4, 128]⟩
abbrev S8x256x512 : Shape := ⟨3, ![8, 256, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S_ : Shape := ⟨0, ![]⟩

class Facts : Prop where
  bcast_S_S1x1024 : S_.BroadcastsInDim S1x1024 (![] : Fin 0 → Fin S1x1024.rank)
  bcast_S_S1x1024x5120 : S_.BroadcastsInDim S1x1024x5120 (![] : Fin 0 → Fin S1x1024x5120.rank)
  bitsLt_bf16_f32 : FTy.bits .bf16 < FTy.bits .f32
  bcast_S_S8x256x512 : S_.BroadcastsInDim S8x256x512 (![] : Fin 0 → Fin S8x256x512.rank)

variable [Facts]

def fn {F : FTy → Type} [FloatOps F] (main_arg0 : FVec F S8x2048x1024 .f32) (main_arg1 : FVec F S1x1024 .f32) (main_arg2 : FVec F S1x1024x5120 .f32) (main_arg3 : FVec F S1x3072 .f32) (main_arg4 : FVec F S1x512 .f32) (main_arg5 : FVec F S1x512 .f32) (main_arg6 : FVec F S1x4x128x128 .f32) (main_arg7 : FVec F S1x4x128 .f32) (main_arg8 : FVec F S8x256x512 .bf16) (main_arg9 : FVec F S8x256x512 .bf16) (main_arg10 : FVec F S1x512x512 .f32) (main_arg11 : FVec F S1x512x1024 .f32) (main_arg12 : FVec F S1x512x1024 .f32) (main_arg13 : FVec F S1x512x1024 .f32) (main_arg14 : FVec F S1x1024x1024 .f32) (main_arg15 : FVec F S1x1024x2816 .f32) (main_arg16 : FVec F S1x1024x2816 .f32) : IVec S1x1024 1 × IVec S1x1024x5120 1 × IVec S8x256x512 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x5120 .f32 := Host.absf main_arg2
  let main_cst_0 : FVec F S_ .f32 := constant S_ .f32 0x7F800000#32
  let main_v4 : FVec F S1x1024x5120 .f32 := broadcastInDim S1x1024x5120 ![] bcast_S_S1x1024x5120 main_cst_0
  let main_v5 : IVec S1x1024x5120 1 := cmpf .olt main_v3 main_v4
  let main_v6 : FVec F S8x256x512 .f32 := (extf .f32 · bitsLt_bf16_f32) main_arg8
  let main_v7 : FVec F S8x256x512 .f32 := Host.absf main_v6
  let main_cst_1 : FVec F S_ .f32 := constant S_ .f32 0x7F800000#32
  let main_v8 : FVec F S8x256x512 .f32 := broadcastInDim S8x256x512 ![] bcast_S_S8x256x512 main_cst_1
  let main_v9 : IVec S8x256x512 1 := cmpf .olt main_v7 main_v8
  (main_v2, main_v5, main_v9)
-- ==== Pre_finite_inputs2.lean ====
abbrev S8x2048x1024 : Shape := ⟨3, ![8, 2048, 1024]⟩
abbrev S32x1024x256 : Shape := ⟨3, ![32, 1024, 256]⟩
abbrev S8x2048x512 : Shape := ⟨3, ![8, 2048, 512]⟩
abbrev S1x512 : Shape := ⟨2, ![1, 512]⟩
abbrev S8x2048x3072 : Shape := ⟨3, ![8, 2048, 3072]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bitsLt_bf16_f32 : FTy.bits .bf16 < FTy.bits .f32
  bcast_S_S32x1024x256 : S_.BroadcastsInDim S32x1024x256 (![] : Fin 0 → Fin S32x1024x256.rank)
  bcast_S_S8x2048x512 : S_.BroadcastsInDim S8x2048x512 (![] : Fin 0 → Fin S8x2048x512.rank)
  bcast_S_S1x512 : S_.BroadcastsInDim S1x512 (![] : Fin 0 → Fin S1x512.rank)

variable [Facts]

def fn {F : FTy → Type} [FloatOps F] (main_arg0 : FVec F S8x2048x1024 .f32) (main_arg1 : FVec F S32x1024x256 .bf16) (main_arg2 : FVec F S8x2048x512 .f32) (main_arg3 : FVec F S1x512 .f32) (main_arg4 : FVec F S8x2048x512 .bf16) (main_arg5 : FVec F S8x2048x512 .bf16) (main_arg6 : FVec F S8x2048x3072 .bf16) (main_arg7 : FVec F S1x512x512 .f32) (main_arg8 : FVec F S1x512 .f32) (main_arg9 : FVec F S1x512x1024 .f32) (main_arg10 : FVec F S1x512x1024 .f32) (main_arg11 : FVec F S1x512x1024 .f32) (main_arg12 : FVec F S1x1024x1024 .f32) (main_arg13 : FVec F S1x1024 .f32) (main_arg14 : FVec F S1x1024x2816 .f32) (main_arg15 : FVec F S1x1024x2816 .f32) (main_arg16 : FVec F S1x2816x1024 .f32) (main_arg17 : FVec F S1024 .f32) : IVec S32x1024x256 1 × IVec S8x2048x512 1 × IVec S1x512 1 :=
  let main_v0 : FVec F S32x1024x256 .f32 := (extf .f32 · bitsLt_bf16_f32) main_arg1
  let main_v1 : FVec F S32x1024x256 .f32 := Host.absf main_v0
  let main_cst : FVec F S_ .f32 := constant S_ .f32 0x7F800000#32
  let main_v2 : FVec F S32x1024x256 .f32 := broadcastInDim S32x1024x256 ![] bcast_S_S32x1024x256 main_cst
  let main_v3 : IVec S32x1024x256 1 := cmpf .olt main_v1 main_v2
  let main_v4 : FVec F S8x2048x512 .f32 := Host.absf main_arg2
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_v7 : FVec F S1x512 .f32 := Host.absf main_arg3
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  (main_v3, main_v6, main_v9)
-- ==== Kernel.lean ====
abbrev S8x2048x1024 : Shape := ⟨3, ![8, 2048, 1024]⟩
abbrev S1x1024 : Shape := ⟨2, ![1, 1024]⟩
abbrev S1x1024x5120 : Shape := ⟨3, ![1, 1024, 5120]⟩
abbrev S1x3072 : Shape := ⟨2, ![1, 3072]⟩
abbrev S1x512 : Shape := ⟨2, ![1, 512]⟩
abbrev S1x4x128x128 : Shape := ⟨4, ![1, 4, 128, 128]⟩
abbrev S1x4x128 : Shape := ⟨3, ![1, 4, 128]⟩
abbrev S8x256x512 : Shape := ⟨3, ![8, 256, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x5120 : Shape := ⟨2, ![1, 5120]⟩
abbrev S_ : Shape := ⟨0, ![]⟩
abbrev S1024x5120 : Shape := ⟨2, ![1024, 5120]⟩
abbrev S1024 : Shape := ⟨1, ![1024]⟩
abbrev S3072 : Shape := ⟨1, ![3072]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S512x512 : Shape := ⟨2, ![512, 512]⟩
abbrev S512x1024 : Shape := ⟨2, ![512, 1024]⟩
abbrev S1024x1024 : Shape := ⟨2, ![1024, 1024]⟩
abbrev S1024x2816 : Shape := ⟨2, ![1024, 2816]⟩
abbrev S8x2048x512 : Shape := ⟨3, ![8, 2048, 512]⟩
abbrev S32x1024x256 : Shape := ⟨3, ![32, 1024, 256]⟩
abbrev S8x2048x3072 : Shape := ⟨3, ![8, 2048, 3072]⟩
abbrev S1x256x512 : Shape := ⟨3, ![1, 256, 512]⟩
abbrev S32x512 : Shape := ⟨2, ![32, 512]⟩
abbrev S32x1024 : Shape := ⟨2, ![32, 1024]⟩
abbrev S64x1024 : Shape := ⟨2, ![64, 1024]⟩
abbrev S64x2816 : Shape := ⟨2, ![64, 2816]⟩
abbrev S1x1024x512 : Shape := ⟨3, ![1, 1024, 512]⟩
abbrev S32x64x256 : Shape := ⟨3, ![32, 64, 256]⟩
abbrev S1x1024x3072 : Shape := ⟨3, ![1, 1024, 3072]⟩
abbrev S1024x512 : Shape := ⟨2, ![1024, 512]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1x1024x128 : Shape := ⟨3, ![1, 1024, 128]⟩
abbrev S8x8x2x8x512 : Shape := ⟨5, ![8, 8, 2, 8, 512]⟩
abbrev S8x1x2x8x128 : Shape := ⟨5, ![8, 1, 2, 8, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S8x8x256 : Shape := ⟨3, ![8, 8, 256]⟩
abbrev S64x256 : Shape := ⟨2, ![64, 256]⟩
abbrev S1x64x256 : Shape := ⟨3, ![1, 64, 256]⟩

abbrev nBuf : Space → Nat
  | .hbm => 73
  | .vmem => 53
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5120, .f32⟩
  | .hbm, ⟨3, _⟩ => ⟨S1x3072, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S8x256x512, .bf16⟩
  | .hbm, ⟨9, _⟩ => ⟨S8x256x512, .bf16⟩
  | .hbm, ⟨10, _⟩ => ⟨S1x512x512, .f32⟩
  | .hbm, ⟨11, _⟩ => ⟨S1x512x1024, .f32⟩
  | .hbm, ⟨12, _⟩ => ⟨S1x512x1024, .f32⟩
  | .hbm, ⟨13, _⟩ => ⟨S1x512x1024, .f32⟩
  | .hbm, ⟨14, _⟩ => ⟨S1x1024x1024, .f32⟩
  | .hbm, ⟨15, _⟩ => ⟨S1x1024x2816, .f32⟩
  | .hbm, ⟨16, _⟩ => ⟨S1x1024x2816, .f32⟩
  | .hbm, ⟨17, _⟩ => ⟨S1x5120, .i32⟩
  | .hbm, ⟨18, _⟩ => ⟨S_, .i32⟩
  | .hbm, ⟨19, _⟩ => ⟨S1x5120, .i32⟩
  | .hbm, ⟨20, _⟩ => ⟨S1x5120, .i1⟩
  | .hbm, ⟨21, _⟩ => ⟨S_, .i32⟩
  | .hbm, ⟨22, _⟩ => ⟨S1x5120, .i32⟩
  | .hbm, ⟨23, _⟩ => ⟨S1x5120, .i1⟩
  | .hbm, ⟨24, _⟩ => ⟨S1x5120, .i1⟩
  | .hbm, ⟨25, _⟩ => ⟨S_, .i32⟩
  | .hbm, ⟨26, _⟩ => ⟨S1x5120, .i32⟩
  | .hbm, ⟨27, _⟩ => ⟨S1x5120, .i1⟩
  | .hbm, ⟨28, _⟩ => ⟨S_, .i32⟩
  | .hbm, ⟨29, _⟩ => ⟨S1x5120, .i32⟩
  | .hbm, ⟨30, _⟩ => ⟨S1x5120, .i1⟩
  | .hbm, ⟨31, _⟩ => ⟨S1x5120, .i1⟩
  | .hbm, ⟨32, _⟩ => ⟨S1x5120, .i1⟩
  | .hbm, ⟨33, _⟩ => ⟨S1024x5120, .f32⟩
  | .hbm, ⟨34, _⟩ => ⟨S_, .f32⟩
  | .hbm, ⟨35, _⟩ => ⟨S_, .f32⟩
  | .hbm, ⟨36, _⟩ => ⟨S1x5120, .f32⟩
  | .hbm, ⟨37, _⟩ => ⟨S1x5120, .f32⟩
  | .hbm, ⟨38, _⟩ => ⟨S1x5120, .f32⟩
  | .hbm, ⟨39, _⟩ => ⟨S1x5120, .f32⟩
  | .hbm, ⟨40, _⟩ => ⟨S1024x5120, .f32⟩
  | .hbm, ⟨41, _⟩ => ⟨S1024x5120, .f32⟩
  | .hbm, ⟨42, _⟩ => ⟨S1024x5120, .bf16⟩
  | .hbm, ⟨43, _⟩ => ⟨S1024, .f32⟩
  | .hbm, ⟨44, _⟩ => ⟨S1x1024, .f32⟩
  | .hbm, ⟨45, _⟩ => ⟨S3072, .f32⟩
  | .hbm, ⟨46, _⟩ => ⟨S1x3072, .f32⟩
  | .hbm, ⟨47, _⟩ => ⟨S512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S4x128x128, .f32⟩
  | .hbm, ⟨52, _⟩ => ⟨S4x128, .f32⟩
  | .hbm, ⟨53, _⟩ => ⟨S128x4, .f32⟩
  | .hbm, ⟨54, _⟩ => ⟨S512x512, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S1024x1024, .f32⟩
  | .hbm, ⟨59, _⟩ => ⟨S1024x2816, .f32⟩
  | .hbm, ⟨60, _⟩ => ⟨S1024x2816, .f32⟩
  | .hbm, ⟨61, _⟩ => ⟨S8x2048x512, .f32⟩
  | .hbm, ⟨62, _⟩ => ⟨S32x1024x256, .bf16⟩
  | .hbm, ⟨63, _⟩ => ⟨S8x2048x512, .bf16⟩
  | .hbm, ⟨64, _⟩ => ⟨S8x2048x512, .bf16⟩
  | .hbm, ⟨65, _⟩ => ⟨S8x2048x3072, .bf16⟩
  | .hbm, ⟨66, _⟩ => ⟨S512x512, .bf16⟩
  | .hbm, ⟨67, _⟩ => ⟨S512x1024, .bf16⟩
  | .hbm, ⟨68, _⟩ => ⟨S512x1024, .bf16⟩
  | .hbm, ⟨69, _⟩ => ⟨S512x1024, .bf16⟩
  | .hbm, ⟨70, _⟩ => ⟨S1024x1024, .bf16⟩
  | .hbm, ⟨71, _⟩ => ⟨S1024x2816, .bf16⟩
  | .hbm, ⟨72, _⟩ => ⟨S1024x2816, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5120, .bf16⟩
  | .local _ .vmem, ⟨4, _⟩ => ⟨S1x3072, .f32⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S32x512, .f32⟩
  | .local _ .vmem, ⟨14, _⟩ => ⟨S32x512, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S64x1024, .f32⟩
  | .local _ .vmem, ⟨22, _⟩ => ⟨S64x1024, .f32⟩
  | .local _ .vmem, ⟨23, _⟩ => ⟨S64x2816, .f32⟩
  | .local _ .vmem, ⟨24, _⟩ => ⟨S64x2816, .f32⟩
  | .local _ .vmem, ⟨25, _⟩ => ⟨S64x2816, .f32⟩
  | .local _ .vmem, ⟨26, _⟩ => ⟨S64x2816, .f32⟩
  | .local _ .vmem, ⟨27, _⟩ => ⟨S1x1024x512, .f32⟩
  | .local _ .vmem, ⟨28, _⟩ => ⟨S1x1024x512, .f32⟩
  | .local _ .vmem, ⟨29, _⟩ => ⟨S32x64x256, .bf16⟩
  | .local _ .vmem, ⟨30, _⟩ => ⟨S32x64x256, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x3072, .bf16⟩
  | .local _ .vmem, ⟨36, _⟩ => ⟨S1x1024x3072, .bf16⟩
  | .local _ .vmem, ⟨37, _⟩ => ⟨S32x512, .bf16⟩
  | .local _ .vmem, ⟨38, _⟩ => ⟨S32x512, .bf16⟩
  | .local _ .vmem, ⟨39, _⟩ => ⟨S32x1024, .bf16⟩
  | .local _ .vmem, ⟨40, _⟩ => ⟨S32x1024, .bf16⟩
  | .local _ .vmem, ⟨41, _⟩ => ⟨S32x1024, .bf16⟩
  | .local _ .vmem, ⟨42, _⟩ => ⟨S32x1024, .bf16⟩
  | .local _ .vmem, ⟨43, _⟩ => ⟨S32x1024, .bf16⟩
  | .local _ .vmem, ⟨44, _⟩ => ⟨S32x1024, .bf16⟩
  | .local _ .vmem, ⟨45, _⟩ => ⟨S64x1024, .bf16⟩
  | .local _ .vmem, ⟨46, _⟩ => ⟨S64x1024, .bf16⟩
  | .local _ .vmem, ⟨47, _⟩ => ⟨S64x2816, .bf16⟩
  | .local _ .vmem, ⟨48, _⟩ => ⟨S64x2816, .bf16⟩
  | .local _ .vmem, ⟨49, _⟩ => ⟨S64x2816, .bf16⟩
  | .local _ .vmem, ⟨50, _⟩ => ⟨S64x2816, .bf16⟩
  | .local _ .vmem, ⟨51, _⟩ => ⟨S1024x512, .f32⟩
  | .local _ .vmem, ⟨52, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v36_3 : Ref sig .tc := ⟨.hbm, 64, rfl⟩
abbrev main_v36_4 : Ref sig .tc := ⟨.hbm, 65, rfl⟩
abbrev main_v36_5 : Ref sig .tc := ⟨.hbm, 66, rfl⟩
abbrev main_v36_6 : Ref sig .tc := ⟨.hbm, 67, rfl⟩
abbrev main_v36_7 : Ref sig .tc := ⟨.hbm, 68, rfl⟩
abbrev main_v36_8 : Ref sig .tc := ⟨.hbm, 69, rfl⟩
abbrev main_v36_9 : Ref sig .tc := ⟨.hbm, 70, rfl⟩
abbrev main_v36_10 : Ref sig .tc := ⟨.hbm, 71, rfl⟩
abbrev main_v36_11 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg27_1 : Ref sig .tc := ⟨.vmem, 48, rfl⟩
abbrev cc0_stg28_0 : Ref sig .tc := ⟨.vmem, 49, rfl⟩
abbrev cc0_stg28_1 : Ref sig .tc := ⟨.vmem, 50, rfl⟩
abbrev cc0_scratch0 : Ref sig .tc := ⟨.vmem, 51, rfl⟩
abbrev cc0_scratch1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48
abbrev cc0_sem28_0 : DmaSem sig := 49
abbrev cc0_sem28_1 : DmaSem sig := 50

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_27 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_28 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x64x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x3072 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S32x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S32x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S32x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S32x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S64x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S64x2816 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S64x2816 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== KernelIdeal.lean ====
variable {F : FTy → Type} [FloatOps F] [Named F]
def κ : String → Option EReal := fun
  | "exp2_scale" => some (((11863283 / 134217728) * (Real.log 2)⁻¹ : ℝ) : EReal)
  | "gelu_half_3" => some ((80338380498831 / 281474976710656 : ℝ) : EReal)
  | _ => none
-- ==== ReferenceIdeal.lean ====
abbrev S8x2048x1024 : Shape := ⟨3, ![8, 2048, 1024]⟩
abbrev S1x1024 : Shape := ⟨2, ![1, 1024]⟩
abbrev S1x1024x5120 : Shape := ⟨3, ![1, 1024, 5120]⟩
abbrev S1x3072 : Shape := ⟨2, ![1, 3072]⟩
abbrev S1x512 : Shape := ⟨2, ![1, 512]⟩
abbrev S1x4x128x128 : Shape := ⟨4, ![1, 4, 128, 128]⟩
abbrev S1x4x128 : Shape := ⟨3, ![1, 4, 128]⟩
abbrev S8x256x512 : Shape := ⟨3, ![8, 256, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5120 : Shape := ⟨2, ![1024, 5120]⟩
abbrev S8x2048x5120 : Shape := ⟨3, ![8, 2048, 5120]⟩
abbrev S8x2048x512 : Shape := ⟨3, ![8, 2048, 512]⟩
abbrev S8x2048x3072 : Shape := ⟨3, ![8, 2048, 3072]⟩
abbrev S8x128x16x32x16 : Shape := ⟨5, ![8, 128, 16, 32, 16]⟩
abbrev S32x8x128x16x16 : Shape := ⟨5, ![32, 8, 128, 16, 16]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S8x16x128x4x128 : Shape := ⟨5, ![8, 16, 128, 4, 128]⟩
abbrev S128x128 : Shape := ⟨2, ![128, 128]⟩
abbrev S1x128x128 : Shape := ⟨3, ![1, 128, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S3072 : Shape := ⟨1, ![3072]⟩
abbrev S1x1x3072 : Shape := ⟨3, ![1, 1, 3072]⟩
abbrev S32x1024x256 : Shape := ⟨3, ![32, 1024, 256]⟩
abbrev S512x512 : Shape := ⟨2, ![512, 512]⟩
abbrev S512x1024 : Shape := ⟨2, ![512, 1024]⟩
abbrev S1024x1024 : Shape := ⟨2, ![1024, 1024]⟩
abbrev S1024x2816 : Shape := ⟨2, ![1024, 2816]⟩

abbrev nBuf : Space → Nat
  | .hbm => 190
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x5120, .f32⟩
  | 3 => ⟨S1x3072, .f32⟩
  | 4 => ⟨S1x512, .f32⟩
  | 5 => ⟨S1x512, .f32⟩
  | 6 => ⟨S1x4x128x128, .f32⟩
  | 7 => ⟨S1x4x128, .f32⟩
  | 8 => ⟨S8x256x512, .bf16⟩
  | 9 => ⟨S8x256x512, .bf16⟩
  | 10 => ⟨S1x512x512, .f32⟩
  | 11 => ⟨S1x512x1024, .f32⟩
  | 12 => ⟨S1x512x1024, .f32⟩
  | 13 => ⟨S1x512x1024, .f32⟩
  | 14 => ⟨S1x1024x1024, .f32⟩
  | 15 => ⟨S1x1024x2816, .f32⟩
  | 16 => ⟨S1x1024x2816, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S1024x5120, .f32⟩
  | 35 => ⟨S8x2048x5120, .f32⟩
  | 36 => ⟨S8x2048x512, .f32⟩
  | 37 => ⟨S8x2048x512, .f32⟩
  | 38 => ⟨S8x2048x512, .f32⟩
  | 39 => ⟨S8x2048x512, .f32⟩
  | 40 => ⟨S8x2048x3072, .f32⟩
  | 41 => ⟨S8x128x16x32x16, .f32⟩
  | 42 => ⟨S32x8x128x16x16, .f32⟩
  | 43 => ⟨S512, .f32⟩
  | 44 => ⟨S512, .f32⟩
  | 45 => ⟨S4x128x128, .f32⟩
  | 46 => ⟨S4x128, .f32⟩
  | 47 => ⟨S8x2048x512, .f32⟩
  | 48 => ⟨S8x2048x512, .f32⟩
  | 49 => ⟨S_, .f32⟩
  | 50 => ⟨S8x2048x512, .f32⟩
  | 51 => ⟨S8x2048x512, .f32⟩
  | 52 => ⟨S8x2048x512, .f32⟩
  | 53 => ⟨S_, .f32⟩
  | 54 => ⟨S8x2048x512, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S_, .f32⟩
  | 61 => ⟨S8x2048x512, .f32⟩
  | 62 => ⟨S8x2048x512, .f32⟩
  | 63 => ⟨S8x2048x512, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S8x2048x512, .f32⟩
  | 70 => ⟨S_, .f32⟩
  | 71 => ⟨S8x2048x512, .f32⟩
  | 72 => ⟨S8x2048x512, .f32⟩
  | 73 => ⟨S8x2048x512, .f32⟩
  | 74 => ⟨S_, .f32⟩
  | 75 => ⟨S8x2048x512, .f32⟩
  | 76 => ⟨S8x2048x512, .f32⟩
  | 77 => ⟨S_, .f32⟩
  | 78 => ⟨S8x2048x512, .f32⟩
  | 79 => ⟨S8x2048x512, .f32⟩
  | 80 => ⟨S8x2048x512, .f32⟩
  | 81 => ⟨S_, .f32⟩
  | 82 => ⟨S8x2048, .f32⟩
  | 83 => ⟨S8x2048x1, .f32⟩
  | 84 => ⟨S_, .f32⟩
  | 85 => ⟨S8x2048x1, .f32⟩
  | 86 => ⟨S8x2048x1, .f32⟩
  | 87 => ⟨S8x2048x512, .f32⟩
  | 88 => ⟨S8x2048x512, .f32⟩
  | 89 => ⟨S8x2048x512, .f32⟩
  | 90 => ⟨S_, .f32⟩
  | 91 => ⟨S8x2048, .f32⟩
  | 92 => ⟨S8x2048x1, .f32⟩
  | 93 => ⟨S_, .f32⟩
  | 94 => ⟨S8x2048x1, .f32⟩
  | 95 => ⟨S8x2048x1, .f32⟩
  | 96 => ⟨S8x2048x512, .f32⟩
  | 97 => ⟨S8x2048x512, .f32⟩
  | 98 => ⟨S_, .f32⟩
  | 99 => ⟨S8x2048x1, .f32⟩
  | 100 => ⟨S8x2048x1, .f32⟩
  | 101 => ⟨S8x2048x1, .f32⟩
  | 102 => ⟨S8x2048x512, .f32⟩
  | 103 => ⟨S8x2048x512, .f32⟩
  | 104 => ⟨S1x1x512, .f32⟩
  | 105 => ⟨S8x2048x512, .f32⟩
  | 106 => ⟨S8x2048x512, .f32⟩
  | 107 => ⟨S1x1x512, .f32⟩
  | 108 => ⟨S8x2048x512, .f32⟩
  | 109 => ⟨S8x2048x512, .f32⟩
  | 110 => ⟨S8x16x128x4x128, .f32⟩
  | 111 => ⟨S_, .f32⟩
  | 112 => ⟨S128x128, .f32⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .f32⟩
  | 120 => ⟨S128x128, .f32⟩
  | 121 => ⟨S128x128, .f32⟩
  | 122 => ⟨S1x128x128, .f32⟩
  | 123 => ⟨S4x128x128, .f32⟩
  | 124 => ⟨S4x128x128, .f32⟩
  | 125 => ⟨S4x8x16x128x128, .f32⟩
  | 126 => ⟨S8x16x128x4x128, .f32⟩
  | 127 => ⟨S128x4, .f32⟩
  | _ => ⟨S8x2048x1024, .f32⟩

abbrev hbmTy0_1 (i : Nat) : BufTy := match i % 128 with
  | 0 => ⟨S1x1x128x4x1, .f32⟩
  | 1 => ⟨S8x16x128x4x128, .f32⟩
  | 2 => ⟨S8x16x128x4x128, .f32⟩
  | 3 => ⟨S8x2048x512, .f32⟩
  | 4 => ⟨S8x2048x512, .f32⟩
  | 5 => ⟨S8x256x512, .f32⟩
  | 6 => ⟨S8x256x512, .f32⟩
  | 7 => ⟨S8x2048x4x128, .f32⟩
  | 8 => ⟨S8x256x4x128, .f32⟩
  | 9 => ⟨S8x256x4x128, .f32⟩
  | 10 => ⟨S8x4x2048x256, .f32⟩
  | 11 => ⟨S_, .f32⟩
  | 12 => ⟨S8x4x2048x256, .f32⟩
  | 13 => ⟨S8x4x2048x256, .f32⟩
  | 14 => ⟨S_, .f32⟩
  | 15 => ⟨S8x4x2048, .f32⟩
  | 16 => ⟨S_, .f32⟩
  | 17 => ⟨S8x4x2048, .f32⟩
  | 18 => ⟨S8x4x2048, .f32⟩
  | 19 => ⟨S8x4x2048x1, .f32⟩
  | 20 => ⟨S8x4x2048x256, .f32⟩
  | 21 => ⟨S8x4x2048x256, .f32⟩
  | 22 => ⟨S8x4x2048x256, .f32⟩
  | 23 => ⟨S_, .f32⟩
  | 24 => ⟨S8x4x2048, .f32⟩
  | 25 => ⟨S8x4x2048x1, .f32⟩
  | 26 => ⟨S8x4x2048x256, .f32⟩
  | 27 => ⟨S8x4x2048x256, .f32⟩
  | 28 => ⟨S8x4x128x2048, .f32⟩
  | 29 => ⟨S8x2048x4x128, .f32⟩
  | 30 => ⟨S8x2048x512, .f32⟩
  | 31 => ⟨S3072, .f32⟩
  | 32 => ⟨S1x1x3072, .f32⟩
  | 33 => ⟨S8x2048x3072, .f32⟩
  | 34 => ⟨S8x2048x3072, .f32⟩
  | 35 => ⟨S8x2048x3072, .f32⟩
  | 36 => ⟨S8x2048x3072, .f32⟩
  | 37 => ⟨S_, .f32⟩
  | 38 => ⟨S8x2048x3072, .f32⟩
  | 39 => ⟨S8x2048x3072, .f32⟩
  | 40 => ⟨S_, .f32⟩
  | 41 => ⟨S8x2048x3072, .f32⟩
  | 42 => ⟨S8x2048x3072, .f32⟩
  | 43 => ⟨S32x1024x256, .f32⟩
  | 44 => ⟨S32x1024x256, .bf16⟩
  | 45 => ⟨S8x2048x512, .bf16⟩
  | 46 => ⟨S8x2048x512, .bf16⟩
  | 47 => ⟨S8x2048x3072, .bf16⟩
  | 48 => ⟨S512x512, .f32⟩
  | 49 => ⟨S512x512, .bf16⟩
  | 50 => ⟨S512x1024, .f32⟩
  | 51 => ⟨S512x1024, .bf16⟩
  | 52 => ⟨S512x1024, .f32⟩
  | 53 => ⟨S512x1024, .bf16⟩
  | 54 => ⟨S512x1024, .f32⟩
  | 55 => ⟨S512x1024, .bf16⟩
  | 56 => ⟨S1024x1024, .f32⟩
  | 57 => ⟨S1024x1024, .bf16⟩
  | 58 => ⟨S1024x2816, .f32⟩
  | 59 => ⟨S1024x2816, .bf16⟩
  | 60 => ⟨S1024x2816, .f32⟩
  | 61 => ⟨S1024x2816, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_cst : Ref sig .tc := ⟨.hbm, 119, rfl⟩
abbrev main_call0_v5 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_cst_18 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_19 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_20 : Ref sig .tc := ⟨.hbm, 165, rfl⟩
abbrev main_v119 : Ref sig .tc := ⟨.hbm, 166, rfl⟩
abbrev main_v120 : Ref sig .tc := ⟨.hbm, 167, rfl⟩
abbrev main_cst_21 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩

abbrev nD : Nat := 1
abbrev τ : Topo := Topo.v7x

variable {F : FTy → Type} [FloatOps F]
-- ==== Kernel2.lean ====
abbrev S8x2048x1024 : Shape := ⟨3, ![8, 2048, 1024]⟩
abbrev S32x1024x256 : Shape := ⟨3, ![32, 1024, 256]⟩
abbrev S8x2048x512 : Shape := ⟨3, ![8, 2048, 512]⟩
abbrev S1x512 : Shape := ⟨2, ![1, 512]⟩
abbrev S8x2048x3072 : Shape := ⟨3, ![8, 2048, 3072]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x512 : Shape := ⟨2, ![512, 512]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S512 : Shape := ⟨1, ![512]⟩
abbrev S16384x3072 : Shape := ⟨2, ![16384, 3072]⟩
abbrev S32x32x256 : Shape := ⟨3, ![32, 32, 256]⟩
abbrev S512x3072 : Shape := ⟨2, ![512, 3072]⟩
abbrev S512x2816 : Shape := ⟨2, ![512, 2816]⟩
abbrev S1x32x256 : Shape := ⟨3, ![1, 32, 256]⟩
abbrev S32x256 : Shape := ⟨2, ![32, 256]⟩
abbrev S4x8x256 : Shape := ⟨3, ![4, 8, 256]⟩
abbrev S4x8x128 : Shape := ⟨3, ![4, 8, 128]⟩
abbrev S4x1x8x128 : Shape := ⟨4, ![4, 1, 8, 128]⟩
abbrev S4x2x8x128 : Shape := ⟨4, ![4, 2, 8, 128]⟩
abbrev S4x1x2x8x128 : Shape := ⟨5, ![4, 1, 2, 8, 128]⟩
abbrev S4x8x2x8x128 : Shape := ⟨5, ![4, 8, 2, 8, 128]⟩
abbrev S512x128 : Shape := ⟨2, ![512, 128]⟩
abbrev S512x1 : Shape := ⟨2, ![512, 1]⟩
abbrev S1024x256 : Shape := ⟨2, ![1024, 256]⟩
abbrev S512x256 : Shape := ⟨2, ![512, 256]⟩

abbrev nBuf : Space → Nat
  | .hbm => 47
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S32x1024x256, .bf16⟩
  | .hbm, ⟨2, _⟩ => ⟨S8x2048x512, .f32⟩
  | .hbm, ⟨3, _⟩ => ⟨S1x512, .f32⟩
  | .hbm, ⟨4, _⟩ => ⟨S8x2048x512, .bf16⟩
  | .hbm, ⟨5, _⟩ => ⟨S8x2048x512, .bf16⟩
  | .hbm, ⟨6, _⟩ => ⟨S8x2048x3072, .bf16⟩
  | .hbm, ⟨7, _⟩ => ⟨S1x512x512, .f32⟩
  | .hbm, ⟨8, _⟩ => ⟨S1x512, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x2816, .f32⟩
  | .hbm, ⟨15, _⟩ => ⟨S1x1024x2816, .f32⟩
  | .hbm, ⟨16, _⟩ => ⟨S1x2816x1024, .f32⟩
  | .hbm, ⟨17, _⟩ => ⟨S1024, .f32⟩
  | .hbm, ⟨18, _⟩ => ⟨S512x512, .f32⟩
  | .hbm, ⟨19, _⟩ => ⟨S512x512, .bf16⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024x2816, .f32⟩
  | .hbm, ⟨29, _⟩ => ⟨S1024x2816, .bf16⟩
  | .hbm, ⟨30, _⟩ => ⟨S1024x2816, .f32⟩
  | .hbm, ⟨31, _⟩ => ⟨S1024x2816, .bf16⟩
  | .hbm, ⟨32, _⟩ => ⟨S2816x1024, .f32⟩
  | .hbm, ⟨33, _⟩ => ⟨S2816x1024, .bf16⟩
  | .hbm, ⟨34, _⟩ => ⟨S16384x1024, .f32⟩
  | .hbm, ⟨35, _⟩ => ⟨S16384x512, .f32⟩
  | .hbm, ⟨36, _⟩ => ⟨S512, .f32⟩
  | .hbm, ⟨37, _⟩ => ⟨S1x512, .f32⟩
  | .hbm, ⟨38, _⟩ => ⟨S16384x512, .bf16⟩
  | .hbm, ⟨39, _⟩ => ⟨S16384x512, .bf16⟩
  | .hbm, ⟨40, _⟩ => ⟨S16384x3072, .bf16⟩
  | .hbm, ⟨41, _⟩ => ⟨S512, .f32⟩
  | .hbm, ⟨42, _⟩ => ⟨S1x512, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S32x32x256, .bf16⟩
  | .local _ .vmem, ⟨3, _⟩ => ⟨S512x512, .f32⟩
  | .local _ .vmem, ⟨4, _⟩ => ⟨S32x32x256, .bf16⟩
  | .local _ .vmem, ⟨5, _⟩ => ⟨S32x32x256, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x3072, .bf16⟩
  | .local _ .vmem, ⟨14, _⟩ => ⟨S512x3072, .bf16⟩
  | .local _ .vmem, ⟨15, _⟩ => ⟨S512x512, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x512, .f32⟩
  | .local _ .vmem, ⟨29, _⟩ => ⟨S512x512, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .eq arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel2Ideal.lean ====
variable {F : FTy → Type} [FloatOps F] [Named F]
def κ : String → Option EReal := fun
  | "gelu_3" => some ((80338380498831 / 2251799813685248 : ℝ) : EReal)
  | _ => none
-- ==== Reference2Ideal.lean ====
abbrev S8x2048x1024 : Shape := ⟨3, ![8, 2048, 1024]⟩
abbrev S32x1024x256 : Shape := ⟨3, ![32, 1024, 256]⟩
abbrev S8x2048x512 : Shape := ⟨3, ![8, 2048, 512]⟩
abbrev S1x512 : Shape := ⟨2, ![1, 512]⟩
abbrev S8x2048x3072 : Shape := ⟨3, ![8, 2048, 3072]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32x8x128x16x16 : Shape := ⟨5, ![32, 8, 128, 16, 16]⟩
abbrev S8x128x16x32x16 : Shape := ⟨5, ![8, 128, 16, 32, 16]⟩
abbrev S512 : Shape := ⟨1, ![512]⟩
abbrev S1x1x512 : Shape := ⟨3, ![1, 1, 512]⟩
abbrev S_ : Shape := ⟨0, ![]⟩
abbrev S512x512 : Shape := ⟨2, ![512, 512]⟩
abbrev S512x1024 : Shape := ⟨2, ![512, 1024]⟩
abbrev S8x2048x3x1024 : Shape := ⟨4, ![8, 2048, 3, 1024]⟩
abbrev S8x2048x1x1024 : Shape := ⟨4, ![8, 2048, 1, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 134
  | .vmem => 0
  | .smem => 0
  | _ => 0

abbrev hbmTy0_0 (i : Nat) : BufTy := match i % 128 with
  | 0 => ⟨S8x2048x1024, .f32⟩
  | 1 => ⟨S32x1024x256, .bf16⟩
  | 2 => ⟨S8x2048x512, .f32⟩
  | 3 => ⟨S1x512, .f32⟩
  | 4 => ⟨S8x2048x512, .bf16⟩
  | 5 => ⟨S8x2048x512, .bf16⟩
  | 6 => ⟨S8x2048x3072, .bf16⟩
  | 7 => ⟨S1x512x512, .f32⟩
  | 8 => ⟨S1x512, .f32⟩
  | 9 => ⟨S1x512x1024, .f32⟩
  | 10 => ⟨S1x512x1024, .f32⟩
  | 11 => ⟨S1x512x1024, .f32⟩
  | 12 => ⟨S1x1024x1024, .f32⟩
  | 13 => ⟨S1x1024, .f32⟩
  | 14 => ⟨S1x1024x2816, .f32⟩
  | 15 => ⟨S1x1024x2816, .f32⟩
  | 16 => ⟨S1x2816x1024, .f32⟩
  | 17 => ⟨S1024, .f32⟩
  | 18 => ⟨S32x1024x256, .f32⟩
  | 19 => ⟨S32x8x128x16x16, .f32⟩
  | 20 => ⟨S8x128x16x32x16, .f32⟩
  | 21 => ⟨S8x2048x512, .f32⟩
  | 22 => ⟨S512, .f32⟩
  | 23 => ⟨S1x1x512, .f32⟩
  | 24 => ⟨S8x2048x512, .f32⟩
  | 25 => ⟨S8x2048x512, .f32⟩
  | 26 => ⟨S8x2048x512, .f32⟩
  | 27 => ⟨S8x2048x512, .f32⟩
  | 28 => ⟨S8x2048x512, .f32⟩
  | 29 => ⟨S_, .f32⟩
  | 30 => ⟨S8x2048x512, .f32⟩
  | 31 => ⟨S8x2048x512, .f32⟩
  | 32 => ⟨S8x2048x512, .f32⟩
  | 33 => ⟨S_, .f32⟩
  | 34 => ⟨S8x2048x512, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S_, .f32⟩
  | 41 => ⟨S8x2048x512, .f32⟩
  | 42 => ⟨S8x2048x512, .f32⟩
  | 43 => ⟨S8x2048x512, .f32⟩
  | 44 => ⟨S512x512, .f32⟩
  | 45 => ⟨S8x2048x512, .f32⟩
  | 46 => ⟨S512, .f32⟩
  | 47 => ⟨S1x1x512, .f32⟩
  | 48 => ⟨S8x2048x512, .f32⟩
  | 49 => ⟨S8x2048x512, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S_, .f32⟩
  | 56 => ⟨S8x2048x512, .f32⟩
  | 57 => ⟨S8x2048x512, .f32⟩
  | 58 => ⟨S8x2048x512, .f32⟩
  | 59 => ⟨S512x1024, .f32⟩
  | 60 => ⟨S8x2048x1024, .f32⟩
  | 61 => ⟨S8x2048x512, .f32⟩
  | 62 => ⟨S512x1024, .f32⟩
  | 63 => ⟨S8x2048x1024, .f32⟩
  | 64 => ⟨S8x2048x512, .f32⟩
  | 65 => ⟨S512x1024, .f32⟩
  | 66 => ⟨S8x2048x1024, .f32⟩
  | 67 => ⟨S8x2048x3072, .f32⟩
  | 68 => ⟨S8x2048x3x1024, .f32⟩
  | 69 => ⟨S8x2048x1x1024, .f32⟩
  | 70 => ⟨S8x2048x1024, .f32⟩
  | 71 => ⟨S8x2048x1024, .f32⟩
  | 72 => ⟨S8x2048x1x1024, .f32⟩
  | 73 => ⟨S8x2048x1024, .f32⟩
  | 74 => ⟨S8x2048x1024, .f32⟩
  | 75 => ⟨S8x2048x1024, .f32⟩
  | 76 => ⟨S8x2048x1x1024, .f32⟩
  | 77 => ⟨S8x2048x1024, .f32⟩
  | 78 => ⟨S8x2048x1024, .f32⟩
  | 79 => ⟨S8x2048x1024, .f32⟩
  | 80 => ⟨S1024x1024, .f32⟩
  | 81 => ⟨S8x2048x1024, .f32⟩
  | 82 => ⟨S8x2048x1024, .f32⟩
  | 83 => ⟨S1024, .f32⟩
  | 84 => ⟨S8x2048x1024, .f32⟩
  | 85 => ⟨S_, .f32⟩
  | 86 => ⟨S8x2048, .f32⟩
  | 87 => ⟨S8x2048x1, .f32⟩
  | 88 => ⟨S_, .f32⟩
  | 89 => ⟨S8x2048x1, .f32⟩
  | 90 => ⟨S8x2048x1, .f32⟩
  | 91 => ⟨S_, .f32⟩
  | 92 => ⟨S8x2048x1, .f32⟩
  | 93 => ⟨S8x2048x1, .f32⟩
  | 94 => ⟨S8x2048x1, .f32⟩
  | 95 => ⟨S8x2048x1024, .f32⟩
  | 96 => ⟨S8x2048x1024, .f32⟩
  | 97 => ⟨S1x1x1024, .f32⟩
  | 98 => ⟨S8x2048x1024, .f32⟩
  | 99 => ⟨S8x2048x1024, .f32⟩
  | 100 => ⟨S1024x2816, .f32⟩
  | 101 => ⟨S8x2048x2816, .f32⟩
  | 102 => ⟨S8x2048x2816, .f32⟩
  | 103 => ⟨S8x2048x2816, .f32⟩
  | 104 => ⟨S_, .f32⟩
  | 105 => ⟨S8x2048x2816, .f32⟩
  | 106 => ⟨S8x2048x2816, .f32⟩
  | 107 => ⟨S_, .f32⟩
  | 108 => ⟨S8x2048x2816, .f32⟩
  | 109 => ⟨S8x2048x2816, .f32⟩
  | 110 => ⟨S8x2048x2816, .f32⟩
  | 111 => ⟨S1024x2816, .f32⟩
  | 112 => ⟨S8x2048x2816, .f32⟩
  | 113 => ⟨S8x2048x2816, .f32⟩
  | 114 => ⟨S2816x1024, .f32⟩
  | 115 => ⟨S8x2048x1024, .f32⟩
  | 116 => ⟨S8x2048x1024, .f32⟩
  | 117 => ⟨S8x2048x1024, .f32⟩
  | 118 => ⟨S_, .f32⟩
  | 119 => ⟨S8x2048, .f32⟩
  | 120 => ⟨S8x2048x1, .f32⟩
  | 121 => ⟨S_, .f32⟩
  | 122 => ⟨S8x2048x1, .f32⟩
  | 123 => ⟨S8x2048x1, .f32⟩
  | 124 => ⟨S_, .f32⟩
  | 125 => ⟨S8x2048x1, .f32⟩
  | 126 => ⟨S8x2048x1, .f32⟩
  | 127 => ⟨S8x2048x1, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1x1024, .f32⟩
  | 3 => ⟨S8x2048x1024, .f32⟩
  | 4 => ⟨S8x2048x1024, .f32⟩
  | 5 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_5 : Ref sig .tc := ⟨.hbm, 85, rfl⟩
abbrev main_v61 : Ref sig .tc := ⟨.hbm, 86, rfl⟩
abbrev main_v62 : Ref sig .tc := ⟨.hbm, 87, rfl⟩
abbrev main_cst_6 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_8 : Ref sig .tc := ⟨.hbm, 118, rfl⟩
abbrev main_v83 : Ref sig .tc := ⟨.hbm, 119, rfl⟩
abbrev main_v84 : Ref sig .tc := ⟨.hbm, 120, rfl⟩
abbrev main_cst_9 : Ref sig .tc := ⟨.hbm, 121, rfl⟩
abbrev main_v85 : Ref sig .tc := ⟨.hbm, 122, rfl⟩
abbrev main_v86 : Ref sig .tc := ⟨.hbm, 123, rfl⟩
abbrev main_cst_10 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]
-- ==== Proof.Held.lean ====
/-
The frames of the four programs and of the two references, and the named constants: every claim but the two value claims.
-/
module

public import proofs.«01_k».proof.Defs
public import proofs.«01_k».proof.Proof.Gen.Own.Kernel.Frame
public import proofs.«01_k».proof.Proof.Gen.Own.KernelIdeal.Frame
public import proofs.«01_k».proof.Proof.Gen.Own.Kernel2.Frame
public import proofs.«01_k».proof.Proof.Gen.Own.Kernel2Ideal.Frame
public import proofs.«01_k».proof.Proof.Gen.ReferenceIdeal.Run
public import proofs.«01_k».proof.Proof.Gen.Reference2Ideal.Run
public import Idealize.ShloMosaic.Adequacy
public import Idealize.ShloMosaic.Init
public import Idealize.ShloMosaic.Lib.Claim

@[expose] public section

noncomputable section

namespace Cert.Held

open Idealize.ShloMosaic Idealize.SL.Sem

theorem p : Cert.quiescent_Kernel := fun m ρ _ => Cert.Kernel.Gen.frame m ρ
theorem pi : Cert.quiescent_KernelIdeal := fun m ρ _ => Cert.KernelIdeal.Gen.frame m ρ
theorem p2 : Cert.quiescent_Kernel2 := fun m ρ _ => Cert.Kernel2.Gen.frame m ρ
theorem p2i : Cert.quiescent_Kernel2Ideal := fun m ρ _ => Cert.Kernel2Ideal.Gen.frame m ρ

theorem ri : Cert.quiescent_ReferenceIdeal := fun m ρ _ =>
  (θ_run Cert.ReferenceIdeal.defs _ _).mono (fun r h => ⟨fun c => by
      have := h c
      simp only [this, and_self, true_and], sem_eq_zero_of_no_sems (by decide) r.2⟩)
    (Cert.ReferenceIdeal.Value.run (F := Ideal) m ρ)

theorem r2i : Cert.quiescent_Reference2Ideal := fun m ρ _ =>
  (θ_run Cert.Reference2Ideal.defs _ _).mono (fun r h => ⟨fun c => by
      have := h c
      simp only [this, and_self, true_and], sem_eq_zero_of_no_sems (by decide) r.2⟩)
    (Cert.Reference2Ideal.Value.run (F := Ideal) m ρ)

theorem preserves : Cert.preserves_Kernel_KernelIdeal :=
  ⟨IdealRules.named_const.statement Cert.KernelIdeal.κ "gelu_half_3" .f32 0x3E922279#32
      ((80338380498831 / 281474976710656 : ℝ) : EReal) rfl,
    IdealRules.named_const.statement Cert.KernelIdeal.κ "exp2_scale" .f32 0x3E0293EE#32
      (((11863283 / 134217728) * (Real.log 2)⁻¹ : ℝ) : EReal) rfl⟩

theorem preserves2 : Cert.preserves_Kernel2_Kernel2Ideal :=
  IdealRules.named_const.statement Cert.Kernel2Ideal.κ "gelu_3" .f32 0x3D122279#32
    ((80338380498831 / 2251799813685248 : ℝ) : EReal) rfl

end Cert.Held

end
-- ==== Proof.Arith.lean ====
/- Arithmetic of the extended reals that the two claims rest on: the float words the programs spell, multiplication by a
   nonnegative real through a sum, and the three places where the kernels write a formula of the reference differently
   (GELU from a halved argument, the logistic function from tanh, the softmax from powers of two with the division last). -/
module

public import Idealize.ShloMosaic.PureOps.Ideal
public import Idealize.ShloMosaic.PureOps.Ideal.Laws

@[expose] public section

noncomputable section

namespace Cert.Arith

open Idealize.ShloMosaic

/-! ## The words -/

/-- The reference's word of `sqrt (2 / pi)`. -/
def c1 : ℝ := 6693141 / 8388608
/-- The reference's word of `0.044715`. -/
def c3 : ℝ := 12003091 / 268435456
/-- The reference's word of `1 / sqrt 128`. -/
def sw : ℝ := 11863283 / 134217728
/-- The word of `1e-6` under every root of a mean of squares. -/
def eps : ℝ := 8796093 / 8796093022208

theorem w_half : Ideal.ofBits .f32 0x3F000000#32 = ((1 / 2 : ℝ) : EReal) := by
  simp [Ideal.ofBits, Ideal.ieee, -EReal.coe_mul]; norm_num
theorem w_one : Ideal.ofBits .f32 0x3F800000#32 = 1 := by
  simp [Ideal.ofBits, Ideal.ieee, -EReal.coe_mul]; norm_num
theorem w_c1 : Ideal.ofBits .f32 0x3F4C422A#32 = (c1 : EReal) := by
  simp [Ideal.ofBits, Ideal.ieee, -EReal.coe_mul, c1]; norm_num
theorem w_2c1 : Ideal.ofBits .f32 0x3FCC422A#32 = ((2 * c1 : ℝ) : EReal) := by
  simp [Ideal.ofBits, Ideal.ieee, -EReal.coe_mul, c1]; norm_num
theorem w_c3 : Ideal.ofBits .f32 0x3D372713#32 = (c3 : EReal) := by
  simp [Ideal.ofBits, Ideal.ieee, -EReal.coe_mul, c3]; norm_num
theorem w_sw : Ideal.ofBits .f32 0x3DB504F3#32 = (sw : EReal) := by
  simp [Ideal.ofBits, Ideal.ieee, -EReal.coe_mul, sw]; norm_num
theorem w_eps : Ideal.ofBits .f32 0x358637BD#32 = (eps : EReal) := by
  simp [Ideal.ofBits, Ideal.ieee, -EReal.coe_mul, eps]; norm_num
theorem w_1024 : Ideal.ofBits .f32 0x44800000#32 = ((1024 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_ninf : Ideal.ofBits .f32 0xFF800000#32 = ⊥ := by
  simp [Ideal.ofBits, Ideal.ieee, -EReal.coe_mul]
theorem w_inf : Ideal.ofBits .f32 0x7F800000#32 = ⊤ := by
  simp [Ideal.ofBits, Ideal.ieee, -EReal.coe_mul]

/-! ## Sums -/

/-- A nonnegative real goes through a sum of two extended reals. -/
theorem mul_add (r : ℝ) (h : 0 ≤ r) (a b : EReal) : (r : EReal) * (a + b) = r * a + r * b :=
  EReal.left_distrib_of_nonneg_of_ne_top (by exact_mod_cast h) (EReal.coe_ne_top r) a b

/-- A nonnegative real goes through a finite sum. -/
theorem mul_sum {ι : Type} (s : Finset ι) (r : ℝ) (h : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, mul_add r h, ih]

/-- A finite sum of reals is the real sum. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A sum of reals is real. -/
theorem sum_real {ι : Type} (s : Finset ι) (f : ι → EReal) (h : ∀ k, ∃ r : ℝ, f k = r) : ∃ r : ℝ, ∑ k ∈ s, f k = r := by
  choose g hg using h
  exact ⟨_, (Finset.sum_congr rfl fun k _ => hg k).trans (sum_coe s g)⟩

theorem mul_real {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem add_real {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

/-- Weights halved before a contraction halve it. -/
theorem sum_halved {n : Nat} (a w : Fin n → EReal) :
    ∑ k, a k * (w k * ((1 / 2 : ℝ) : EReal)) = ((1 / 2 : ℝ) : EReal) * ∑ k, a k * w k := by
  rw [mul_sum _ _ (by norm_num)]
  refine Finset.sum_congr rfl fun k _ => ?_
  rw [← mul_assoc, mul_comm]

/-! ## The root of a mean of squares -/

theorem mul_self_nonneg (x : EReal) : 0 ≤ x * x := by
  induction x with
  | bot => simp
  | top => simp
  | coe r => rw [← EReal.coe_mul]; exact_mod_cast _root_.mul_self_nonneg r

theorem sum_nonneg {n : Nat} (f : Fin n → EReal) : 0 ≤ ∑ k, f k * f k :=
  Finset.sum_nonneg fun k _ => mul_self_nonneg (f k)

/-- The reciprocal root of something positive is a nonnegative real. -/
theorem rsqrt_real {a : EReal} (h : 0 < a) : ∃ r : ℝ, 0 ≤ r ∧ Ideal.rsqrt a = r := by
  induction a with
  | bot => exact absurd h (by simp)
  | top => exact ⟨0, le_refl _, by simp⟩
  | coe r =>
    have hr : 0 < r := by exact_mod_cast h
    exact ⟨(Real.sqrt r)⁻¹, by positivity, by rw [Ideal.rsqrt_coe, if_neg (not_lt.mpr hr.le), if_neg hr.ne']⟩

theorem div_pos_coe_nonneg {a : EReal} (h : 0 ≤ a) {y : ℝ} (hy : 0 < y) : 0 ≤ Ideal.div a (y : EReal) := by
  rw [Ideal.div_coe hy.ne']
  exact mul_nonneg h (by exact_mod_cast (by positivity : (0:ℝ) ≤ 1 / y))

/-- The mean of squares of `x`, shifted by `eps`, under the reciprocal root. -/
def rinv {n : Nat} (d : ℝ) (x : Fin n → EReal) : EReal := Ideal.rsqrt (Ideal.div (∑ k, x k * x k) (d : EReal) + (eps : EReal))

theorem rinv_real {n : Nat} (d : ℝ) (hd : 0 < d) (x : Fin n → EReal) : ∃ r : ℝ, 0 ≤ r ∧ rinv d x = r := by
  refine rsqrt_real (lt_of_lt_of_le (b := (eps : EReal)) (by unfold eps; exact_mod_cast (by norm_num : (0:ℝ) < 8796093 / 8796093022208)) ?_)
  exact le_add_of_nonneg_left (div_pos_coe_nonneg (sum_nonneg x) hd)

/-- RMSNorm's row factor taken out of a contraction over the row. -/
theorem rowscale {n : Nat} (d : ℝ) (hd : 0 < d) (y : Fin n → EReal) (x g w : Fin n → EReal) :
    rinv d y * ∑ k, x k * g k * w k = ∑ k, x k * rinv d y * g k * w k := by
  obtain ⟨r, hr, e⟩ := rinv_real d hd y
  rw [e, mul_sum _ _ hr]
  refine Finset.sum_congr rfl fun k _ => ?_
  rw [← mul_assoc, ← mul_assoc, mul_comm (r : EReal)]

/-! ## GELU -/

/-- The reference's GELU. -/
def gelu (z : EReal) : EReal :=
  z * (((1 / 2 : ℝ) : EReal) * (1 + Ideal.tanh ((c1 : EReal) * (z + (c3 : EReal) * (z * z * z)))))

theorem gelu_coe (z : ℝ) : gelu z = ((z * (1 / 2 * (1 + Real.tanh (c1 * (z + c3 * (z * z * z))))) : ℝ) : EReal) := by
  unfold gelu
  simp only [← EReal.coe_mul, ← EReal.coe_add, Ideal.tanh_coe, ← EReal.coe_one]

theorem gelu_real {z : EReal} (h : ∃ r : ℝ, z = r) : ∃ r : ℝ, gelu z = r := by
  obtain ⟨r, rfl⟩ := h; exact ⟨_, gelu_coe r⟩

/-- GELU from half of its argument. -/
theorem gelu_of_half {z : EReal} (h : ∃ r : ℝ, z = r) :
    ((1 / 2 : ℝ) : EReal) * z + ((1 / 2 : ℝ) : EReal) * z * Ideal.tanh (((1 / 2 : ℝ) : EReal) * z * (((2 * c1 : ℝ) : EReal)
      + ((8 * c1 * c3 : ℝ) : EReal) * (((1 / 2 : ℝ) : EReal) * z * (((1 / 2 : ℝ) : EReal) * z)))) = gelu z := by
  obtain ⟨r, rfl⟩ := h
  rw [gelu_coe]
  simp only [← EReal.coe_mul, ← EReal.coe_add, Ideal.tanh_coe]
  rw [show 1 / 2 * r * (2 * c1 + 8 * c1 * c3 * (1 / 2 * r * (1 / 2 * r))) = c1 * (r + c3 * (r * r * r)) by ring]
  norm_cast; ring

/-- GELU with its first factor distributed and the argument factored. -/
theorem gelu_factored {z : EReal} (h : ∃ r : ℝ, z = r) :
    ((1 / 2 : ℝ) : EReal) * z + ((1 / 2 : ℝ) : EReal) * z * Ideal.tanh (z * ((c1 : EReal)
      + ((c1 * c3 : ℝ) : EReal) * (z * z))) = gelu z := by
  obtain ⟨r, rfl⟩ := h
  rw [gelu_coe]
  simp only [← EReal.coe_mul, ← EReal.coe_add, Ideal.tanh_coe]
  rw [show r * (c1 + c1 * c3 * (r * r)) = c1 * (r + c3 * (r * r * r)) by ring]
  norm_cast; ring

/-! ## The logistic function -/

theorem tanh_half (r : ℝ) : 1 / 2 * Real.tanh (1 / 2 * r) + 1 / 2 = (1 + Real.exp (-r))⁻¹ := by
  have hp : 0 < Real.exp (1 / 2 * r) := Real.exp_pos _
  have hn : 0 < Real.exp (-(1 / 2 * r)) := Real.exp_pos _
  have e : Real.exp (-r) = Real.exp (-(1 / 2 * r)) * Real.exp (-(1 / 2 * r)) := by rw [← Real.exp_add]; ring_nf
  have e1 : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have : 0 < a + b := by positivity
  have h2 : 0 < 1 + b * b := by positivity
  field_simp
  nlinarith [e1]

/-- `tanh` of half of the argument, halved and shifted, at every extended real. -/
theorem sigmoid (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top,
      show (1 : EReal) = ((1 : ℝ) : EReal) by simp, ← EReal.coe_mul, ← EReal.coe_add]
    norm_num
  | coe r => rw [← EReal.coe_mul, Ideal.tanh_coe, ← EReal.coe_mul, ← EReal.coe_add, Ideal.logistic_coe, tanh_half]

/-! ## Softmax -/

/-- The kernel's scale of a power of two is the reference's scale of the exponential. -/
theorem exp2_scale (a : ℝ) : Real.rpow 2 (a * (sw * (Real.log 2)⁻¹)) = Real.exp (a * sw) := by
  show (2 : ℝ) ^ (a * (sw * (Real.log 2)⁻¹)) = _
  rw [Real.rpow_def_of_pos (by norm_num)]
  congr 1
  have : Real.log 2 ≠ 0 := (Real.log_pos (by norm_num)).ne'
  field_simp

/-- Attention over real scores `s` with their maximum `M`: powers of two of the scaled differences, weighted and divided
    once, against the exponentials divided each. -/
theorem softmax {n : Nat} [NeZero n] (s : Fin n → ℝ) (M : ℝ) (v : Fin n → EReal) :
    Ideal.div (∑ k, Ideal.exp2 (((s k : EReal) - (M : EReal)) * ((sw * (Real.log 2)⁻¹ : ℝ) : EReal)) * v k)
        (∑ k, Ideal.exp2 (((s k : EReal) - (M : EReal)) * ((sw * (Real.log 2)⁻¹ : ℝ) : EReal)))
      = ∑ k, v k * Ideal.div (Ideal.exp ((s k : EReal) * (sw : EReal) - ((M * sw : ℝ) : EReal)))
          (∑ k, Ideal.exp ((s k : EReal) * (sw : EReal) - ((M * sw : ℝ) : EReal))) := by
  have e : ∀ k, Ideal.exp2 (((s k : EReal) - (M : EReal)) * ((sw * (Real.log 2)⁻¹ : ℝ) : EReal))
      = ((Real.exp ((s k - M) * sw) : ℝ) : EReal) := fun k => by
    rw [← EReal.coe_sub, ← EReal.coe_mul, Ideal.exp2_coe, exp2_scale]
  have e' : ∀ k, Ideal.exp ((s k : EReal) * (sw : EReal) - ((M * sw : ℝ) : EReal))
      = ((Real.exp ((s k - M) * sw) : ℝ) : EReal) := fun k => by
    rw [← EReal.coe_mul, ← EReal.coe_sub, Ideal.exp_coe, sub_mul]
  simp only [e, e', sum_coe]
  have hD : 0 < ∑ k, Real.exp ((s k - M) * sw) :=
    Finset.sum_pos (fun k _ => Real.exp_pos _) ⟨⟨0, Nat.pos_of_ne_zero (NeZero.ne n)⟩, Finset.mem_univ _⟩
  rw [Ideal.div_coe hD.ne', mul_comm, mul_sum _ _ (by positivity)]
  refine Finset.sum_congr rfl fun k _ => ?_
  rw [Ideal.div_coe hD.ne', mul_left_comm, mul_comm (v k), mul_assoc]

end Cert.Arith

end
-- ==== Proof.Merge.lean ====
/- The second half of the block over one position, as a function of that position's rows and of the weights: GELU and the
   gated linear unit over the recurrence's output, the three branches weighted by their gates, the output projection with its
   residual, SwiGLU with its residual, and the closing RMSNorm. Every sum runs over the whole row. -/
module

public import proofs.«01_k».proof.Proof.Arith

@[expose] public section

noncomputable section

namespace Cert.Merge

open Idealize.ShloMosaic Cert.Arith

/-- A row through a matrix. -/
def mv {n p : Nat} (a : Fin n → EReal) (w : Fin n → Fin p → EReal) (j : Fin p) : EReal := ∑ k, a k * w k j

/-- GELU then the gated linear unit. -/
def glu (y : Fin 512 → EReal) (w : Fin 512 → Fin 512 → EReal) (b : Fin 512 → EReal) (j : Fin 512) : EReal :=
  gelu (y j) * Ideal.logistic (mv (fun k => gelu (y k)) w j + b j)

/-- The three branches, each through its matrix, weighted by its gate. -/
def merged (ya yb yc : Fin 512 → EReal) (g : Fin 3 → Fin 1024 → EReal) (wa wb wc : Fin 512 → Fin 1024 → EReal)
    (j : Fin 1024) : EReal :=
  g 0 j * mv ya wa j + g 1 j * mv yb wb j + g 2 j * mv yc wc j

/-- A row plus a row through a matrix. -/
def resid {n p : Nat} (x : Fin p → EReal) (a : Fin n → EReal) (w : Fin n → Fin p → EReal) (j : Fin p) : EReal :=
  x j + mv a w j

/-- RMSNorm of a row. -/
def norm {n : Nat} (d : ℝ) (x g : Fin n → EReal) (j : Fin n) : EReal := x j * rinv d x * g j

/-- SwiGLU's hidden row. -/
def swiglu (h : Fin 1024 → EReal) (wg wu : Fin 1024 → Fin 2816 → EReal) (j : Fin 2816) : EReal :=
  mv h wg j * Ideal.logistic (mv h wg j) * mv h wu j

/-- The call's weights, by row and column. -/
structure Weights where
  dskip : Fin 512 → EReal
  wglu : Fin 512 → Fin 512 → EReal
  bglu : Fin 512 → EReal
  wa : Fin 512 → Fin 1024 → EReal
  wb : Fin 512 → Fin 1024 → EReal
  wc : Fin 512 → Fin 1024 → EReal
  wout : Fin 1024 → Fin 1024 → EReal
  gffn : Fin 1024 → EReal
  wgate : Fin 1024 → Fin 2816 → EReal
  wup : Fin 1024 → Fin 2816 → EReal
  wdown : Fin 2816 → Fin 1024 → EReal
  gfin : Fin 1024 → EReal

/-- One position's rows: the block's input, the recurrence's output and input, the other two branches, the three gates. -/
structure Row where
  x : Fin 1024 → EReal
  y : Fin 512 → EReal
  za : Fin 512 → EReal
  sgu : Fin 512 → EReal
  attn : Fin 512 → EReal
  gate : Fin 3 → Fin 1024 → EReal

/-- The recurrence's output with its skip, through GELU and the gated linear unit. -/
def gluRow (W : Weights) (y za : Fin 512 → EReal) : Fin 512 → EReal := glu (fun j => y j + W.dskip j * za j) W.wglu W.bglu

/-- The first residual from the gated linear unit's row. -/
def x1Of (W : Weights) (R : Row) (u : Fin 512 → EReal) : Fin 1024 → EReal :=
  resid R.x (merged u R.sgu R.attn R.gate W.wa W.wb W.wc) W.wout

/-- The second residual from the first. -/
def x2Of (W : Weights) (x1 : Fin 1024 → EReal) : Fin 1024 → EReal :=
  resid x1 (swiglu (norm 1024 x1 W.gffn) W.wgate W.wup) W.wdown

/-- The block's result at one position. -/
def out (W : Weights) (R : Row) : Fin 1024 → EReal := norm 1024 (x2Of W (x1Of W R (gluRow W R.y R.za))) W.gfin

end Cert.Merge

end
-- ==== Proof.Inproj.lean ====
/- What the first half of the block computes at one position: the projections of its normalised row, the spatial gating
   over its block of 128 positions, the cross-attention of its four heads, and the gates. -/
module

public import proofs.«01_k».proof.Proof.Merge

@[expose] public section

noncomputable section

namespace Cert.Inproj

open Idealize.ShloMosaic Cert.Arith Cert.Merge

/-- The call's weights, by row and column. -/
structure Weights where
  g : Fin 1024 → EReal
  w : Fin 1024 → Fin 5120 → EReal
  bgate : Fin 3072 → EReal
  gsgu : Fin 512 → EReal
  bsgu : Fin 512 → EReal
  ws : Fin 4 → Fin 128 → Fin 128 → EReal
  bs : Fin 4 → Fin 128 → EReal

/-- Column `c` of the normalised row's projection. -/
def proj (W : Weights) (x : Fin 1024 → EReal) (c : Fin 5120) : EReal := mv (norm 1024 x W.g) W.w c

/-- The projection's five parts: the recurrence's input, the two of the spatial gating, the queries, the gates. -/
def za (W : Weights) (x : Fin 1024 → EReal) (j : Fin 512) : EReal := proj W x ⟨j.val, by omega⟩
def zu (W : Weights) (x : Fin 1024 → EReal) (j : Fin 512) : EReal := proj W x ⟨512 + j.val, by omega⟩
def zv (W : Weights) (x : Fin 1024 → EReal) (j : Fin 512) : EReal := proj W x ⟨1024 + j.val, by omega⟩
def zq (W : Weights) (x : Fin 1024 → EReal) (j : Fin 512) : EReal := proj W x ⟨1536 + j.val, by omega⟩
def zg (W : Weights) (x : Fin 1024 → EReal) (j : Fin 3072) : EReal := proj W x ⟨2048 + j.val, by omega⟩

/-- A row less its mean. -/
def cen (v : Fin 512 → EReal) (j : Fin 512) : EReal := v j - Ideal.div (∑ k, v k) ((512 : ℝ) : EReal)

/-- LayerNorm of a row. -/
def ln (v g b : Fin 512 → EReal) (j : Fin 512) : EReal := cen v j * rinv 512 (cen v) * g j + b j

/-- The normalised values of the spatial gating at one position. -/
def vn (W : Weights) (x : Fin 1024 → EReal) : Fin 512 → EReal := ln (fun k => gelu (zv W x k)) W.gsgu W.bsgu

/-- The causal mask within a block. -/
def tril (p s : Fin 128) : EReal := if s.val ≤ p.val then 1 else 0

/-- The spatial gating at position `p` of a block of 128 rows `X`. -/
def sgu (W : Weights) (X : Fin 128 → Fin 1024 → EReal) (p : Fin 128) (j : Fin 512) : EReal :=
  gelu (zu W (X p) j) * (∑ s, vn W (X s) j * (W.ws ⟨j.val / 128, by omega⟩ p s * tril p s) + W.bs ⟨j.val / 128, by omega⟩ p)

/-- Position `e` of head `h` among the 512 channels. -/
abbrev lane (h : Fin 4) (e : Fin 128) : Fin 512 := ⟨h.val * 128 + e.val, by omega⟩

/-- The score of head `h` of a query against memory position `m`. -/
def score (q : Fin 512 → EReal) (K : Fin 256 → Fin 512 → EReal) (h : Fin 4) (m : Fin 256) : EReal := ∑ e, q (lane h e) * K m (lane h e)

/-- The greatest scaled score. -/
def top (s : Fin 256 → EReal) : EReal := Finset.univ.sup fun m => s m * (sw : EReal)

/-- Softmax of the scaled scores, less the greatest, against a column of values. -/
def soft (s v : Fin 256 → EReal) : EReal :=
  ∑ m, v m * Ideal.div (Ideal.exp (s m * (sw : EReal) - top s)) (∑ n, Ideal.exp (s n * (sw : EReal) - top s))

/-- The cross-attention of one position into the memory. -/
def attn (W : Weights) (x : Fin 1024 → EReal) (K V : Fin 256 → Fin 512 → EReal) (j : Fin 512) : EReal :=
  soft (score (zq W x) K ⟨j.val / 128, by omega⟩) (fun m => V m j)

/-- The gates of one position. -/
def gates (W : Weights) (x : Fin 1024 → EReal) (j : Fin 3072) : EReal := Ideal.logistic (zg W x j + W.bgate j)

end Cert.Inproj

end
-- ==== Proof.Pay1.lean ====
/- The first call: a row of its projection, read off the blocks a grid point is given. -/
module

public import proofs.«01_k».proof.Proof.Gen.Own.KernelIdeal.Value
public import proofs.«01_k».proof.Proof.Inproj
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.SL.Sem
open Cert.Arith Cert.Merge Cert.Inproj

/-- The normalised row `p` of a tile. -/
def hk (b0 : Vec Ideal S1x1024x1024 .f32) (b1 : Vec Ideal S1x1024 .f32) (p : Fin 1024) : Fin 1024 → EReal :=
  norm 1024 (fun k => b0 (ix3 (0 : Fin 1) p k)) (fun k => b1 (ix2 (0 : Fin 1) k))

/-- Column `c` of the normalised row `p` through the projection as the call is given it. -/
def pk (b0 : Vec Ideal S1x1024x1024 .f32) (b1 : Vec Ideal S1x1024 .f32) (b2 : Vec Ideal S1024x5120 .bf16) (p : Fin 1024) (c : Fin 5120) : EReal :=
  mv (hk b0 b1 p) (fun k c => b2 (ix2 k c)) c

theorem h_at (b0 : Vec Ideal S1x1024x1024 .f32) (b1 : Vec Ideal S1x1024 .f32) (p k : Fin 1024) :
    k0_pay10 b0 b1 (ix2 p k) = hk b0 b1 p k := by
  pointwise [k0_pay10]
  simp only [w_1024, w_eps]
  rfl

theorem gelu_half_3_eq : Named.named (F := Ideal) (φ := .f32) κ "gelu_half_3" 0x3E922279#32 = ((8 * c1 * c3 : ℝ) : EReal) := by
  show ((80338380498831 / 281474976710656 : ℝ) : EReal) = _
  unfold c1 c3
  norm_num

theorem exp2_scale_eq : Named.named (F := Ideal) (φ := .f32) κ "exp2_scale" 0x3E0293EE#32 = ((sw * (Real.log 2)⁻¹ : ℝ) : EReal) := by
  show (((11863283 / 134217728 : ℝ) * (Real.log 2)⁻¹ : ℝ) : EReal) = _
  unfold sw
  rfl

/-- The call's attention of one head over its raw scores. -/
def katt (s v : Fin 256 → EReal) : EReal :=
  Ideal.div (∑ m, Ideal.exp2 ((s m - Finset.univ.fold max (⊥ : EReal) s) * ((sw * (Real.log 2)⁻¹ : ℝ) : EReal)) * v m)
    (∑ m, Ideal.exp2 ((s m - Finset.univ.fold max (⊥ : EReal) s) * ((sw * (Real.log 2)⁻¹ : ℝ) : EReal)))

/-- GELU as the call writes it, of an argument it is given halved. -/
def kgelu (z : EReal) : EReal :=
  z + z * Ideal.tanh (z * (((2 * c1 : ℝ) : EReal) + ((8 * c1 * c3 : ℝ) : EReal) * (z * z)))

end Cert.KernelIdeal.Hand

end
-- ==== Proof.Alg1.lean ====
/- The first call's forms against the reference's, over real rows: the halved GELU, the attention by powers of two. -/
module

public import proofs.«01_k».proof.Proof.Pay1

@[expose] public section

noncomputable section

namespace Cert.KernelIdeal.Hand

open Idealize.ShloMosaic Cert.Arith Cert.Merge Cert.Inproj

/-- A row's entries by the reciprocal root of its mean of squares are real, at an infinite entry too: the root's reciprocal is
    then zero. -/
theorem unit_real (x : Fin 1024 → EReal) (k : Fin 1024) : ∃ r : ℝ, x k * rinv 1024 x = r := by
  by_cases h : x k * x k = ⊤
  · have hs : ∑ i, x i * x i = ⊤ :=
      top_le_iff.mp (h ▸ Finset.single_le_sum (f := fun i => x i * x i) (fun i _ => Arith.mul_self_nonneg (x i)) (Finset.mem_univ k))
    refine ⟨0, ?_⟩
    unfold rinv
    rw [hs, Ideal.div_coe (by norm_num), EReal.top_mul_coe_of_pos (by norm_num), EReal.top_add_coe]
    simp
  · obtain ⟨r, _, hr⟩ := rinv_real 1024 (by norm_num) x
    refine mul_real ?_ ⟨r, hr⟩
    generalize x k = y at h
    induction y with
    | bot => exact absurd EReal.bot_mul_bot h
    | top => exact absurd EReal.top_mul_top h
    | coe s => exact ⟨s, rfl⟩

theorem norm_real (x : Fin 1024 → EReal) {g : Fin 1024 → EReal} (hg : ∀ k, ∃ r : ℝ, g k = r) (k : Fin 1024) :
    ∃ r : ℝ, Merge.norm 1024 x g k = r := by
  unfold Merge.norm
  exact mul_real (unit_real x k) (hg k)

/-- A row through a real gain and real weights is real. -/
theorem proj_real (W : Inproj.Weights) (x : Fin 1024 → EReal) (hg : ∀ k, ∃ r : ℝ, W.g k = r)
    (hw : ∀ k j, ∃ r : ℝ, W.w k j = r) (c : Fin 5120) : ∃ r : ℝ, proj W x c = r := by
  unfold proj mv
  exact sum_real _ _ fun k => mul_real (norm_real x hg k) (hw k c)

theorem kgelu_half {z : EReal} (h : ∃ r : ℝ, z = r) : kgelu (((1 / 2 : ℝ) : EReal) * z) = gelu z := gelu_of_half h

theorem katt_soft (s v : Fin 256 → EReal) (h : ∀ k, ∃ r : ℝ, s k = r) : katt s v = soft s v := by
  choose f hf using h
  obtain ⟨k0, _, h0⟩ := Finset.exists_mem_eq_sup Finset.univ ⟨(0 : Fin 256), Finset.mem_univ _⟩ s
  have hM : Finset.univ.fold max (⊥ : EReal) s = (f k0 : EReal) := (show _ = Finset.univ.sup s from rfl).trans (h0.trans (hf k0))
  have hle : ∀ k, f k ≤ f k0 := by
    intro k
    have := Finset.le_sup (f := s) (Finset.mem_univ k)
    rw [h0, hf k, hf k0] at this
    exact_mod_cast this
  have hT : top s = ((f k0 * sw : ℝ) : EReal) := by
    unfold top
    have hs : (0 : ℝ) ≤ sw := by unfold sw; norm_num
    apply le_antisymm
    · refine Finset.sup_le fun k _ => ?_
      rw [hf k, ← EReal.coe_mul]
      exact_mod_cast mul_le_mul_of_nonneg_right (hle k) hs
    · have := Finset.le_sup (f := fun k => s k * (sw : EReal)) (Finset.mem_univ k0)
      rw [hf k0, ← EReal.coe_mul] at this
      exact this
  unfold katt soft
  rw [hM, hT]
  simp only [hf]
  exact softmax f (f k0) v

end Cert.KernelIdeal.Hand

end
-- ==== Proof.Fold1.lean ====
/- The first call's blocks as the call's arguments: which tile each grid point's windows hold, and what the host's reshapes and
   the halving of the projection's columns put there. -/
module

public import proofs.«01_k».proof.Proof.Pay1
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- Which block each moving window holds at a grid point. -/
theorem idxTile : ∀ t : Fin cfg0.N, win0_0.index t = ![t.val / 2, t.val % 2, 0] ∧ win0_17.index t = ![t.val / 2, t.val % 2, 0]
    ∧ win0_18.index t = ![0, t.val, 0] ∧ win0_19.index t = ![t.val / 2, t.val % 2, 0] ∧ win0_20.index t = ![t.val / 2, t.val % 2, 0]
    ∧ win0_21.index t = ![t.val / 2, t.val % 2, 0] ∧ win0_8.index t = ![t.val / 2, 0, 0] ∧ win0_9.index t = ![t.val / 2, 0, 0] :=
  (by decide +kernel : ∀ t : Fin grid0.N, _)

theorem idxFix : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![0, 0] :=
  (by decide +kernel : ∀ t : Fin grid0.N, _)

theorem idxIn : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] :=
  (by decide +kernel : ∀ t : Fin grid0.N, _)

theorem idxOut : ∀ t : Fin cfg0.N, win0_22.index t = ![t.val, 0] ∧ win0_23.index t = ![t.val, 0] ∧ win0_24.index t = ![t.val, 0]
    ∧ win0_25.index t = ![t.val, 0] ∧ win0_26.index t = ![t.val, 0] ∧ win0_27.index t = ![t.val, 0] ∧ win0_28.index t = ![t.val, 0] :=
  (by decide +kernel : ∀ t : Fin grid0.N, _)

theorem V19 (c : Dev nD) (k : Fin 1024) : (V m c main_v19 : Vec Ideal S1x1024 .f32) (ix2 (0 : Fin 1) k)
    = (m ((c : Thread nD τ).loc main_arg1) : Vec Ideal S1x1024 .f32) (ix2 (0 : Fin 1) k) := by
  unfold V
  after_reads_at

theorem V21 (c : Dev nD) (k : Fin 3072) : (V m c main_v21 : Vec Ideal S1x3072 .f32) (ix2 (0 : Fin 1) k)
    = (m ((c : Thread nD τ).loc main_arg3) : Vec Ideal S1x3072 .f32) (ix2 (0 : Fin 1) k) := by
  unfold V
  after_reads_at

theorem V23 (c : Dev nD) (k : Fin 512) : (V m c main_v23 : Vec Ideal S1x512 .f32) (ix2 (0 : Fin 1) k)
    = (m ((c : Thread nD τ).loc main_arg4) : Vec Ideal S1x512 .f32) (ix2 (0 : Fin 1) k) := by
  unfold V
  after_reads_at

theorem V25 (c : Dev nD) (k : Fin 512) : (V m c main_v25 : Vec Ideal S1x512 .f32) (ix2 (0 : Fin 1) k)
    = (m ((c : Thread nD τ).loc main_arg5) : Vec Ideal S1x512 .f32) (ix2 (0 : Fin 1) k) := by
  unfold V
  after_reads_at

theorem V26 (c : Dev nD) (g : Fin 4) (p s : Fin 128) : (V m c main_v26 : Vec Ideal S4x128x128 .f32) (ix3 g p s)
    = (m ((c : Thread nD τ).loc main_arg6) : Vec Ideal S1x4x128x128 .f32) (ix4 (0 : Fin 1) g p s) := by
  unfold V
  after_reads_at

theorem V28 (c : Dev nD) (p : Fin 128) (g : Fin 4) : (V m c main_v28 : Vec Ideal S128x4 .f32) (ix2 p g)
    = (m ((c : Thread nD τ).loc main_arg7) : Vec Ideal S1x4x128 .f32) (ix3 (0 : Fin 1) g p) := by
  unfold V
  after_reads_at

/-- The columns of the projection that the host halves. -/
abbrev halved (j : Fin 5120) : Prop := (512 ≤ j.val ∧ j.val < 1536) ∨ 2048 ≤ j.val

/-- The mask of those columns, as the host computes it from an iota. -/
theorem mask_at : ∀ j : Fin 5120, IntOp.ori (IntOp.andi (IntOp.cmpi CmpIPredicate.sge (BitVec.ofNat 32 j.val) 512#32) (IntOp.cmpi CmpIPredicate.slt (BitVec.ofNat 32 j.val) 1536#32))
    (IntOp.andi (IntOp.cmpi CmpIPredicate.sge (BitVec.ofNat 32 j.val) 2048#32) (IntOp.cmpi CmpIPredicate.slt (BitVec.ofNat 32 j.val) 5120#32))
    = if halved j then 1#1 else 0#1 := by
  decide +kernel

/-- The projection with those columns halved. -/
theorem V17 (c : Dev nD) (k : Fin 1024) (j : Fin 5120) : (V m c main_v17 : Vec Ideal S1024x5120 .bf16) (ix2 k j)
    = @HMul.hMul EReal EReal EReal instHMul ((m ((c : Thread nD τ).loc main_arg2) : Vec Ideal S1x1024x5120 .f32) (ix3 (0 : Fin 1) k j))
      (if halved j then ((1 / 2 : ℝ) : EReal) else 1) := by
  unfold V
  after_reads_at
  dsimp only [id]
  pointwise
  rw [mask_at, w_half]
  split
  · rfl
  · rfl

theorem V29 (c : Dev nD) (k : Fin 512) (j : Fin 512) : (V m c main_v29 : Vec Ideal S512x512 .f32) (ix2 k j)
    = (m ((c : Thread nD τ).loc main_arg10) : Vec Ideal S1x512x512 .f32) (ix3 (0 : Fin 1) k j) := by
  unfold V
  after_reads_at

theorem V30 (c : Dev nD) (k : Fin 512) (j : Fin 1024) : (V m c main_v30 : Vec Ideal S512x1024 .f32) (ix2 k j)
    = (m ((c : Thread nD τ).loc main_arg11) : Vec Ideal S1x512x1024 .f32) (ix3 (0 : Fin 1) k j) := by
  unfold V
  after_reads_at

theorem V31 (c : Dev nD) (k : Fin 512) (j : Fin 1024) : (V m c main_v31 : Vec Ideal S512x1024 .f32) (ix2 k j)
    = (m ((c : Thread nD τ).loc main_arg12) : Vec Ideal S1x512x1024 .f32) (ix3 (0 : Fin 1) k j) := by
  unfold V
  after_reads_at

theorem V32 (c : Dev nD) (k : Fin 512) (j : Fin 1024) : (V m c main_v32 : Vec Ideal S512x1024 .f32) (ix2 k j)
    = (m ((c : Thread nD τ).loc main_arg13) : Vec Ideal S1x512x1024 .f32) (ix3 (0 : Fin 1) k j) := by
  unfold V
  after_reads_at

theorem V33 (c : Dev nD) (k : Fin 1024) (j : Fin 1024) : (V m c main_v33 : Vec Ideal S1024x1024 .f32) (ix2 k j)
    = (m ((c : Thread nD τ).loc main_arg14) : Vec Ideal S1x1024x1024 .f32) (ix3 (0 : Fin 1) k j) := by
  unfold V
  after_reads_at

theorem V34 (c : Dev nD) (k : Fin 1024) (j : Fin 2816) : (V m c main_v34 : Vec Ideal S1024x2816 .f32) (ix2 k j)
    = (m ((c : Thread nD τ).loc main_arg15) : Vec Ideal S1x1024x2816 .f32) (ix3 (0 : Fin 1) k j) := by
  unfold V
  after_reads_at

theorem V35 (c : Dev nD) (k : Fin 1024) (j : Fin 2816) : (V m c main_v35 : Vec Ideal S1024x2816 .f32) (ix2 k j)
    = (m ((c : Thread nD τ).loc main_arg16) : Vec Ideal S1x1024x2816 .f32) (ix3 (0 : Fin 1) k j) := by
  unfold V
  after_reads_at

theorem blk1 (c : Dev nD) (t : Fin cfg0.N) (k : Fin 1024) : (iblk m c 1 t : Vec Ideal S1x1024 .f32) (ix2 (0 : Fin 1) k)
    = (V m c main_v19 : Vec Ideal S1x1024 .f32) (ix2 (0 : Fin 1) k) := by
  blk_ext [iblk, (idxFix t).1]

theorem blk2 (c : Dev nD) (t : Fin cfg0.N) (k : Fin 1024) (j : Fin 5120) : (iblk m c 2 t : Vec Ideal S1024x5120 .bf16) (ix2 k j)
    = (V m c main_v17 : Vec Ideal S1024x5120 .bf16) (ix2 k j) := by
  blk_ext [iblk, (idxFix t).2.1]

theorem blk3 (c : Dev nD) (t : Fin cfg0.N) (k : Fin 3072) : (iblk m c 3 t : Vec Ideal S1x3072 .f32) (ix2 (0 : Fin 1) k)
    = (V m c main_v21 : Vec Ideal S1x3072 .f32) (ix2 (0 : Fin 1) k) := by
  blk_ext [iblk, (idxFix t).2.2.1]

theorem blk4 (c : Dev nD) (t : Fin cfg0.N) (k : Fin 512) : (iblk m c 4 t : Vec Ideal S1x512 .f32) (ix2 (0 : Fin 1) k)
    = (V m c main_v23 : Vec Ideal S1x512 .f32) (ix2 (0 : Fin 1) k) := by
  blk_ext [iblk, (idxFix t).2.2.2.1]

theorem blk5 (c : Dev nD) (t : Fin cfg0.N) (k : Fin 512) : (iblk m c 5 t : Vec Ideal S1x512 .f32) (ix2 (0 : Fin 1) k)
    = (V m c main_v25 : Vec Ideal S1x512 .f32) (ix2 (0 : Fin 1) k) := by
  blk_ext [iblk, (idxFix t).2.2.2.2.1]

theorem blk6 (c : Dev nD) (t : Fin cfg0.N) (g : Fin 4) (p s : Fin 128) : (iblk m c 6 t : Vec Ideal S4x128x128 .f32) (ix3 g p s)
    = (V m c main_v26 : Vec Ideal S4x128x128 .f32) (ix3 g p s) := by
  blk_ext [iblk, (idxFix t).2.2.2.2.2.1]

theorem blk7 (c : Dev nD) (t : Fin cfg0.N) (p : Fin 128) (g : Fin 4) : (iblk m c 7 t : Vec Ideal S128x4 .f32) (ix2 p g)
    = (V m c main_v28 : Vec Ideal S128x4 .f32) (ix2 p g) := by
  blk_ext [iblk, (idxFix t).2.2.2.2.2.2]

theorem blk0 (c : Dev nD) (t : Fin cfg0.N) (p : Fin 1024) (j : Fin 1024) :
    (iblk m c 0 t : Vec Ideal S1x1024x1024 .f32) (ix3 (0 : Fin 1) p j)
    = (m ((c : Thread nD τ).loc main_arg0) : Vec Ideal S8x2048x1024 .f32)
      (ix3 (⟨t.val / 2, by have := t.isLt; change t.val < 16 at this; omega⟩ : Fin 8) (⟨t.val % 2 * 1024 + p.val, by omega⟩ : Fin 2048) j) := by
  rw [← V_main_arg0 m c]
  blk_ext [iblk, (idxTile t).1]

theorem blk8 (c : Dev nD) (t : Fin cfg0.N) (n : Fin 256) (j : Fin 512) :
    (iblk m c 8 t : Vec Ideal S1x256x512 .bf16) (ix3 (0 : Fin 1) n j)
    = (m ((c : Thread nD τ).loc main_arg8) : Vec Ideal S8x256x512 .bf16)
      (ix3 (⟨t.val / 2, by have := t.isLt; change t.val < 16 at this; omega⟩ : Fin 8) n j) := by
  rw [← V_main_arg8 m c]
  blk_ext [iblk, (idxTile t).2.2.2.2.2.2.1]

theorem blk9 (c : Dev nD) (t : Fin cfg0.N) (n : Fin 256) (j : Fin 512) :
    (iblk m c 9 t : Vec Ideal S1x256x512 .bf16) (ix3 (0 : Fin 1) n j)
    = (m ((c : Thread nD τ).loc main_arg9) : Vec Ideal S8x256x512 .bf16)
      (ix3 (⟨t.val / 2, by have := t.isLt; change t.val < 16 at this; omega⟩ : Fin 8) n j) := by
  rw [← V_main_arg9 m c]
  blk_ext [iblk, (idxTile t).2.2.2.2.2.2.2]

theorem blk10 (c : Dev nD) (t : Fin cfg0.N) (k : Fin 32) (j : Fin 512) : (iblk m c 10 t : Vec Ideal S32x512 .f32) (ix2 k j)
    = (V m c main_v29 : Vec Ideal S512x512 .f32) (ix2 (⟨t.val * 32 + k.val, by have := t.isLt; change t.val < 16 at this; omega⟩ : Fin 512) j) := by
  blk_ext [iblk, (idxIn t).1]

theorem blk11 (c : Dev nD) (t : Fin cfg0.N) (k : Fin 32) (j : Fin 1024) : (iblk m c 11 t : Vec Ideal S32x1024 .f32) (ix2 k j)
    = (V m c main_v30 : Vec Ideal S512x1024 .f32) (ix2 (⟨t.val * 32 + k.val, by have := t.isLt; change t.val < 16 at this; omega⟩ : Fin 512) j) := by
  blk_ext [iblk, (idxIn t).2.1]

theorem blk12 (c : Dev nD) (t : Fin cfg0.N) (k : Fin 32) (j : Fin 1024) : (iblk m c 12 t : Vec Ideal S32x1024 .f32) (ix2 k j)
    = (V m c main_v31 : Vec Ideal S512x1024 .f32) (ix2 (⟨t.val * 32 + k.val, by have := t.isLt; change t.val < 16 at this; omega⟩ : Fin 512) j) := by
  blk_ext [iblk, (idxIn t).2.2.1]

theorem blk13 (c : Dev nD) (t : Fin cfg0.N) (k : Fin 32) (j : Fin 1024) : (iblk m c 13 t : Vec Ideal S32x1024 .f32) (ix2 k j)
    = (V m c main_v32 : Vec Ideal S512x1024 .f32) (ix2 (⟨t.val * 32 + k.val, by have := t.isLt; change t.val < 16 at this; omega⟩ : Fin 512) j) := by
  blk_ext [iblk, (idxIn t).2.2.2.1]

theorem blk14 (c : Dev nD) (t : Fin cfg0.N) (k : Fin 64) (j : Fin 1024) : (iblk m c 14 t : Vec Ideal S64x1024 .f32) (ix2 k j)
    = (V m c main_v33 : Vec Ideal S1024x1024 .f32) (ix2 (⟨t.val * 64 + k.val, by have := t.isLt; change t.val < 16 at this; omega⟩ : Fin 1024) j) := by
  blk_ext [iblk, (idxIn t).2.2.2.2.1]

theorem blk15 (c : Dev nD) (t : Fin cfg0.N) (k : Fin 64) (j : Fin 2816) : (iblk m c 15 t : Vec Ideal S64x2816 .f32) (ix2 k j)
    = (V m c main_v34 : Vec Ideal S1024x2816 .f32) (ix2 (⟨t.val * 64 + k.val, by have := t.isLt; change t.val < 16 at this; omega⟩ : Fin 1024) j) := by
  blk_ext [iblk, (idxIn t).2.2.2.2.2.1]

theorem blk16 (c : Dev nD) (t : Fin cfg0.N) (k : Fin 64) (j : Fin 2816) : (iblk m c 16 t : Vec Ideal S64x2816 .f32) (ix2 k j)
    = (V m c main_v35 : Vec Ideal S1024x2816 .f32) (ix2 (⟨t.val * 64 + k.val, by have := t.isLt; change t.val < 16 at this; omega⟩ : Fin 1024) j) := by
  blk_ext [iblk, (idxIn t).2.2.2.2.2.2]

end Cert.KernelIdeal.Hand

end
-- ==== Proof.Za1.lean ====
/- The first call's recurrence input and gates: what a grid point leaves in its two blocks, position by position. -/
module

public import proofs.«01_k».proof.Proof.Pay1

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- The first 512 columns of the projection. -/
theorem za_A (c : Dev nD) (t : Fin cfg0.N) (p : Fin 1024) (j : Fin 512) :
    (outsAt0 m c t).1 (ix3 (0 : Fin 1) p j) = pk (iblk m c 0 t) (iblk m c 1 t) (iblk m c 2 t) p ⟨j.val, by omega⟩ := by
  unfold outsAt0
  dsimp only
  frame_open
  frame_out
  generalize iblk m c 0 t = b0
  generalize iblk m c 1 t = b1
  generalize iblk m c 2 t = b2
  pointwise
  simp only [h_at]
  rfl

/-- The gates' block, the logistic by tanh. -/
theorem gates_A (c : Dev nD) (t : Fin cfg0.N) (p : Fin 1024) (j : Fin 3072) :
    (outsAt0 m c t).2.2.2.2.1 (ix3 (0 : Fin 1) p j) =
      ((1 / 2 : ℝ) : EReal) * Ideal.tanh (pk (iblk m c 0 t) (iblk m c 1 t) (iblk m c 2 t) p ⟨2048 + j.val, by omega⟩
        + ((1 / 2 : ℝ) : EReal) * (iblk m c 3 t : Vec Ideal S1x3072 .f32) (ix2 (0 : Fin 1) j)) + ((1 / 2 : ℝ) : EReal) := by
  unfold outsAt0
  dsimp only
  frame_open
  frame_out
  generalize iblk m c 0 t = b0
  generalize iblk m c 1 t = b1
  generalize iblk m c 2 t = b2
  generalize iblk m c 3 t = b3
  change Vec Ideal S1x3072 .f32 at b3
  change Vec Ideal S1024x5120 .bf16 at b2
  canon_tiles x h
  all_goals
    idx_vars x
    generalize hH : k0_pay10 b0 b1 = H
    have hh : ∀ p k, H (ix2 p k) = hk b0 b1 p k := by
      intro p k
      rw [← hH, h_at]
    clear hH
    pointwise [k0_pay85, k0_pay16, k0_pay1, k0_pay14, k0_pay399, k0_pay400]
    obtain rfl : p = x1 := Fin.ext h1
    obtain ⟨j, hj⟩ := j
    dsimp only at h2
    subst h2
    simp only [hh, w_half]
    unfold pk mv
    simp only [← Nat.add_assoc]
    try rfl

end Cert.KernelIdeal.Hand

end
-- ==== Proof.Attn1.lean ====
/- The first call's cross-attention: what a grid point leaves in its block, head by head, as sums of powers of two. -/
module

public import proofs.«01_k».proof.Proof.Pay1

@[expose] public section

set_option maxRecDepth 16384
set_option maxHeartbeats 300000

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- The attention's block, from the projected queries and the memory's keys and values. -/
theorem attn_A (c : Dev nD) (t : Fin cfg0.N) (p : Fin 1024) (j : Fin 512) :
    (outsAt0 m c t).2.2.2.1 (ix3 (0 : Fin 1) p j) =
      katt (score (fun j => pk (iblk m c 0 t) (iblk m c 1 t) (iblk m c 2 t) p ⟨1536 + j.val, by omega⟩)
          (fun n j => (iblk m c 8 t : Vec Ideal S1x256x512 .bf16) (ix3 (0 : Fin 1) n j)) ⟨j.val / 128, by omega⟩)
        (fun n => (iblk m c 9 t : Vec Ideal S1x256x512 .bf16) (ix3 (0 : Fin 1) n j)) := by
  unfold outsAt0
  dsimp only
  frame_open
  frame_out
  generalize iblk m c 0 t = b0
  generalize iblk m c 1 t = b1
  generalize iblk m c 2 t = b2
  generalize iblk m c 8 t = b8
  generalize iblk m c 9 t = b9
  change Vec Ideal S1x256x512 .bf16 at b8
  change Vec Ideal S1x256x512 .bf16 at b9
  change Vec Ideal S1024x5120 .bf16 at b2
  canon_tiles x h
  · idx_vars x
    generalize hH : k0_pay10 b0 b1 = H
    have hh : ∀ p k, H (ix2 p k) = hk b0 b1 p k := by
      intro p k
      rw [← hH, h_at]
    clear hH
    pointwise [k0_pay84, k0_pay86, k0_pay87, k0_pay88, k0_pay89, k0_pay90, k0_pay91, k0_pay92, k0_pay93, k0_pay94, k0_pay95, k0_pay96]
    obtain rfl : p = x1 := Fin.ext h1
    obtain ⟨j, hj⟩ := j
    dsimp only at h2
    subst h2
    simp only [hh, w_ninf, exp2_scale_eq]
    have es : ∀ m : Fin 256, ∑ e : Fin 128, (∑ x, hk b0 b1 p x * b2 (ix2 x (⟨1536 + (384 + e.val), by omega⟩ : Fin 5120))) * b8 (ix3 (0 : Fin 1) m (⟨384 + e.val, by omega⟩ : Fin 512))
        = score (fun j => pk b0 b1 b2 p ⟨1536 + j.val, by omega⟩) (fun m j => b8 (ix3 (0 : Fin 1) m j)) (3 : Fin 4) m := fun m =>
      Finset.sum_congr rfl fun e _ => by
        have el : (⟨384 + e.val, by omega⟩ : Fin 512) = lane (3 : Fin 4) e := Fin.ext (by simp [lane])
        rw [el]
        refine congrArg (· * _) ?_
        dsimp only
        unfold pk mv
        refine Finset.sum_congr rfl fun x _ => ?_
        exact congrArg _ (congrArg b2 (congrArg (ix2 x) (Fin.ext (by simp [lane]))))
    have hd : (⟨(384 + x2.val) / 128, by omega⟩ : Fin 4) = 3 := Fin.ext (by simp <;> omega)
    rw [hd]
    unfold katt
    generalize score (fun j => pk b0 b1 b2 p ⟨1536 + j.val, by omega⟩) (fun m j => b8 (ix3 (0 : Fin 1) m j)) (3 : Fin 4) = S at es ⊢
    refine congrArg₂ Ideal.div (Finset.sum_congr rfl fun n _ => congrArg₂ (· * ·) ?_ ?_) (Finset.sum_congr rfl fun n _ => ?_)
    · refine congrArg Ideal.exp2 (congrArg₂ (· * ·) (congrArg₂ (· - ·) (es n) ?_) rfl)
      exact Finset.fold_congr fun n _ => es n
    · rfl
    · refine congrArg Ideal.exp2 (congrArg₂ (· * ·) (congrArg₂ (· - ·) (es n) ?_) rfl)
      exact Finset.fold_congr fun n _ => es n
  · idx_vars x
    generalize hH : k0_pay10 b0 b1 = H
    have hh : ∀ p k, H (ix2 p k) = hk b0 b1 p k := by
      intro p k
      rw [← hH, h_at]
    clear hH
    pointwise [k0_pay84, k0_pay86, k0_pay87, k0_pay88, k0_pay89, k0_pay90, k0_pay91, k0_pay92, k0_pay93, k0_pay94, k0_pay95, k0_pay96]
    obtain rfl : p = x1 := Fin.ext h1
    obtain ⟨j, hj⟩ := j
    dsimp only at h2
    subst h2
    simp only [hh, w_ninf, exp2_scale_eq]
    have es : ∀ m : Fin 256, ∑ e : Fin 128, (∑ x, hk b0 b1 p x * b2 (ix2 x (⟨1536 + (256 + e.val), by omega⟩ : Fin 5120))) * b8 (ix3 (0 : Fin 1) m (⟨256 + e.val, by omega⟩ : Fin 512))
        = score (fun j => pk b0 b1 b2 p ⟨1536 + j.val, by omega⟩) (fun m j => b8 (ix3 (0 : Fin 1) m j)) (2 : Fin 4) m := fun m =>
      Finset.sum_congr rfl fun e _ => by
        have el : (⟨256 + e.val, by omega⟩ : Fin 512) = lane (2 : Fin 4) e := Fin.ext (by simp [lane])
        rw [el]
        refine congrArg (· * _) ?_
        dsimp only
        unfold pk mv
        refine Finset.sum_congr rfl fun x _ => ?_
        exact congrArg _ (congrArg b2 (congrArg (ix2 x) (Fin.ext (by simp [lane]))))
    have hd : (⟨(256 + x2.val) / 128, by omega⟩ : Fin 4) = 2 := Fin.ext (by simp <;> omega)
    rw [hd]
    unfold katt
    generalize score (fun j => pk b0 b1 b2 p ⟨1536 + j.val, by omega⟩) (fun m j => b8 (ix3 (0 : Fin 1) m j)) (2 : Fin 4) = S at es ⊢
    refine congrArg₂ Ideal.div (Finset.sum_congr rfl fun n _ => congrArg₂ (· * ·) ?_ ?_) (Finset.sum_congr rfl fun n _ => ?_)
    · refine congrArg Ideal.exp2 (congrArg₂ (· * ·) (congrArg₂ (· - ·) (es n) ?_) rfl)
      exact Finset.fold_congr fun n _ => es n
    · rfl
    · refine congrArg Ideal.exp2 (congrArg₂ (· * ·) (congrArg₂ (· - ·) (es n) ?_) rfl)
      exact Finset.fold_congr fun n _ => es n
  · idx_vars x
    generalize hH : k0_pay10 b0 b1 = H
    have hh : ∀ p k, H (ix2 p k) = hk b0 b1 p k := by
      intro p k
      rw [← hH, h_at]
    clear hH
    pointwise [k0_pay84, k0_pay86, k0_pay87, k0_pay88, k0_pay89, k0_pay90, k0_pay91, k0_pay92, k0_pay93, k0_pay94, k0_pay95, k0_pay96]
    obtain rfl : p = x1 := Fin.ext h1
    obtain ⟨j, hj⟩ := j
    dsimp only at h2
    subst h2
    simp only [hh, w_ninf, exp2_scale_eq]
    have es : ∀ m : Fin 256, ∑ e : Fin 128, (∑ x, hk b0 b1 p x * b2 (ix2 x (⟨1536 + (128 + e.val), by omega⟩ : Fin 5120))) * b8 (ix3 (0 : Fin 1) m (⟨128 + e.val, by omega⟩ : Fin 512))
        = score (fun j => pk b0 b1 b2 p ⟨1536 + j.val, by omega⟩) (fun m j => b8 (ix3 (0 : Fin 1) m j)) (1 : Fin 4) m := fun m =>
      Finset.sum_congr rfl fun e _ => by
        have el : (⟨128 + e.val, by omega⟩ : Fin 512) = lane (1 : Fin 4) e := Fin.ext (by simp [lane])
        rw [el]
        refine congrArg (· * _) ?_
        dsimp only
        unfold pk mv
        refine Finset.sum_congr rfl fun x _ => ?_
        exact congrArg _ (congrArg b2 (congrArg (ix2 x) (Fin.ext (by simp [lane]))))
    have hd : (⟨(128 + x2.val) / 128, by omega⟩ : Fin 4) = 1 := Fin.ext (by simp <;> omega)
    rw [hd]
    unfold katt
    generalize score (fun j => pk b0 b1 b2 p ⟨1536 + j.val, by omega⟩) (fun m j => b8 (ix3 (0 : Fin 1) m j)) (1 : Fin 4) = S at es ⊢
    refine congrArg₂ Ideal.div (Finset.sum_congr rfl fun n _ => congrArg₂ (· * ·) ?_ ?_) (Finset.sum_congr rfl fun n _ => ?_)
    · refine congrArg Ideal.exp2 (congrArg₂ (· * ·) (congrArg₂ (· - ·) (es n) ?_) rfl)
      exact Finset.fold_congr fun n _ => es n
    · rfl
    · refine congrArg Ideal.exp2 (congrArg₂ (· * ·) (congrArg₂ (· - ·) (es n) ?_) rfl)
      exact Finset.fold_congr fun n _ => es n
  · idx_vars x
    generalize hH : k0_pay10 b0 b1 = H
    have hh : ∀ p k, H (ix2 p k) = hk b0 b1 p k := by
      intro p k
      rw [← hH, h_at]
    clear hH
    pointwise [k0_pay84, k0_pay86, k0_pay87, k0_pay88, k0_pay89, k0_pay90, k0_pay91, k0_pay92, k0_pay93, k0_pay94, k0_pay95, k0_pay96]
    obtain rfl : p = x1 := Fin.ext h1
    obtain ⟨j, hj⟩ := j
    dsimp only at h2
    subst h2
    simp only [hh, w_ninf, exp2_scale_eq]
    have es : ∀ m : Fin 256, ∑ e : Fin 128, (∑ x, hk b0 b1 p x * b2 (ix2 x (⟨1536 + e.val, by omega⟩ : Fin 5120))) * b8 (ix3 (0 : Fin 1) m (⟨e.val, by omega⟩ : Fin 512))
        = score (fun j => pk b0 b1 b2 p ⟨1536 + j.val, by omega⟩) (fun m j => b8 (ix3 (0 : Fin 1) m j)) (0 : Fin 4) m := fun m =>
      Finset.sum_congr rfl fun e _ => by
        have el : (⟨e.val, by omega⟩ : Fin 512) = lane (0 : Fin 4) e := Fin.ext (by simp [lane])
        rw [el]
        refine congrArg (· * _) ?_
        dsimp only
        unfold pk mv
        refine Finset.sum_congr rfl fun x _ => ?_
        exact congrArg _ (congrArg b2 (congrArg (ix2 x) (Fin.ext (by simp [lane]))))
    have hd : (⟨(x2.val) / 128, by omega⟩ : Fin 4) = 0 := Fin.ext (by simp <;> omega)
    rw [hd]
    unfold katt
    generalize score (fun j => pk b0 b1 b2 p ⟨1536 + j.val, by omega⟩) (fun m j => b8 (ix3 (0 : Fin 1) m j)) (0 : Fin 4) = S at es ⊢
    refine congrArg₂ Ideal.div (Finset.sum_congr rfl fun n _ => congrArg₂ (· * ·) ?_ ?_) (Finset.sum_congr rfl fun n _ => ?_)
    · refine congrArg Ideal.exp2 (congrArg₂ (· * ·) (congrArg₂ (· - ·) (es n) ?_) rfl)
      exact Finset.fold_congr fun n _ => es n
    · rfl
    · refine congrArg Ideal.exp2 (congrArg₂ (· * ·) (congrArg₂ (· - ·) (es n) ?_) rfl)
      exact Finset.fold_congr fun n _ => es n

end Cert.KernelIdeal.Hand

end
-- ==== Proof.Sgu1.lean ====
/- The first call's causal spatial gating: what a grid point leaves in its block, group by group and 128 positions at a time. -/
module

public import proofs.«01_k».proof.Proof.Pay1

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

theorem sge_bit : ∀ p s : Fin 128, IntOp.cmpi CmpIPredicate.sge (BitVec.ofNat 32 p.val) (BitVec.ofNat 32 s.val) = if s.val ≤ p.val then 1#1 else 0#1 := by
  decide +kernel

theorem tril_at (p s : Fin 128) : FloatOps.sitofp (F := Ideal) FTy.f32
    (BitVec.setWidth 32 (IntOp.cmpi CmpIPredicate.sge (BitVec.ofNat 32 p.val) (BitVec.ofNat 32 s.val))) = tril p s := by
  rw [sge_bit, tril]
  split
  · show (((BitVec.setWidth 32 1#1).toInt : ℝ) : EReal) = 1
    simp
  · show (((BitVec.setWidth 32 0#1).toInt : ℝ) : EReal) = 0
    simp

/-- The normalised values of row `p` as the call writes them. -/
def kvn (b0 : Vec Ideal S1x1024x1024 .f32) (b1 : Vec Ideal S1x1024 .f32) (b2 : Vec Ideal S1024x5120 .bf16) (b4 b5 : Vec Ideal S1x512 .f32) (p : Fin 1024) : Fin 512 → EReal :=
  ln (fun k => kgelu (pk b0 b1 b2 p ⟨1024 + k.val, by omega⟩)) (fun k => b4 (ix2 (0 : Fin 1) k)) (fun k => b5 (ix2 (0 : Fin 1) k))

/-- The spatial gating as the call writes it. -/
def ksgu (b0 : Vec Ideal S1x1024x1024 .f32) (b1 : Vec Ideal S1x1024 .f32) (b2 : Vec Ideal S1024x5120 .bf16) (b4 b5 : Vec Ideal S1x512 .f32)
    (b6 : Vec Ideal S4x128x128 .f32) (b7 : Vec Ideal S128x4 .f32) (p : Fin 1024) (j : Fin 512) : EReal :=
  kgelu (pk b0 b1 b2 p ⟨512 + j.val, by omega⟩) * (∑ s : Fin 128, b6 (ix3 (⟨j.val / 128, by omega⟩ : Fin 4) (⟨p.val % 128, by omega⟩ : Fin 128) s)
    * tril ⟨p.val % 128, by omega⟩ s * kvn b0 b1 b2 b4 b5 (⟨p.val / 128 * 128 + s.val, by omega⟩ : Fin 1024) j
    + b7 (ix2 (⟨p.val % 128, by omega⟩ : Fin 128) (⟨j.val / 128, by omega⟩ : Fin 4)))

theorem sgu_piece (b0 : Vec Ideal S1x1024x1024 .f32) (b1 : Vec Ideal S1x1024 .f32) (b2 : Vec Ideal S1024x5120 .bf16) (b4 b5 : Vec Ideal S1x512 .f32)
    (b6 : Vec Ideal S4x128x128 .f32) (b7 : Vec Ideal S128x4 .f32) (u : EReal) (VN : S1024x512.Idx → EReal)
    (hv : ∀ (p : Fin 1024) (j : Fin 512), VN (ix2 p j) = kvn b0 b1 b2 b4 b5 p j) (r : ℕ) (g : Fin 4) (x1 x2 : Fin 128) (p : Fin 1024) (j : Fin 512)
    (h1 : p.val = r * 128 + x1.val) (h2 : j.val = g.val * 128 + x2.val) (hu : u = kgelu (pk b0 b1 b2 p ⟨512 + j.val, by omega⟩))
    (R : Fin 128 → EReal) (hR : ∀ s : Fin 128, R s = VN (ix2 (⟨r * 128 + s.val, by omega⟩ : Fin 1024) j)) :
    u * (∑ s, b6 (ix3 g x1 s) * FloatOps.sitofp (F := Ideal) FTy.f32
        (BitVec.setWidth 32 (IntOp.cmpi CmpIPredicate.sge (BitVec.ofNat 32 x1.val) (BitVec.ofNat 32 s.val))) * R s + b7 (ix2 x1 g))
      = ksgu b0 b1 b2 b4 b5 b6 b7 p j := by
  have e1 : (⟨p.val % 128, by omega⟩ : Fin 128) = x1 := Fin.ext (by simp; omega)
  have e2 : (⟨j.val / 128, by omega⟩ : Fin 4) = g := Fin.ext (by simp; omega)
  have e3 : ∀ s : Fin 128, (⟨p.val / 128 * 128 + s.val, by omega⟩ : Fin 1024) = ⟨r * 128 + s.val, by omega⟩ := fun s => Fin.ext (by simp; omega)
  unfold ksgu
  rw [e1, e2, hu]
  refine congrArg (_ * ·) (congrArg (· + _) (Finset.sum_congr rfl fun s _ => ?_))
  rw [tril_at, hR, hv, e3]

/-- The spatial gating's block. -/
theorem sgu_A (c : Dev nD) (t : Fin cfg0.N) (p : Fin 1024) (j : Fin 512) :
    (outsAt0 m c t).2.2.1 (ix3 (0 : Fin 1) p j)
      = ksgu (iblk m c 0 t) (iblk m c 1 t) (iblk m c 2 t) (iblk m c 4 t) (iblk m c 5 t) (iblk m c 6 t) (iblk m c 7 t) p j := by
  unfold outsAt0
  dsimp only
  frame_open
  simp (disch := decide) only [↓ View.readCov_skip, ↓ View.readCov_cons_toLoadRect, ↓ View.readCov_fill]
  frame_out
  generalize hV : shapeCast S1024x512 (truncf (F := Ideal) FTy.bf16 (addf (F := Ideal) _ _) _) _ = VN
  have hv : ∀ (p : Fin 1024) (j : Fin 512), VN (ix2 p j) = kvn (iblk m c 0 t) (iblk m c 1 t) (iblk m c 2 t) (iblk m c 4 t) (iblk m c 5 t) p j := by
    clear p j
    intro p j
    rw [← hV]
    simp only [Memref.IsWhole.read_unread]
    simp (disch := decide) only [View.ld_unit_lit]
    generalize iblk m c 0 t = b0
    generalize iblk m c 1 t = b1
    generalize iblk m c 2 t = b2
    generalize iblk m c 4 t = b4
    generalize iblk m c 5 t = b5
    pointwise [k0_pay11, k0_pay12]
    simp only [h_at, w_512, w_eps, gelu_half_3_eq, w_2c1]
    rfl
  clear hV
  generalize iblk m c 0 t = b0 at *
  generalize iblk m c 1 t = b1 at *
  generalize iblk m c 2 t = b2 at *
  generalize hU : k0_pay15 (k0_pay10 b0 b1) _ = U
  have hu : ∀ (p : Fin 1024) (j : Fin 512), U (ix2 p j) = kgelu (pk b0 b1 b2 p ⟨512 + j.val, by omega⟩) := by
    intro p j
    rw [← hU]
    pointwise [k0_pay15]
    simp only [h_at, gelu_half_3_eq, w_2c1]
    rfl
  clear hU
  generalize iblk m c 4 t = b4 at *
  generalize iblk m c 5 t = b5 at *
  generalize iblk m c 6 t = b6
  generalize iblk m c 7 t = b7
  canon_tiles x h
  case piece31 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 0 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 0 + s.val = 0 * 128 + s.val
        omega
      · show 0 + x2.val = j.val
        omega
  case piece30 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 1 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 128 + s.val = 1 * 128 + s.val
        omega
      · show 0 + x2.val = j.val
        omega
  case piece29 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 2 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 256 + s.val = 2 * 128 + s.val
        omega
      · show 0 + x2.val = j.val
        omega
  case piece28 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 3 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 384 + s.val = 3 * 128 + s.val
        omega
      · show 0 + x2.val = j.val
        omega
  case piece27 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 4 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 512 + s.val = 4 * 128 + s.val
        omega
      · show 0 + x2.val = j.val
        omega
  case piece26 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 5 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 640 + s.val = 5 * 128 + s.val
        omega
      · show 0 + x2.val = j.val
        omega
  case piece25 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 6 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 768 + s.val = 6 * 128 + s.val
        omega
      · show 0 + x2.val = j.val
        omega
  case piece24 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 7 0 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 896 + s.val = 7 * 128 + s.val
        omega
      · show 0 + x2.val = j.val
        omega
  case piece23 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 0 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 0 + s.val = 0 * 128 + s.val
        omega
      · show 128 + x2.val = j.val
        omega
  case piece22 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 1 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 128 + s.val = 1 * 128 + s.val
        omega
      · show 128 + x2.val = j.val
        omega
  case piece21 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 2 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 256 + s.val = 2 * 128 + s.val
        omega
      · show 128 + x2.val = j.val
        omega
  case piece20 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 3 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 384 + s.val = 3 * 128 + s.val
        omega
      · show 128 + x2.val = j.val
        omega
  case piece19 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 4 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 512 + s.val = 4 * 128 + s.val
        omega
      · show 128 + x2.val = j.val
        omega
  case piece18 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 5 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 640 + s.val = 5 * 128 + s.val
        omega
      · show 128 + x2.val = j.val
        omega
  case piece17 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 6 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 768 + s.val = 6 * 128 + s.val
        omega
      · show 128 + x2.val = j.val
        omega
  case piece16 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 7 1 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 896 + s.val = 7 * 128 + s.val
        omega
      · show 128 + x2.val = j.val
        omega
  case piece15 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 0 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 0 + s.val = 0 * 128 + s.val
        omega
      · show 256 + x2.val = j.val
        omega
  case piece14 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 1 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 128 + s.val = 1 * 128 + s.val
        omega
      · show 256 + x2.val = j.val
        omega
  case piece13 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 2 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 256 + s.val = 2 * 128 + s.val
        omega
      · show 256 + x2.val = j.val
        omega
  case piece12 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 3 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 384 + s.val = 3 * 128 + s.val
        omega
      · show 256 + x2.val = j.val
        omega
  case piece11 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 4 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 512 + s.val = 4 * 128 + s.val
        omega
      · show 256 + x2.val = j.val
        omega
  case piece10 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 5 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 640 + s.val = 5 * 128 + s.val
        omega
      · show 256 + x2.val = j.val
        omega
  case piece9 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 6 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 768 + s.val = 6 * 128 + s.val
        omega
      · show 256 + x2.val = j.val
        omega
  case piece8 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 7 2 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 896 + s.val = 7 * 128 + s.val
        omega
      · show 256 + x2.val = j.val
        omega
  case piece7 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 0 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 0 + s.val = 0 * 128 + s.val
        omega
      · show 384 + x2.val = j.val
        omega
  case piece6 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 1 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 128 + s.val = 1 * 128 + s.val
        omega
      · show 384 + x2.val = j.val
        omega
  case piece5 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 2 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 256 + s.val = 2 * 128 + s.val
        omega
      · show 384 + x2.val = j.val
        omega
  case piece4 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 3 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 384 + s.val = 3 * 128 + s.val
        omega
      · show 384 + x2.val = j.val
        omega
  case piece3 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 4 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 512 + s.val = 4 * 128 + s.val
        omega
      · show 384 + x2.val = j.val
        omega
  case piece2 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 5 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 640 + s.val = 5 * 128 + s.val
        omega
      · show 384 + x2.val = j.val
        omega
  case piece1 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 6 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 768 + s.val = 6 * 128 + s.val
        omega
      · show 384 + x2.val = j.val
        omega
  case piece0 =>
    idx_vars x
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine sgu_piece b0 b1 b2 b4 b5 b6 b7 _ VN hv 7 3 x1 x2 p j (by omega) (by omega) ?_ _ ?_
    · exact (hu _ _).trans (by congr 2 <;> exact Fin.ext (by simp <;> omega))
    · intro s
      refine (congrFun (View.readCov_fill _ _ _ _ _ (by decide)) _).trans (congrArg VN (funext fun a => Fin.ext ?_))
      refine (ValueKit.rect_emb_unit_val _ _ _ _ _).trans ?_
      fin_cases a
      · show 896 + s.val = 7 * 128 + s.val
        omega
      · show 384 + x2.val = j.val
        omega

end Cert.KernelIdeal.Hand

end
-- ==== Proof.Swap1.lean ====
/- The butterfly that exchanges a list of eight arrays with the lane blocks, and with the sublanes, of those arrays. -/
module

public import proofs.«01_k».proof.Proof.Gen.KernelIdeal
public import Idealize.ShloMosaic.Lib.Pipeline.ValueKit
public import Idealize.ShloMosaic.Lib.Pipeline.ReadBack
public import Idealize.ShloMosaic.Lib.Pointwise

@[expose] public section

set_option maxHeartbeats 1000000

noncomputable section

namespace Cert.KernelIdeal.Swap

open Cert.KernelIdeal Cert.KernelIdeal.Gen Idealize.ShloMosaic Idealize.ShloMosaic.TcCoe Idealize.SL.Sem

/-- One array of the list. -/
abbrev Arr := S8x2x8x128.Idx → Ideal .f32

/-- Bit `d` of the lane block (of sixteen lanes) is clear. -/
def laneMask (d : ℕ) : S8x2x8x128.Idx → BitVec 1 := fun j => if (j 3).val / 16 / d % 2 = 0 then 1 else 0

/-- Bit `d` of the sublane is clear. -/
def subMask (d : ℕ) : S8x2x8x128.Idx → BitVec 1 := fun j => if (j 2).val / d % 2 = 0 then 1 else 0

/-- Bit `d` of a list place exchanged with that of a lane block. -/
def laneEx (d : ℕ) (x : ℕ × Fin 128) : ℕ × Fin 128 :=
  if x.2.val / 16 / d % 2 = x.1 / d % 2 then x
  else (if x.1 / d % 2 = 0 then x.1 + d else x.1 - d,
    ⟨(if x.2.val / 16 / d % 2 = 0 then x.2.val + 16 * d else x.2.val - 16 * d) % 128, Nat.mod_lt _ (by decide)⟩)

/-- Bit `d` of a list place exchanged with that of a sublane. -/
def subEx (d : ℕ) (x : ℕ × Fin 8) : ℕ × Fin 8 :=
  if x.2.val / d % 2 = x.1 / d % 2 then x
  else (if x.1 / d % 2 = 0 then x.1 + d else x.1 - d,
    ⟨(if x.2.val / d % 2 = 0 then x.2.val + d else x.2.val - d) % 8, Nat.mod_lt _ (by decide)⟩)

/-- One level of the exchange with the lane blocks. -/
def laneLevel (d : ℕ) (V : ℕ → Arr) (i : ℕ) : Arr := fun j =>
  V (laneEx d (i, j 3)).1 (ix4 (j 0) (j 1) (j 2) (laneEx d (i, j 3)).2)

/-- One level of the exchange with the sublanes. -/
def subLevel (d : ℕ) (V : ℕ → Arr) (i : ℕ) : Arr := fun j =>
  V (subEx d (i, j 2)).1 (ix4 (j 0) (j 1) (subEx d (i, j 2)).2 (j 3))

theorem laneEx_all : ∀ (i : Fin 32) (l : Fin 128), laneEx 4 (laneEx 2 (laneEx 1 (i.val, l)))
    = (i.val / 8 * 8 + l.val / 16, ⟨i.val % 8 * 16 + l.val % 16, by omega⟩) := by decide +kernel

theorem subEx_all : ∀ (i : Fin 32) (u : Fin 8), subEx 4 (subEx 2 (subEx 1 (i.val, u)))
    = (i.val / 8 * 8 + u.val, ⟨i.val % 8, by omega⟩) := by decide +kernel

theorem lane_all (V : ℕ → Arr) (i : ℕ) (hi : i < 32) (s : Fin 8) (h : Fin 2) (u : Fin 8) (l : Fin 128) :
    laneLevel 1 (laneLevel 2 (laneLevel 4 V)) i (ix4 s h u l)
      = V (i / 8 * 8 + l.val / 16) (ix4 s h u (⟨i % 8 * 16 + l.val % 16, by omega⟩ : Fin 128)) := by
  have e := laneEx_all ⟨i, hi⟩ l
  show V (laneEx 4 (laneEx 2 (laneEx 1 (i, l)))).1 (ix4 s h u (laneEx 4 (laneEx 2 (laneEx 1 (i, l)))).2) = _
  rw [e]

theorem sub_all (V : ℕ → Arr) (i : ℕ) (hi : i < 32) (s : Fin 8) (h : Fin 2) (u : Fin 8) (l : Fin 128) :
    subLevel 1 (subLevel 2 (subLevel 4 V)) i (ix4 s h u l)
      = V (i / 8 * 8 + u.val) (ix4 s h (⟨i % 8, by omega⟩ : Fin 8) l) := by
  have e := subEx_all ⟨i, hi⟩ u
  show V (subEx 4 (subEx 2 (subEx 1 (i, u)))).1 (ix4 s h (subEx 4 (subEx 2 (subEx 1 (i, u)))).2 l) = _
  rw [e]

theorem laneMask4 :
    cmpi .eq (andi (select
        (andi (cmpi .ne (subi (extui 32 (cmpi .sgt (iota .tc S8x2x8x128 32 [3] (by decide)) (broadcast S8x2x8x128 0#32)) (by decide))
            (extui 32 (cmpi .slt (iota .tc S8x2x8x128 32 [3] (by decide)) (broadcast S8x2x8x128 0#32)) (by decide))) (broadcast S8x2x8x128 1#32))
          (cmpi .ne (remsi (iota .tc S8x2x8x128 32 [3] (by decide)) (broadcast S8x2x8x128 16#32)) (broadcast S8x2x8x128 0#32)))
        (subi (divsi (iota .tc S8x2x8x128 32 [3] (by decide)) (broadcast S8x2x8x128 16#32)) (broadcast S8x2x8x128 1#32))
        (divsi (iota .tc S8x2x8x128 32 [3] (by decide)) (broadcast S8x2x8x128 16#32))) (broadcast S8x2x8x128 4#32)) (broadcast S8x2x8x128 0#32)
      = laneMask 4 := by
  funext j
  idx_vars j
  pointwise [laneMask]
  show _ = if j3.val / 16 / 4 % 2 = 0 then (1 : BitVec 1) else 0
  clear j0 j1 j2
  revert j3
  decide +kernel

theorem subMask4 :
    cmpi .eq (andi (iota .tc S8x2x8x128 32 [2] (by decide)) (broadcast S8x2x8x128 4#32)) (broadcast S8x2x8x128 0#32) = subMask 4 := by
  funext j
  idx_vars j
  pointwise [subMask]
  show _ = if j2.val / 4 % 2 = 0 then (1 : BitVec 1) else 0
  clear j0 j1 j3
  revert j2
  decide +kernel

theorem laneLo4 (V : ℕ → Arr) (i k : ℕ) (h : S8x2x8x128.Rotates 3 none) (hk : k = i + 4) (hi : i / 4 % 2 = 0) :
    select (laneMask 4) (V i) (dynamicRotate 3 (64#32) none (V k) h) = laneLevel 4 V i := by
  subst hk
  funext j
  idx_vars j
  show (if (laneMask 4) (ix4 j0 j1 j2 j3) = 1 then _ else _) = _
  unfold laneMask laneLevel laneEx
  simp only [hi, if_true]
  by_cases hb : j3.val / 16 / 4 % 2 = 0
  · rw [if_pos (by rw [if_pos (show ((ix4 j0 j1 j2 j3 : S8x2x8x128.Idx) 3).val / 16 / 4 % 2 = 0 from hb)]), if_pos (show ((ix4 j0 j1 j2 j3 : S8x2x8x128.Idx) 3).val / 16 / 4 % 2 = 0 from hb)]
    rfl
  · rw [if_neg (by rw [if_neg (show ¬((ix4 j0 j1 j2 j3 : S8x2x8x128.Idx) 3).val / 16 / 4 % 2 = 0 from hb)]; decide), if_neg (show ¬((ix4 j0 j1 j2 j3 : S8x2x8x128.Idx) 3).val / 16 / 4 % 2 = 0 from hb)]
    refine congrArg (V (i + 4)) (funext fun b => ?_)
    fin_cases b
    · rfl
    · rfl
    · rfl
    · apply Fin.ext
      show (j3.val + 128 - 64 % 128) % 128 = (if j3.val / 16 / 4 % 2 = 0 then j3.val + 16 * 4 else j3.val - 16 * 4) % 128
      rw [if_neg hb]
      have := j3.isLt
      omega

theorem laneHi4 (V : ℕ → Arr) (i k : ℕ) (h : S8x2x8x128.Rotates 3 none) (hk : k = i + 4) (hi : i / 4 % 2 = 0) :
    select (laneMask 4) (dynamicRotate 3 (64#32) none (V i) h) (V k) = laneLevel 4 V k := by
  have hi' : (i + 4) / 4 % 2 = 1 := by omega
  subst hk
  funext j
  idx_vars j
  show (if (laneMask 4) (ix4 j0 j1 j2 j3) = 1 then _ else _) = _
  unfold laneMask laneLevel laneEx
  simp only [hi', one_ne_zero, if_false]
  rw [show i + 4 - 4 = i by omega]
  by_cases hb : j3.val / 16 / 4 % 2 = 0
  · rw [if_pos (by rw [if_pos (show ((ix4 j0 j1 j2 j3 : S8x2x8x128.Idx) 3).val / 16 / 4 % 2 = 0 from hb)]), if_neg (show ¬((ix4 j0 j1 j2 j3 : S8x2x8x128.Idx) 3).val / 16 / 4 % 2 = 1 from by
      show ¬(j3.val / 16 / 4 % 2 = 1); omega)]
    refine congrArg (V i) (funext fun b => ?_)
    fin_cases b
    · rfl
    · rfl
    · rfl
    · apply Fin.ext
      show (j3.val + 128 - 64 % 128) % 128 = (if j3.val / 16 / 4 % 2 = 0 then j3.val + 16 * 4 else j3.val - 16 * 4) % 128
      rw [if_pos hb]
      have := j3.isLt
      omega
  · rw [if_neg (by rw [if_neg (show ¬((ix4 j0 j1 j2 j3 : S8x2x8x128.Idx) 3).val / 16 / 4 % 2 = 0 from hb)]; decide), if_pos (show ((ix4 j0 j1 j2 j3 : S8x2x8x128.Idx) 3).val / 16 / 4 % 2 = 1 from by
      show (j3.val / 16 / 4 % 2 = 1); omega)]
    rfl

theorem subLo4 (V : ℕ → Arr) (i k : ℕ) (h : S8x2x8x128.Rotates 2 none) (hk : k = i + 4) (hi : i / 4 % 2 = 0) :
    select (subMask 4) (V i) (dynamicRotate 2 (4#32) none (V k) h) = subLevel 4 V i := by
  subst hk
  funext j
  idx_vars j
  show (if (subMask 4) (ix4 j0 j1 j2 j3) = 1 then _ else _) = _
  unfold subMask subLevel subEx
  simp only [hi, if_true]
  by_cases hb : j2.val / 4 % 2 = 0
  · rw [if_pos (by rw [if_pos (show ((ix4 j0 j1 j2 j3 : S8x2x8x128.Idx) 2).val / 4 % 2 = 0 from hb)]), if_pos (show ((ix4 j0 j1 j2 j3 : S8x2x8x128.Idx) 2).val / 4 % 2 = 0 from hb)]
    rfl
  · rw [if_neg (by rw [if_neg (show ¬((ix4 j0 j1 j2 j3 : S8x2x8x128.Idx) 2).val / 4 % 2 = 0 from hb)]; decide), if_neg (show ¬((ix4 j0 j1 j2 j3 : S8x2x8x128.Idx) 2).val / 4 % 2 = 0 from hb)]
    refine congrArg (V (i + 4)) (funext fun b => ?_)
    fin_cases b
    · rfl
    · rfl
    · apply Fin.ext
      show (j2.val + 8 - 4 % 8) % 8 = (if j2.val / 4 % 2 = 0 then j2.val + 4 else j2.val - 4) % 8
      rw [if_neg hb]
      have := j2.isLt
      omega
    · rfl

theorem subHi4 (V : ℕ → Arr) (i k : ℕ) (h : S8x2x8x128.Rotates 2 none) (hk : k = i + 4) (hi : i / 4 % 2 = 0) :
    select (subMask 4) (dynamicRotate 2 (4#32) none (V i) h) (V k) = subLevel 4 V k := by
  have hi' : (i + 4) / 4 % 2 = 1 := by omega
  subst hk
  funext j
  idx_vars j
  show (if (subMask 4) (ix4 j0 j1 j2 j3) = 1 then _ else _) = _
  unfold subMask subLevel subEx
  simp only [hi', one_ne_zero, if_false]
  rw [show i + 4 - 4 = i by omega]
  by_cases hb : j2.val / 4 % 2 = 0
  · rw [if_pos (by rw [if_pos (show ((ix4 j0 j1 j2 j3 : S8x2x8x128.Idx) 2).val / 4 % 2 = 0 from hb)]), if_neg (show ¬((ix4 j0 j1 j2 j3 : S8x2x8x128.Idx) 2).val / 4 % 2 = 1 from by
      show ¬(j2.val / 4 % 2 = 1); omega)]
    refine congrArg (V i) (funext fun b => ?_)
    fin_cases b
    · rfl
    · rfl
    · apply Fin.ext
      show (j2.val + 8 - 4 % 8) % 8 = (if j2.val / 4 % 2 = 0 then j2.val + 4 else j2.val - 4) % 8
      rw [if_pos hb]
      have := j2.isLt
      omega
    · rfl
  · rw [if_neg (by rw [if_neg (show ¬((ix4 j0 j1 j2 j3 : S8x2x8x128.Idx) 2).val / 4 % 2 = 0 from hb)]; decide), if_pos (show ((ix4 j0 j1 j2 j3 : S8x2x8x128.Idx) 2).val / 4 % 2 = 1 from by
      show (j2.val / 4 % 2 = 1); omega)]
    rfl

theorem laneMask2 :
    cmpi .eq (andi (select
        (andi (cmpi .ne (subi (extui 32 (cmpi .sgt (iota .tc S8x2x8x128 32 [3] (by decide)) (broadcast S8x2x8x128 0#32)) (by decide))
            (extui 32 (cmpi .slt (iota .tc S8x2x8x128 32 [3] (by decide)) (broadcast S8x2x8x128 0#32)) (by decide))) (broadcast S8x2x8x128 1#32))
          (cmpi .ne (remsi (iota .tc S8x2x8x128 32 [3] (by decide)) (broadcast S8x2x8x128 16#32)) (broadcast S8x2x8x128 0#32)))
        (subi (divsi (iota .tc S8x2x8x128 32 [3] (by decide)) (broadcast S8x2x8x128 16#32)) (broadcast S8x2x8x128 1#32))
        (divsi (iota .tc S8x2x8x128 32 [3] (by decide)) (broadcast S8x2x8x128 16#32))) (broadcast S8x2x8x128 2#32)) (broadcast S8x2x8x128 0#32)
      = laneMask 2 := by
  funext j
  idx_vars j
  pointwise [laneMask]
  show _ = if j3.val / 16 / 2 % 2 = 0 then (1 : BitVec 1) else 0
  clear j0 j1 j2
  revert j3
  decide +kernel

theorem subMask2 :
    cmpi .eq (andi (iota .tc S8x2x8x128 32 [2] (by decide)) (broadcast S8x2x8x128 2#32)) (broadcast S8x2x8x128 0#32) = subMask 2 := by
  funext j
  idx_vars j
  pointwise [subMask]
  show _ = if j2.val / 2 % 2 = 0 then (1 : BitVec 1) else 0
  clear j0 j1 j3
  revert j2
  decide +kernel

theorem laneLo2 (V : ℕ → Arr) (i k : ℕ) (h : S8x2x8x128.Rotates 3 none) (hk : k = i + 2) (hi : i / 2 % 2 = 0) :
    select (laneMask 2) (V i) (dynamicRotate 3 (32#32) none (V k) h) = laneLevel 2 V i := by
  subst hk
  funext j
  idx_vars j
  show (if (laneMask 2) (ix4 j0 j1 j2 j3) = 1 then _ else _) = _
  unfold laneMask laneLevel laneEx
  simp only [hi, if_true]
  by_cases hb : j3.val / 16 / 2 % 2 = 0
  · rw [if_pos (by rw [if_pos (show ((ix4 j0 j1 j2 j3 : S8x2x8x128.Idx) 3).val / 16 / 2 % 2 = 0 from hb)]), if_pos (show ((ix4 j0 j1 j2 j3 : S8x2x8x128.Idx) 3).val / 16 / 2 % 2 = 0 from hb)]
    rfl
  · rw [if_neg (by rw [if_neg (show ¬((ix4 j0 j1 j2 j3 : S8x2x8x128.Idx) 3).val / 16 / 2 % 2 = 0 from hb)]; decide), if_neg (show ¬((ix4 j0 j1 j2 j3 : S8x2x8x128.Idx) 3).val / 16 / 2 % 2 = 0 from hb)]
    refine congrArg (V (i + 2)) (funext fun b => ?_)
    fin_cases b
    · rfl
    · rfl
    · rfl
    · apply Fin.ext
      show (j3.val + 128 - 32 % 128) % 128 = (if j3.val / 16 / 2 % 2 = 0 then j3.val + 16 * 2 else j3.val - 16 * 2) % 128
      rw [if_neg hb]
      have := j3.isLt
      omega

theorem laneHi2 (V : ℕ → Arr) (i k : ℕ) (h : S8x2x8x128.Rotates 3 none) (hk : k = i + 2) (hi : i / 2 % 2 = 0) :
    select (laneMask 2) (dynamicRotate 3 (96#32) none (V i) h) (V k) = laneLevel 2 V k := by
  have hi' : (i + 2) / 2 % 2 = 1 := by omega
  subst hk
  funext j
  idx_vars j
  show (if (laneMask 2) (ix4 j0 j1 j2 j3) = 1 then _ else _) = _
  unfold laneMask laneLevel laneEx
  simp only [hi', one_ne_zero, if_false]
  rw [show i + 2 - 2 = i by omega]
  by_cases hb : j3.val / 16 / 2 % 2 = 0
  · rw [if_pos (by rw [if_pos (show ((ix4 j0 j1 j2 j3 : S8x2x8x128.Idx) 3).val / 16 / 2 % 2 = 0 from hb)]), if_neg (show ¬((ix4 j0 j1 j2 j3 : S8x2x8x128.Idx) 3).val / 16 / 2 % 2 = 1 from by
      show ¬(j3.val / 16 / 2 % 2 = 1); omega)]
    refine congrArg (V i) (funext fun b => ?_)
    fin_cases b
    · rfl
    · rfl
    · rfl
    · apply Fin.ext
      show (j3.val + 128 - 96 % 128) % 128 = (if j3.val / 16 / 2 % 2 = 0 then j3.val + 16 * 2 else j3.val - 16 * 2) % 128
      rw [if_pos hb]
      have := j3.isLt
      omega
  · rw [if_neg (by rw [if_neg (show ¬((ix4 j0 j1 j2 j3 : S8x2x8x128.Idx) 3).val / 16 / 2 % 2 = 0 from hb)]; decide), if_pos (show ((ix4 j0 j1 j2 j3 : S8x2x8x128.Idx) 3).val / 16 / 2 % 2 = 1 from by
      show (j3.val / 16 / 2 % 2 = 1); omega)]
    rfl

theorem subLo2 (V : ℕ → Arr) (i k : ℕ) (h : S8x2x8x128.Rotates 2 none) (hk : k = i + 2) (hi : i / 2 % 2 = 0) :
    select (subMask 2) (V i) (dynamicRotate 2 (2#32) none (V k) h) = subLevel 2 V i := by
  subst hk
  funext j
  idx_vars j
  show (if (subMask 2) (ix4 j0 j1 j2 j3) = 1 then _ else _) = _
  unfold subMask subLevel subEx
  simp only [hi, if_true]
  by_cases hb : j2.val / 2 % 2 = 0
  · rw [if_pos (by rw [if_pos (show ((ix4 j0 j1 j2 j3 : S8x2x8x128.Idx) 2).val / 2 % 2 = 0 from hb)]), if_pos (show ((ix4 j0 j1 j2 j3 : S8x2x8x128.Idx) 2).val / 2 % 2 = 0 from hb)]
    rfl
  · rw [if_neg (by rw [if_neg (show ¬((ix4 j0 j1 j2 j3 : S8x2x8x128.Idx) 2).val / 2 % 2 = 0 from hb)]; decide), if_neg (show ¬((ix4 j0 j1 j2 j3 : S8x2x8x128.Idx) 2).val / 2 % 2 = 0 from hb)]
    refine congrArg (V (i + 2)) (funext fun b => ?_)
    fin_cases b
    · rfl
    · rfl
    · apply Fin.ext
      show (j2.val + 8 - 2 % 8) % 8 = (if j2.val / 2 % 2 = 0 then j2.val + 2 else j2.val - 2) % 8
      rw [if_neg hb]
      have := j2.isLt
      omega
    · rfl

theorem subHi2 (V : ℕ → Arr) (i k : ℕ) (h : S8x2x8x128.Rotates 2 none) (hk : k = i + 2) (hi : i / 2 % 2 = 0) :
    select (subMask 2) (dynamicRotate 2 (6#32) none (V i) h) (V k) = subLevel 2 V k := by
  have hi' : (i + 2) / 2 % 2 = 1 := by omega
  subst hk
  funext j
  idx_vars j
  show (if (subMask 2) (ix4 j0 j1 j2 j3) = 1 then _ else _) = _
  unfold subMask subLevel subEx
  simp only [hi', one_ne_zero, if_false]
  rw [show i + 2 - 2 = i by omega]
  by_cases hb : j2.val / 2 % 2 = 0
  · rw [if_pos (by rw [if_pos (show ((ix4 j0 j1 j2 j3 : S8x2x8x128.Idx) 2).val / 2 % 2 = 0 from hb)]), if_neg (show ¬((ix4 j0 j1 j2 j3 : S8x2x8x128.Idx) 2).val / 2 % 2 = 1 from by
      show ¬(j2.val / 2 % 2 = 1); omega)]
    refine congrArg (V i) (funext fun b => ?_)
    fin_cases b
    · rfl
    · rfl
    · apply Fin.ext
      show (j2.val + 8 - 6 % 8) % 8 = (if j2.val / 2 % 2 = 0 then j2.val + 2 else j2.val - 2) % 8
      rw [if_pos hb]
      have := j2.isLt
      omega
    · rfl
  · rw [if_neg (by rw [if_neg (show ¬((ix4 j0 j1 j2 j3 : S8x2x8x128.Idx) 2).val / 2 % 2 = 0 from hb)]; decide), if_pos (show ((ix4 j0 j1 j2 j3 : S8x2x8x128.Idx) 2).val / 2 % 2 = 1 from by
      show (j2.val / 2 % 2 = 1); omega)]
    rfl

theorem laneMask1 :
    cmpi .eq (andi (select
        (andi (cmpi .ne (subi (extui 32 (cmpi .sgt (iota .tc S8x2x8x128 32 [3] (by decide)) (broadcast S8x2x8x128 0#32)) (by decide))
            (extui 32 (cmpi .slt (iota .tc S8x2x8x128 32 [3] (by decide)) (broadcast S8x2x8x128 0#32)) (by decide))) (broadcast S8x2x8x128 1#32))
          (cmpi .ne (remsi (iota .tc S8x2x8x128 32 [3] (by decide)) (broadcast S8x2x8x128 16#32)) (broadcast S8x2x8x128 0#32)))
        (subi (divsi (iota .tc S8x2x8x128 32 [3] (by decide)) (broadcast S8x2x8x128 16#32)) (broadcast S8x2x8x128 1#32))
        (divsi (iota .tc S8x2x8x128 32 [3] (by decide)) (broadcast S8x2x8x128 16#32))) (broadcast S8x2x8x128 1#32)) (broadcast S8x2x8x128 0#32)
      = laneMask 1 := by
  funext j
  idx_vars j
  pointwise [laneMask]
  show _ = if j3.val / 16 % 2 = 0 then (1 : BitVec 1) else 0
  clear j0 j1 j2
  revert j3
  decide +kernel

theorem subMask1 :
    cmpi .eq (andi (iota .tc S8x2x8x128 32 [2] (by decide)) (broadcast S8x2x8x128 1#32)) (broadcast S8x2x8x128 0#32) = subMask 1 := by
  funext j
  idx_vars j
  pointwise [subMask]
  show _ = if j2.val % 2 = 0 then (1 : BitVec 1) else 0
  clear j0 j1 j3
  revert j2
  decide +kernel

theorem laneLo1 (V : ℕ → Arr) (i k : ℕ) (h : S8x2x8x128.Rotates 3 none) (hk : k = i + 1) (hi : i / 1 % 2 = 0) :
    select (laneMask 1) (V i) (dynamicRotate 3 (16#32) none (V k) h) = laneLevel 1 V i := by
  subst hk
  funext j
  idx_vars j
  show (if (laneMask 1) (ix4 j0 j1 j2 j3) = 1 then _ else _) = _
  unfold laneMask laneLevel laneEx
  simp only [hi, if_true]
  by_cases hb : j3.val / 16 / 1 % 2 = 0
  · rw [if_pos (by rw [if_pos (show ((ix4 j0 j1 j2 j3 : S8x2x8x128.Idx) 3).val / 16 / 1 % 2 = 0 from hb)]), if_pos (show ((ix4 j0 j1 j2 j3 : S8x2x8x128.Idx) 3).val / 16 / 1 % 2 = 0 from hb)]
    rfl
  · rw [if_neg (by rw [if_neg (show ¬((ix4 j0 j1 j2 j3 : S8x2x8x128.Idx) 3).val / 16 / 1 % 2 = 0 from hb)]; decide), if_neg (show ¬((ix4 j0 j1 j2 j3 : S8x2x8x128.Idx) 3).val / 16 / 1 % 2 = 0 from hb)]
    refine congrArg (V (i + 1)) (funext fun b => ?_)
    fin_cases b
    · rfl
    · rfl
    · rfl
    · apply Fin.ext
      show (j3.val + 128 - 16 % 128) % 128 = (if j3.val / 16 / 1 % 2 = 0 then j3.val + 16 * 1 else j3.val - 16 * 1) % 128
      rw [if_neg hb]
      have := j3.isLt
      omega

theorem laneHi1 (V : ℕ → Arr) (i k : ℕ) (h : S8x2x8x128.Rotates 3 none) (hk : k = i + 1) (hi : i / 1 % 2 = 0) :
    select (laneMask 1) (dynamicRotate 3 (112#32) none (V i) h) (V k) = laneLevel 1 V k := by
  have hi' : (i + 1) / 1 % 2 = 1 := by omega
  subst hk
  funext j
  idx_vars j
  show (if (laneMask 1) (ix4 j0 j1 j2 j3) = 1 then _ else _) = _
  unfold laneMask laneLevel laneEx
  simp only [hi', one_ne_zero, if_false]
  rw [show i + 1 - 1 = i by omega]
  by_cases hb : j3.val / 16 / 1 % 2 = 0
  · rw [if_pos (by rw [if_pos (show ((ix4 j0 j1 j2 j3 : S8x2x8x128.Idx) 3).val / 16 / 1 % 2 = 0 from hb)]), if_neg (show ¬((ix4 j0 j1 j2 j3 : S8x2x8x128.Idx) 3).val / 16 / 1 % 2 = 1 from by
      show ¬(j3.val / 16 / 1 % 2 = 1); omega)]
    refine congrArg (V i) (funext fun b => ?_)
    fin_cases b
    · rfl
    · rfl
    · rfl
    · apply Fin.ext
      show (j3.val + 128 - 112 % 128) % 128 = (if j3.val / 16 / 1 % 2 = 0 then j3.val + 16 * 1 else j3.val - 16 * 1) % 128
      rw [if_pos hb]
      have := j3.isLt
      omega
  · rw [if_neg (by rw [if_neg (show ¬((ix4 j0 j1 j2 j3 : S8x2x8x128.Idx) 3).val / 16 / 1 % 2 = 0 from hb)]; decide), if_pos (show ((ix4 j0 j1 j2 j3 : S8x2x8x128.Idx) 3).val / 16 / 1 % 2 = 1 from by
      show (j3.val / 16 / 1 % 2 = 1); omega)]
    rfl

theorem subLo1 (V : ℕ → Arr) (i k : ℕ) (h : S8x2x8x128.Rotates 2 none) (hk : k = i + 1) (hi : i / 1 % 2 = 0) :
    select (subMask 1) (V i) (dynamicRotate 2 (1#32) none (V k) h) = subLevel 1 V i := by
  subst hk
  funext j
  idx_vars j
  show (if (subMask 1) (ix4 j0 j1 j2 j3) = 1 then _ else _) = _
  unfold subMask subLevel subEx
  simp only [hi, if_true]
  by_cases hb : j2.val / 1 % 2 = 0
  · rw [if_pos (by rw [if_pos (show ((ix4 j0 j1 j2 j3 : S8x2x8x128.Idx) 2).val / 1 % 2 = 0 from hb)]), if_pos (show ((ix4 j0 j1 j2 j3 : S8x2x8x128.Idx) 2).val / 1 % 2 = 0 from hb)]
    rfl
  · rw [if_neg (by rw [if_neg (show ¬((ix4 j0 j1 j2 j3 : S8x2x8x128.Idx) 2).val / 1 % 2 = 0 from hb)]; decide), if_neg (show ¬((ix4 j0 j1 j2 j3 : S8x2x8x128.Idx) 2).val / 1 % 2 = 0 from hb)]
    refine congrArg (V (i + 1)) (funext fun b => ?_)
    fin_cases b
    · rfl
    · rfl
    · apply Fin.ext
      show (j2.val + 8 - 1 % 8) % 8 = (if j2.val / 1 % 2 = 0 then j2.val + 1 else j2.val - 1) % 8
      rw [if_neg hb]
      have := j2.isLt
      omega
    · rfl

theorem subHi1 (V : ℕ → Arr) (i k : ℕ) (h : S8x2x8x128.Rotates 2 none) (hk : k = i + 1) (hi : i / 1 % 2 = 0) :
    select (subMask 1) (dynamicRotate 2 (7#32) none (V i) h) (V k) = subLevel 1 V k := by
  have hi' : (i + 1) / 1 % 2 = 1 := by omega
  subst hk
  funext j
  idx_vars j
  show (if (subMask 1) (ix4 j0 j1 j2 j3) = 1 then _ else _) = _
  unfold subMask subLevel subEx
  simp only [hi', one_ne_zero, if_false]
  rw [show i + 1 - 1 = i by omega]
  by_cases hb : j2.val / 1 % 2 = 0
  · rw [if_pos (by rw [if_pos (show ((ix4 j0 j1 j2 j3 : S8x2x8x128.Idx) 2).val / 1 % 2 = 0 from hb)]), if_neg (show ¬((ix4 j0 j1 j2 j3 : S8x2x8x128.Idx) 2).val / 1 % 2 = 1 from by
      show ¬(j2.val / 1 % 2 = 1); omega)]
    refine congrArg (V i) (funext fun b => ?_)
    fin_cases b
    · rfl
    · rfl
    · apply Fin.ext
      show (j2.val + 8 - 7 % 8) % 8 = (if j2.val / 1 % 2 = 0 then j2.val + 1 else j2.val - 1) % 8
      rw [if_pos hb]
      have := j2.isLt
      omega
    · rfl
  · rw [if_neg (by rw [if_neg (show ¬((ix4 j0 j1 j2 j3 : S8x2x8x128.Idx) 2).val / 1 % 2 = 0 from hb)]; decide), if_pos (show ((ix4 j0 j1 j2 j3 : S8x2x8x128.Idx) 2).val / 1 % 2 = 1 from by
      show (j2.val / 1 % 2 = 1); omega)]
    rfl

/-- Tokens `16 n + c` of a tile, their columns' lane block `i / 8`: one array of the list. -/
def leaf (Z : S1024x512.Idx → Ideal .f32) (i : ℕ) : Arr := fun j =>
  Z (ix2 (⟨((j 0).val * 128 + i % 8 * 16 + (j 1).val * 8 + (j 2).val) % 1024, Nat.mod_lt _ (by decide)⟩ : Fin 1024)
    (⟨(i / 8 * 128 + (j 3).val) % 512, Nat.mod_lt _ (by decide)⟩ : Fin 512))

theorem leaf_of (Z : S1024x512.Idx → Ideal .f32) (c L i : ℕ) (h1 : S1024x512.ShapeCasts S8x8x2x8x512)
    (h2 : S8x8x2x8x512.Slices ![0, c, 0, 0, L] S8x1x2x8x128) (h3 : S8x1x2x8x128.ShapeCasts S8x2x8x128) (hi : i = L / 128 * 8 + c) (hL : L % 128 = 0 ∧ L < 512) (hc : c < 8) :
    shapeCast S8x2x8x128 (extractStridedSlice S8x1x2x8x128 ![0, c, 0, 0, L] (shapeCast S8x8x2x8x512 Z h1) h2) h3 = leaf Z i := by
  funext j
  idx_vars j
  pointwise [leaf]
  have b0 : j0.val < 8 := j0.isLt
  have b1 : j1.val < 2 := j1.isLt
  have b2 : j2.val < 8 := j2.isLt
  have b3 : j3.val < 128 := j3.isLt
  refine congrArg Z (funext fun a => Fin.ext ?_)
  obtain ⟨hL0, hL1⟩ := hL
  fin_cases a
  · show j0.val * 128 + c * 16 + j1.val * 8 + j2.val = (j0.val * 128 + i % 8 * 16 + j1.val * 8 + j2.val) % 1024
    omega
  · show L + j3.val = (i / 8 * 128 + j3.val) % 512
    omega

/-- One array's two halves side by side, as 64 rows. -/
theorem rows_of (w : Arr) (r : Fin 64) (l : Fin 256) (o : Fin 1) :
    shapeCast S1x64x256 (truncf (F := Ideal) .bf16 (shapeCast S64x256 (concatenate (α := Ideal .f32) S8x8x256 2
      [⟨S8x8x128, shapeCast S8x8x128 (extractStridedSlice S8x1x8x128 ![0, 0, 0, 0] w (by decide)) (by decide)⟩,
       ⟨S8x8x128, shapeCast S8x8x128 (extractStridedSlice S8x1x8x128 ![0, 1, 0, 0] w (by decide)) (by decide)⟩]
      concatenates_S8x8x128_S8x8x128_S8x8x256_d2) (by decide)) (by decide)) (by decide) (ix3 o r l)
      = w (ix4 (⟨r.val / 8, by omega⟩ : Fin 8) (⟨l.val / 128, by omega⟩ : Fin 2) (⟨r.val % 8, by omega⟩ : Fin 8) (⟨l.val % 128, by omega⟩ : Fin 128)) := by
  have e : ∀ j : S8x8x256.Idx, concatenate (α := Ideal .f32) S8x8x256 2
      [⟨S8x8x128, shapeCast S8x8x128 (extractStridedSlice S8x1x8x128 ![0, 0, 0, 0] w (by decide)) (by decide)⟩,
       ⟨S8x8x128, shapeCast S8x8x128 (extractStridedSlice S8x1x8x128 ![0, 1, 0, 0] w (by decide)) (by decide)⟩]
      concatenates_S8x8x128_S8x8x128_S8x8x256_d2 j
      = w (ix4 (j 0) (⟨(j 2).val / 128, by have := (j 2).isLt; change (j 2).val < 256 at this; omega⟩ : Fin 2) (j 1) (⟨(j 2).val % 128, by omega⟩ : Fin 128)) := by
    intro j
    idx_vars j
    pointwise
    have b2 : j2.val < 256 := j2.isLt
    split
    · refine congrArg w (funext fun a => Fin.ext ?_)
      fin_cases a
      · rfl
      · show 0 = j2.val / 128
        omega
      · rfl
      · show j2.val = j2.val % 128
        omega
    · refine congrArg w (funext fun a => Fin.ext ?_)
      fin_cases a
      · rfl
      · show 1 = j2.val / 128
        omega
      · rfl
      · show j2.val - 128 = j2.val % 128
        omega
  generalize hC : concatenate (α := Ideal .f32) S8x8x256 2 _ _ = C at e ⊢
  pointwise
  exact e _

/-- All six levels. -/
def full (V : ℕ → Arr) : ℕ → Arr := laneLevel 1 (laneLevel 2 (laneLevel 4 (subLevel 1 (subLevel 2 (subLevel 4 V)))))

theorem full_at (Z : S1024x512.Idx → Ideal .f32) (i : ℕ) (hi : i < 32) (s : Fin 8) (h : Fin 2) (u : Fin 8) (l : Fin 128) :
    full (leaf Z) i (ix4 s h u l) = Z (ix2 (⟨s.val * 128 + u.val * 16 + h.val * 8 + l.val / 16, by omega⟩ : Fin 1024)
      (⟨i * 16 + l.val % 16, by omega⟩ : Fin 512)) := by
  refine (lane_all _ i hi s h u l).trans ((sub_all _ _ (by omega) s h u _).trans ?_)
  unfold leaf
  refine congrArg Z (funext fun a => Fin.ext ?_)
  fin_cases a
  · show (s.val * 128 + ((i / 8 * 8 + l.val / 16) / 8 * 8 + u.val) % 8 * 16 + h.val * 8 + (i / 8 * 8 + l.val / 16) % 8) % 1024 = s.val * 128 + u.val * 16 + h.val * 8 + l.val / 16
    omega
  · show (((i / 8 * 8 + l.val / 16) / 8 * 8 + u.val) / 8 * 128 + (i % 8 * 16 + l.val % 16)) % 512 = i * 16 + l.val % 16
    omega

/-- One group's rows. -/
theorem group_at (Z : S1024x512.Idx → Ideal .f32) (w : Arr) (i : ℕ) (hi : i < 32) (hw : w = full (leaf Z) i) (r : Fin 64) (l : Fin 256) :
    w (ix4 (⟨r.val / 8, by omega⟩ : Fin 8) (⟨l.val / 128, by omega⟩ : Fin 2) (⟨r.val % 8, by omega⟩ : Fin 8) (⟨l.val % 128, by omega⟩ : Fin 128))
      = Z (ix2 (⟨r.val * 16 + l.val / 16, by omega⟩ : Fin 1024) (⟨i * 16 + l.val % 16, by omega⟩ : Fin 512)) := by
  rw [hw]
  refine (full_at Z i hi _ _ _ _).trans (congrArg Z (funext fun a => Fin.ext ?_))
  fin_cases a
  · show r.val / 8 * 128 + r.val % 8 * 16 + l.val / 128 * 8 + l.val % 128 / 16 = r.val * 16 + l.val / 16
    omega
  · show i * 16 + l.val % 128 % 16 = i * 16 + l.val % 16
    omega

end Cert.KernelIdeal.Swap

end
-- ==== Proof.Uvec1.lean ====
/- The first call's regrouped recurrence input: the tile after the exchanges of lanes and sublanes, one group of sixteen channels
   at a time. -/
module

public import proofs.«01_k».proof.Proof.Pay1
public import proofs.«01_k».proof.Proof.Swap1

@[expose] public section

set_option maxRecDepth 16384
set_option maxHeartbeats 40000000

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- A group's row of the block: sixteen positions of its sixteen channels. -/
theorem uvec_A (c : Dev nD) (t : Fin cfg0.N) (g : Fin 32) (r : Fin 64) (l : Fin 256) :
    (outsAt0 m c t).2.1 (ix3 g r l) = pk (iblk m c 0 t) (iblk m c 1 t) (iblk m c 2 t)
      (⟨r.val * 16 + l.val / 16, by omega⟩ : Fin 1024) ⟨g.val * 16 + l.val % 16, by omega⟩ := by
  unfold outsAt0
  dsimp only
  frame_open
  frame_out
  generalize iblk m c 0 t = b0
  generalize iblk m c 1 t = b1
  generalize iblk m c 2 t = b2
  change Vec Ideal S1024x5120 .bf16 at b2
  canon_tiles x h
  case piece31 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneLo4 (Swap.subLevel 1 (Swap.subLevel 2 (Swap.subLevel 4 (Swap.leaf Z)))) 0 4 _ rfl rfl, Swap.laneLo4 (Swap.subLevel 1 (Swap.subLevel 2 (Swap.subLevel 4 (Swap.leaf Z)))) 1 5 _ rfl rfl, Swap.laneLo4 (Swap.subLevel 1 (Swap.subLevel 2 (Swap.subLevel 4 (Swap.leaf Z)))) 2 6 _ rfl rfl, Swap.laneLo4 (Swap.subLevel 1 (Swap.subLevel 2 (Swap.subLevel 4 (Swap.leaf Z)))) 3 7 _ rfl rfl]
    rw [Swap.laneLo2 (Swap.laneLevel 4 (Swap.subLevel 1 (Swap.subLevel 2 (Swap.subLevel 4 (Swap.leaf Z))))) 0 2 _ rfl rfl, Swap.laneLo2 (Swap.laneLevel 4 (Swap.subLevel 1 (Swap.subLevel 2 (Swap.subLevel 4 (Swap.leaf Z))))) 1 3 _ rfl rfl]
    rw [Swap.laneLo1 (Swap.laneLevel 2 (Swap.laneLevel 4 (Swap.subLevel 1 (Swap.subLevel 2 (Swap.subLevel 4 (Swap.leaf Z)))))) 0 1 _ rfl rfl]
    refine (Swap.group_at Z _ 0 (by decide) rfl x1 x2).trans ((hz _ _).trans ?_)
    exact congrArg₂ (pk b0 b1 b2) (Fin.ext (by show x1.val * 16 + x2.val / 16 = r.val * 16 + l.val / 16; omega)) (Fin.ext (by show 0 * 16 + x2.val % 16 = g.val * 16 + l.val % 16; omega))
  case piece30 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneLo4 (Swap.subLevel 1 (Swap.subLevel 2 (Swap.subLevel 4 (Swap.leaf Z)))) 0 4 _ rfl rfl, Swap.laneLo4 (Swap.subLevel 1 (Swap.subLevel 2 (Swap.subLevel 4 (Swap.leaf Z)))) 1 5 _ rfl rfl, Swap.laneLo4 (Swap.subLevel 1 (Swap.subLevel 2 (Swap.subLevel 4 (Swap.leaf Z)))) 2 6 _ rfl rfl, Swap.laneLo4 (Swap.subLevel 1 (Swap.subLevel 2 (Swap.subLevel 4 (Swap.leaf Z)))) 3 7 _ rfl rfl]
    rw [Swap.laneLo2 (Swap.laneLevel 4 (Swap.subLevel 1 (Swap.subLevel 2 (Swap.subLevel 4 (Swap.leaf Z))))) 0 2 _ rfl rfl, Swap.laneLo2 (Swap.laneLevel 4 (Swap.subLevel 1 (Swap.subLevel 2 (Swap.subLevel 4 (Swap.leaf Z))))) 1 3 _ rfl rfl]
    rw [Swap.laneHi1 (Swap.laneLevel 2 (Swap.laneLevel 4 (Swap.subLevel 1 (Swap.subLevel 2 (Swap.subLevel 4 (Swap.leaf Z)))))) 0 1 _ rfl rfl]
    refine (Swap.group_at Z _ 1 (by decide) rfl x1 x2).trans ((hz _ _).trans ?_)
    exact congrArg₂ (pk b0 b1 b2) (Fin.ext (by show x1.val * 16 + x2.val / 16 = r.val * 16 + l.val / 16; omega)) (Fin.ext (by show 1 * 16 + x2.val % 16 = g.val * 16 + l.val % 16; omega))
  case piece29 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneLo4 (Swap.subLevel 1 (Swap.subLevel 2 (Swap.subLevel 4 (Swap.leaf Z)))) 0 4 _ rfl rfl, Swap.laneLo4 (Swap.subLevel 1 (Swap.subLevel 2 (Swap.subLevel 4 (Swap.leaf Z)))) 1 5 _ rfl rfl, Swap.laneLo4 (Swap.subLevel 1 (Swap.subLevel 2 (Swap.subLevel 4 (Swap.leaf Z)))) 2 6 _ rfl rfl, Swap.laneLo4 (Swap.subLevel 1 (Swap.subLevel 2 (Swap.subLevel 4 (Swap.leaf Z)))) 3 7 _ rfl rfl]
    rw [Swap.laneHi2 (Swap.laneLevel 4 (Swap.subLevel 1 (Swap.subLevel 2 (Swap.subLevel 4 (Swap.leaf Z))))) 0 2 _ rfl rfl, Swap.laneHi2 (Swap.laneLevel 4 (Swap.subLevel 1 (Swap.subLevel 2 (Swap.subLevel 4 (Swap.leaf Z))))) 1 3 _ rfl rfl]
    rw [Swap.laneLo1 (Swap.laneLevel 2 (Swap.laneLevel 4 (Swap.subLevel 1 (Swap.subLevel 2 (Swap.subLevel 4 (Swap.leaf Z)))))) 2 3 _ rfl rfl]
    refine (Swap.group_at Z _ 2 (by decide) rfl x1 x2).trans ((hz _ _).trans ?_)
    exact congrArg₂ (pk b0 b1 b2) (Fin.ext (by show x1.val * 16 + x2.val / 16 = r.val * 16 + l.val / 16; omega)) (Fin.ext (by show 2 * 16 + x2.val % 16 = g.val * 16 + l.val % 16; omega))
  case piece28 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneLo4 (Swap.subLevel 1 (Swap.subLevel 2 (Swap.subLevel 4 (Swap.leaf Z)))) 0 4 _ rfl rfl, Swap.laneLo4 (Swap.subLevel 1 (Swap.subLevel 2 (Swap.subLevel 4 (Swap.leaf Z)))) 1 5 _ rfl rfl, Swap.laneLo4 (Swap.subLevel 1 (Swap.subLevel 2 (Swap.subLevel 4 (Swap.leaf Z)))) 2 6 _ rfl rfl, Swap.laneLo4 (Swap.subLevel 1 (Swap.subLevel 2 (Swap.subLevel 4 (Swap.leaf Z)))) 3 7 _ rfl rfl]
    rw [Swap.laneHi2 (Swap.laneLevel 4 (Swap.subLevel 1 (Swap.subLevel 2 (Swap.subLevel 4 (Swap.leaf Z))))) 0 2 _ rfl rfl, Swap.laneHi2 (Swap.laneLevel 4 (Swap.subLevel 1 (Swap.subLevel 2 (Swap.subLevel 4 (Swap.leaf Z))))) 1 3 _ rfl rfl]
    rw [Swap.laneHi1 (Swap.laneLevel 2 (Swap.laneLevel 4 (Swap.subLevel 1 (Swap.subLevel 2 (Swap.subLevel 4 (Swap.leaf Z)))))) 2 3 _ rfl rfl]
    refine (Swap.group_at Z _ 3 (by decide) rfl x1 x2).trans ((hz _ _).trans ?_)
    exact congrArg₂ (pk b0 b1 b2) (Fin.ext (by show x1.val * 16 + x2.val / 16 = r.val * 16 + l.val / 16; omega)) (Fin.ext (by show 3 * 16 + x2.val % 16 = g.val * 16 + l.val % 16; omega))
  case piece27 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneHi4 (Swap.subLevel 1 (Swap.subLevel 2 (Swap.subLevel 4 (Swap.leaf Z)))) 0 4 _ rfl rfl, Swap.laneHi4 (Swap.subLevel 1 (Swap.subLevel 2 (Swap.subLevel 4 (Swap.leaf Z)))) 1 5 _ rfl rfl, Swap.laneHi4 (Swap.subLevel 1 (Swap.subLevel 2 (Swap.subLevel 4 (Swap.leaf Z)))) 2 6 _ rfl rfl, Swap.laneHi4 (Swap.subLevel 1 (Swap.subLevel 2 (Swap.subLevel 4 (Swap.leaf Z)))) 3 7 _ rfl rfl]
    rw [Swap.laneLo2 (Swap.laneLevel 4 (Swap.subLevel 1 (Swap.subLevel 2 (Swap.subLevel 4 (Swap.leaf Z))))) 4 6 _ rfl rfl, Swap.laneLo2 (Swap.laneLevel 4 (Swap.subLevel 1 (Swap.subLevel 2 (Swap.subLevel 4 (Swap.leaf Z))))) 5 7 _ rfl rfl]
    rw [Swap.laneLo1 (Swap.laneLevel 2 (Swap.laneLevel 4 (Swap.subLevel 1 (Swap.subLevel 2 (Swap.subLevel 4 (Swap.leaf Z)))))) 4 5 _ rfl rfl]
    refine (Swap.group_at Z _ 4 (by decide) rfl x1 x2).trans ((hz _ _).trans ?_)
    exact congrArg₂ (pk b0 b1 b2) (Fin.ext (by show x1.val * 16 + x2.val / 16 = r.val * 16 + l.val / 16; omega)) (Fin.ext (by show 4 * 16 + x2.val % 16 = g.val * 16 + l.val % 16; omega))
  case piece26 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneHi4 (Swap.subLevel 1 (Swap.subLevel 2 (Swap.subLevel 4 (Swap.leaf Z)))) 0 4 _ rfl rfl, Swap.laneHi4 (Swap.subLevel 1 (Swap.subLevel 2 (Swap.subLevel 4 (Swap.leaf Z)))) 1 5 _ rfl rfl, Swap.laneHi4 (Swap.subLevel 1 (Swap.subLevel 2 (Swap.subLevel 4 (Swap.leaf Z)))) 2 6 _ rfl rfl, Swap.laneHi4 (Swap.subLevel 1 (Swap.subLevel 2 (Swap.subLevel 4 (Swap.leaf Z)))) 3 7 _ rfl rfl]
    rw [Swap.laneLo2 (Swap.laneLevel 4 (Swap.subLevel 1 (Swap.subLevel 2 (Swap.subLevel 4 (Swap.leaf Z))))) 4 6 _ rfl rfl, Swap.laneLo2 (Swap.laneLevel 4 (Swap.subLevel 1 (Swap.subLevel 2 (Swap.subLevel 4 (Swap.leaf Z))))) 5 7 _ rfl rfl]
    rw [Swap.laneHi1 (Swap.laneLevel 2 (Swap.laneLevel 4 (Swap.subLevel 1 (Swap.subLevel 2 (Swap.subLevel 4 (Swap.leaf Z)))))) 4 5 _ rfl rfl]
    refine (Swap.group_at Z _ 5 (by decide) rfl x1 x2).trans ((hz _ _).trans ?_)
    exact congrArg₂ (pk b0 b1 b2) (Fin.ext (by show x1.val * 16 + x2.val / 16 = r.val * 16 + l.val / 16; omega)) (Fin.ext (by show 5 * 16 + x2.val % 16 = g.val * 16 + l.val % 16; omega))
  case piece25 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneHi4 (Swap.subLevel 1 (Swap.subLevel 2 (Swap.subLevel 4 (Swap.leaf Z)))) 0 4 _ rfl rfl, Swap.laneHi4 (Swap.subLevel 1 (Swap.subLevel 2 (Swap.subLevel 4 (Swap.leaf Z)))) 1 5 _ rfl rfl, Swap.laneHi4 (Swap.subLevel 1 (Swap.subLevel 2 (Swap.subLevel 4 (Swap.leaf Z)))) 2 6 _ rfl rfl, Swap.laneHi4 (Swap.subLevel 1 (Swap.subLevel 2 (Swap.subLevel 4 (Swap.leaf Z)))) 3 7 _ rfl rfl]
    rw [Swap.laneHi2 (Swap.laneLevel 4 (Swap.subLevel 1 (Swap.subLevel 2 (Swap.subLevel 4 (Swap.leaf Z))))) 4 6 _ rfl rfl, Swap.laneHi2 (Swap.laneLevel 4 (Swap.subLevel 1 (Swap.subLevel 2 (Swap.subLevel 4 (Swap.leaf Z))))) 5 7 _ rfl rfl]
    rw [Swap.laneLo1 (Swap.laneLevel 2 (Swap.laneLevel 4 (Swap.subLevel 1 (Swap.subLevel 2 (Swap.subLevel 4 (Swap.leaf Z)))))) 6 7 _ rfl rfl]
    refine (Swap.group_at Z _ 6 (by decide) rfl x1 x2).trans ((hz _ _).trans ?_)
    exact congrArg₂ (pk b0 b1 b2) (Fin.ext (by show x1.val * 16 + x2.val / 16 = r.val * 16 + l.val / 16; omega)) (Fin.ext (by show 6 * 16 + x2.val % 16 = g.val * 16 + l.val % 16; omega))
  case piece24 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 0 0 _ _ _ rfl (by decide) (by decide), Swap.leaf_of Z 1 0 1 _ _ _ rfl (by decide) (by decide), Swap.leaf_of Z 2 0 2 _ _ _ rfl (by decide) (by decide), Swap.leaf_of Z 3 0 3 _ _ _ rfl (by decide) (by decide), Swap.leaf_of Z 4 0 4 _ _ _ rfl (by decide) (by decide), Swap.leaf_of Z 5 0 5 _ _ _ rfl (by decide) (by decide), Swap.leaf_of Z 6 0 6 _ _ _ rfl (by decide) (by decide), Swap.leaf_of Z 7 0 7 _ _ _ rfl (by decide) (by decide)]
    rw [Swap.laneMask4, Swap.laneMask2, Swap.laneMask1, Swap.subMask4, Swap.subMask2, Swap.subMask1]
    rw [Swap.subLo4 (Swap.leaf Z) 0 4 _ rfl rfl, Swap.subLo4 (Swap.leaf Z) 1 5 _ rfl rfl, Swap.subLo4 (Swap.leaf Z) 2 6 _ rfl rfl, Swap.subLo4 (Swap.leaf Z) 3 7 _ rfl rfl, Swap.subHi4 (Swap.leaf Z) 0 4 _ rfl rfl, Swap.subHi4 (Swap.leaf Z) 1 5 _ rfl rfl, Swap.subHi4 (Swap.leaf Z) 2 6 _ rfl rfl, Swap.subHi4 (Swap.leaf Z) 3 7 _ rfl rfl]
    rw [Swap.subLo2 (Swap.subLevel 4 (Swap.leaf Z)) 0 2 _ rfl rfl, Swap.subLo2 (Swap.subLevel 4 (Swap.leaf Z)) 1 3 _ rfl rfl, Swap.subHi2 (Swap.subLevel 4 (Swap.leaf Z)) 0 2 _ rfl rfl, Swap.subHi2 (Swap.subLevel 4 (Swap.leaf Z)) 1 3 _ rfl rfl, Swap.subLo2 (Swap.subLevel 4 (Swap.leaf Z)) 4 6 _ rfl rfl, Swap.subLo2 (Swap.subLevel 4 (Swap.leaf Z)) 5 7 _ rfl rfl, Swap.subHi2 (Swap.subLevel 4 (Swap.leaf Z)) 4 6 _ rfl rfl, Swap.subHi2 (Swap.subLevel 4 (Swap.leaf Z)) 5 7 _ rfl rfl]
    rw [Swap.subLo1 (Swap.subLevel 2 (Swap.subLevel 4 (Swap.leaf Z))) 0 1 _ rfl rfl, Swap.subHi1 (Swap.subLevel 2 (Swap.subLevel 4 (Swap.leaf Z))) 0 1 _ rfl rfl, Swap.subLo1 (Swap.subLevel 2 (Swap.subLevel 4 (Swap.leaf Z))) 2 3 _ rfl rfl, Swap.subHi1 (Swap.subLevel 2 (Swap.subLevel 4 (Swap.leaf Z))) 2 3 _ rfl rfl, Swap.subLo1 (Swap.subLevel 2 (Swap.subLevel 4 (Swap.leaf Z))) 4 5 _ rfl rfl, Swap.subHi1 (Swap.subLevel 2 (Swap.subLevel 4 (Swap.leaf Z))) 4 5 _ rfl rfl, Swap.subLo1 (Swap.subLevel 2 (Swap.subLevel 4 (Swap.leaf Z))) 6 7 _ rfl rfl, Swap.subHi1 (Swap.subLevel 2 (Swap.subLevel 4 (Swap.leaf Z))) 6 7 _ rfl rfl]
    rw [Swap.laneHi4 (Swap.subLevel 1 (Swap.subLevel 2 (Swap.subLevel 4 (Swap.leaf Z)))) 0 4 _ rfl rfl, Swap.laneHi4 (Swap.subLevel 1 (Swap.subLevel 2 (Swap.subLevel 4 (Swap.leaf Z)))) 1 5 _ rfl rfl, Swap.laneHi4 (Swap.subLevel 1 (Swap.subLevel 2 (Swap.subLevel 4 (Swap.leaf Z)))) 2 6 _ rfl rfl, Swap.laneHi4 (Swap.subLevel 1 (Swap.subLevel 2 (Swap.subLevel 4 (Swap.leaf Z)))) 3 7 _ rfl rfl]
    rw [Swap.laneHi2 (Swap.laneLevel 4 (Swap.subLevel 1 (Swap.subLevel 2 (Swap.subLevel 4 (Swap.leaf Z))))) 4 6 _ rfl rfl, Swap.laneHi2 (Swap.laneLevel 4 (Swap.subLevel 1 (Swap.subLevel 2 (Swap.subLevel 4 (Swap.leaf Z))))) 5 7 _ rfl rfl]
    rw [Swap.laneHi1 (Swap.laneLevel 2 (Swap.laneLevel 4 (Swap.subLevel 1 (Swap.subLevel 2 (Swap.subLevel 4 (Swap.leaf Z)))))) 6 7 _ rfl rfl]
    refine (Swap.group_at Z _ 7 (by decide) rfl x1 x2).trans ((hz _ _).trans ?_)
    exact congrArg₂ (pk b0 b1 b2) (Fin.ext (by show x1.val * 16 + x2.val / 16 = r.val * 16 + l.val / 16; omega)) (Fin.ext (by show 7 * 16 + x2.val % 16 = g.val * 16 + l.val % 16; omega))
  case piece23 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneLo4 (Swap.subLevel 1 (Swap.subLevel 2 (Swap.subLevel 4 (Swap.leaf Z)))) 8 12 _ rfl rfl, Swap.laneLo4 (Swap.subLevel 1 (Swap.subLevel 2 (Swap.subLevel 4 (Swap.leaf Z)))) 9 13 _ rfl rfl, Swap.laneLo4 (Swap.subLevel 1 (Swap.subLevel 2 (Swap.subLevel 4 (Swap.leaf Z)))) 10 14 _ rfl rfl, Swap.laneLo4 (Swap.subLevel 1 (Swap.subLevel 2 (Swap.subLevel 4 (Swap.leaf Z)))) 11 15 _ rfl rfl]
    rw [Swap.laneLo2 (Swap.laneLevel 4 (Swap.subLevel 1 (Swap.subLevel 2 (Swap.subLevel 4 (Swap.leaf Z))))) 8 10 _ rfl rfl, Swap.laneLo2 (Swap.laneLevel 4 (Swap.subLevel 1 (Swap.subLevel 2 (Swap.subLevel 4 (Swap.leaf Z))))) 9 11 _ rfl rfl]
    rw [Swap.laneLo1 (Swap.laneLevel 2 (Swap.laneLevel 4 (Swap.subLevel 1 (Swap.subLevel 2 (Swap.subLevel 4 (Swap.leaf Z)))))) 8 9 _ rfl rfl]
    refine (Swap.group_at Z _ 8 (by decide) rfl x1 x2).trans ((hz _ _).trans ?_)
    exact congrArg₂ (pk b0 b1 b2) (Fin.ext (by show x1.val * 16 + x2.val / 16 = r.val * 16 + l.val / 16; omega)) (Fin.ext (by show 8 * 16 + x2.val % 16 = g.val * 16 + l.val % 16; omega))
  case piece22 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneLo4 (Swap.subLevel 1 (Swap.subLevel 2 (Swap.subLevel 4 (Swap.leaf Z)))) 8 12 _ rfl rfl, Swap.laneLo4 (Swap.subLevel 1 (Swap.subLevel 2 (Swap.subLevel 4 (Swap.leaf Z)))) 9 13 _ rfl rfl, Swap.laneLo4 (Swap.subLevel 1 (Swap.subLevel 2 (Swap.subLevel 4 (Swap.leaf Z)))) 10 14 _ rfl rfl, Swap.laneLo4 (Swap.subLevel 1 (Swap.subLevel 2 (Swap.subLevel 4 (Swap.leaf Z)))) 11 15 _ rfl rfl]
    rw [Swap.laneLo2 (Swap.laneLevel 4 (Swap.subLevel 1 (Swap.subLevel 2 (Swap.subLevel 4 (Swap.leaf Z))))) 8 10 _ rfl rfl, Swap.laneLo2 (Swap.laneLevel 4 (Swap.subLevel 1 (Swap.subLevel 2 (Swap.subLevel 4 (Swap.leaf Z))))) 9 11 _ rfl rfl]
    rw [Swap.laneHi1 (Swap.laneLevel 2 (Swap.laneLevel 4 (Swap.subLevel 1 (Swap.subLevel 2 (Swap.subLevel 4 (Swap.leaf Z)))))) 8 9 _ rfl rfl]
    refine (Swap.group_at Z _ 9 (by decide) rfl x1 x2).trans ((hz _ _).trans ?_)
    exact congrArg₂ (pk b0 b1 b2) (Fin.ext (by show x1.val * 16 + x2.val / 16 = r.val * 16 + l.val / 16; omega)) (Fin.ext (by show 9 * 16 + x2.val % 16 = g.val * 16 + l.val % 16; omega))
  case piece21 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneLo4 (Swap.subLevel 1 (Swap.subLevel 2 (Swap.subLevel 4 (Swap.leaf Z)))) 8 12 _ rfl rfl, Swap.laneLo4 (Swap.subLevel 1 (Swap.subLevel 2 (Swap.subLevel 4 (Swap.leaf Z)))) 9 13 _ rfl rfl, Swap.laneLo4 (Swap.subLevel 1 (Swap.subLevel 2 (Swap.subLevel 4 (Swap.leaf Z)))) 10 14 _ rfl rfl, Swap.laneLo4 (Swap.subLevel 1 (Swap.subLevel 2 (Swap.subLevel 4 (Swap.leaf Z)))) 11 15 _ rfl rfl]
    rw [Swap.laneHi2 (Swap.laneLevel 4 (Swap.subLevel 1 (Swap.subLevel 2 (Swap.subLevel 4 (Swap.leaf Z))))) 8 10 _ rfl rfl, Swap.laneHi2 (Swap.laneLevel 4 (Swap.subLevel 1 (Swap.subLevel 2 (Swap.subLevel 4 (Swap.leaf Z))))) 9 11 _ rfl rfl]
    rw [Swap.laneLo1 (Swap.laneLevel 2 (Swap.laneLevel 4 (Swap.subLevel 1 (Swap.subLevel 2 (Swap.subLevel 4 (Swap.leaf Z)))))) 10 11 _ rfl rfl]
    refine (Swap.group_at Z _ 10 (by decide) rfl x1 x2).trans ((hz _ _).trans ?_)
    exact congrArg₂ (pk b0 b1 b2) (Fin.ext (by show x1.val * 16 + x2.val / 16 = r.val * 16 + l.val / 16; omega)) (Fin.ext (by show 10 * 16 + x2.val % 16 = g.val * 16 + l.val % 16; omega))
  case piece20 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneLo4 (Swap.subLevel 1 (Swap.subLevel 2 (Swap.subLevel 4 (Swap.leaf Z)))) 8 12 _ rfl rfl, Swap.laneLo4 (Swap.subLevel 1 (Swap.subLevel 2 (Swap.subLevel 4 (Swap.leaf Z)))) 9 13 _ rfl rfl, Swap.laneLo4 (Swap.subLevel 1 (Swap.subLevel 2 (Swap.subLevel 4 (Swap.leaf Z)))) 10 14 _ rfl rfl, Swap.laneLo4 (Swap.subLevel 1 (Swap.subLevel 2 (Swap.subLevel 4 (Swap.leaf Z)))) 11 15 _ rfl rfl]
    rw [Swap.laneHi2 (Swap.laneLevel 4 (Swap.subLevel 1 (Swap.subLevel 2 (Swap.subLevel 4 (Swap.leaf Z))))) 8 10 _ rfl rfl, Swap.laneHi2 (Swap.laneLevel 4 (Swap.subLevel 1 (Swap.subLevel 2 (Swap.subLevel 4 (Swap.leaf Z))))) 9 11 _ rfl rfl]
    rw [Swap.laneHi1 (Swap.laneLevel 2 (Swap.laneLevel 4 (Swap.subLevel 1 (Swap.subLevel 2 (Swap.subLevel 4 (Swap.leaf Z)))))) 10 11 _ rfl rfl]
    refine (Swap.group_at Z _ 11 (by decide) rfl x1 x2).trans ((hz _ _).trans ?_)
    exact congrArg₂ (pk b0 b1 b2) (Fin.ext (by show x1.val * 16 + x2.val / 16 = r.val * 16 + l.val / 16; omega)) (Fin.ext (by show 11 * 16 + x2.val % 16 = g.val * 16 + l.val % 16; omega))
  case piece19 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneHi4 (Swap.subLevel 1 (Swap.subLevel 2 (Swap.subLevel 4 (Swap.leaf Z)))) 8 12 _ rfl rfl, Swap.laneHi4 (Swap.subLevel 1 (Swap.subLevel 2 (Swap.subLevel 4 (Swap.leaf Z)))) 9 13 _ rfl rfl, Swap.laneHi4 (Swap.subLevel 1 (Swap.subLevel 2 (Swap.subLevel 4 (Swap.leaf Z)))) 10 14 _ rfl rfl, Swap.laneHi4 (Swap.subLevel 1 (Swap.subLevel 2 (Swap.subLevel 4 (Swap.leaf Z)))) 11 15 _ rfl rfl]
    rw [Swap.laneLo2 (Swap.laneLevel 4 (Swap.subLevel 1 (Swap.subLevel 2 (Swap.subLevel 4 (Swap.leaf Z))))) 12 14 _ rfl rfl, Swap.laneLo2 (Swap.laneLevel 4 (Swap.subLevel 1 (Swap.subLevel 2 (Swap.subLevel 4 (Swap.leaf Z))))) 13 15 _ rfl rfl]
    rw [Swap.laneLo1 (Swap.laneLevel 2 (Swap.laneLevel 4 (Swap.subLevel 1 (Swap.subLevel 2 (Swap.subLevel 4 (Swap.leaf Z)))))) 12 13 _ rfl rfl]
    refine (Swap.group_at Z _ 12 (by decide) rfl x1 x2).trans ((hz _ _).trans ?_)
    exact congrArg₂ (pk b0 b1 b2) (Fin.ext (by show x1.val * 16 + x2.val / 16 = r.val * 16 + l.val / 16; omega)) (Fin.ext (by show 12 * 16 + x2.val % 16 = g.val * 16 + l.val % 16; omega))
  case piece18 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneHi4 (Swap.subLevel 1 (Swap.subLevel 2 (Swap.subLevel 4 (Swap.leaf Z)))) 8 12 _ rfl rfl, Swap.laneHi4 (Swap.subLevel 1 (Swap.subLevel 2 (Swap.subLevel 4 (Swap.leaf Z)))) 9 13 _ rfl rfl, Swap.laneHi4 (Swap.subLevel 1 (Swap.subLevel 2 (Swap.subLevel 4 (Swap.leaf Z)))) 10 14 _ rfl rfl, Swap.laneHi4 (Swap.subLevel 1 (Swap.subLevel 2 (Swap.subLevel 4 (Swap.leaf Z)))) 11 15 _ rfl rfl]
    rw [Swap.laneLo2 (Swap.laneLevel 4 (Swap.subLevel 1 (Swap.subLevel 2 (Swap.subLevel 4 (Swap.leaf Z))))) 12 14 _ rfl rfl, Swap.laneLo2 (Swap.laneLevel 4 (Swap.subLevel 1 (Swap.subLevel 2 (Swap.subLevel 4 (Swap.leaf Z))))) 13 15 _ rfl rfl]
    rw [Swap.laneHi1 (Swap.laneLevel 2 (Swap.laneLevel 4 (Swap.subLevel 1 (Swap.subLevel 2 (Swap.subLevel 4 (Swap.leaf Z)))))) 12 13 _ rfl rfl]
    refine (Swap.group_at Z _ 13 (by decide) rfl x1 x2).trans ((hz _ _).trans ?_)
    exact congrArg₂ (pk b0 b1 b2) (Fin.ext (by show x1.val * 16 + x2.val / 16 = r.val * 16 + l.val / 16; omega)) (Fin.ext (by show 13 * 16 + x2.val % 16 = g.val * 16 + l.val % 16; omega))
  case piece17 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneHi4 (Swap.subLevel 1 (Swap.subLevel 2 (Swap.subLevel 4 (Swap.leaf Z)))) 8 12 _ rfl rfl, Swap.laneHi4 (Swap.subLevel 1 (Swap.subLevel 2 (Swap.subLevel 4 (Swap.leaf Z)))) 9 13 _ rfl rfl, Swap.laneHi4 (Swap.subLevel 1 (Swap.subLevel 2 (Swap.subLevel 4 (Swap.leaf Z)))) 10 14 _ rfl rfl, Swap.laneHi4 (Swap.subLevel 1 (Swap.subLevel 2 (Swap.subLevel 4 (Swap.leaf Z)))) 11 15 _ rfl rfl]
    rw [Swap.laneHi2 (Swap.laneLevel 4 (Swap.subLevel 1 (Swap.subLevel 2 (Swap.subLevel 4 (Swap.leaf Z))))) 12 14 _ rfl rfl, Swap.laneHi2 (Swap.laneLevel 4 (Swap.subLevel 1 (Swap.subLevel 2 (Swap.subLevel 4 (Swap.leaf Z))))) 13 15 _ rfl rfl]
    rw [Swap.laneLo1 (Swap.laneLevel 2 (Swap.laneLevel 4 (Swap.subLevel 1 (Swap.subLevel 2 (Swap.subLevel 4 (Swap.leaf Z)))))) 14 15 _ rfl rfl]
    refine (Swap.group_at Z _ 14 (by decide) rfl x1 x2).trans ((hz _ _).trans ?_)
    exact congrArg₂ (pk b0 b1 b2) (Fin.ext (by show x1.val * 16 + x2.val / 16 = r.val * 16 + l.val / 16; omega)) (Fin.ext (by show 14 * 16 + x2.val % 16 = g.val * 16 + l.val % 16; omega))
  case piece16 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 128 8 _ _ _ rfl (by decide) (by decide), Swap.leaf_of Z 1 128 9 _ _ _ rfl (by decide) (by decide), Swap.leaf_of Z 2 128 10 _ _ _ rfl (by decide) (by decide), Swap.leaf_of Z 3 128 11 _ _ _ rfl (by decide) (by decide), Swap.leaf_of Z 4 128 12 _ _ _ rfl (by decide) (by decide), Swap.leaf_of Z 5 128 13 _ _ _ rfl (by decide) (by decide), Swap.leaf_of Z 6 128 14 _ _ _ rfl (by decide) (by decide), Swap.leaf_of Z 7 128 15 _ _ _ rfl (by decide) (by decide)]
    rw [Swap.laneMask4, Swap.laneMask2, Swap.laneMask1, Swap.subMask4, Swap.subMask2, Swap.subMask1]
    rw [Swap.subLo4 (Swap.leaf Z) 8 12 _ rfl rfl, Swap.subLo4 (Swap.leaf Z) 9 13 _ rfl rfl, Swap.subLo4 (Swap.leaf Z) 10 14 _ rfl rfl, Swap.subLo4 (Swap.leaf Z) 11 15 _ rfl rfl, Swap.subHi4 (Swap.leaf Z) 8 12 _ rfl rfl, Swap.subHi4 (Swap.leaf Z) 9 13 _ rfl rfl, Swap.subHi4 (Swap.leaf Z) 10 14 _ rfl rfl, Swap.subHi4 (Swap.leaf Z) 11 15 _ rfl rfl]
    rw [Swap.subLo2 (Swap.subLevel 4 (Swap.leaf Z)) 8 10 _ rfl rfl, Swap.subLo2 (Swap.subLevel 4 (Swap.leaf Z)) 9 11 _ rfl rfl, Swap.subHi2 (Swap.subLevel 4 (Swap.leaf Z)) 8 10 _ rfl rfl, Swap.subHi2 (Swap.subLevel 4 (Swap.leaf Z)) 9 11 _ rfl rfl, Swap.subLo2 (Swap.subLevel 4 (Swap.leaf Z)) 12 14 _ rfl rfl, Swap.subLo2 (Swap.subLevel 4 (Swap.leaf Z)) 13 15 _ rfl rfl, Swap.subHi2 (Swap.subLevel 4 (Swap.leaf Z)) 12 14 _ rfl rfl, Swap.subHi2 (Swap.subLevel 4 (Swap.leaf Z)) 13 15 _ rfl rfl]
    rw [Swap.subLo1 (Swap.subLevel 2 (Swap.subLevel 4 (Swap.leaf Z))) 8 9 _ rfl rfl, Swap.subHi1 (Swap.subLevel 2 (Swap.subLevel 4 (Swap.leaf Z))) 8 9 _ rfl rfl, Swap.subLo1 (Swap.subLevel 2 (Swap.subLevel 4 (Swap.leaf Z))) 10 11 _ rfl rfl, Swap.subHi1 (Swap.subLevel 2 (Swap.subLevel 4 (Swap.leaf Z))) 10 11 _ rfl rfl, Swap.subLo1 (Swap.subLevel 2 (Swap.subLevel 4 (Swap.leaf Z))) 12 13 _ rfl rfl, Swap.subHi1 (Swap.subLevel 2 (Swap.subLevel 4 (Swap.leaf Z))) 12 13 _ rfl rfl, Swap.subLo1 (Swap.subLevel 2 (Swap.subLevel 4 (Swap.leaf Z))) 14 15 _ rfl rfl, Swap.subHi1 (Swap.subLevel 2 (Swap.subLevel 4 (Swap.leaf Z))) 14 15 _ rfl rfl]
    rw [Swap.laneHi4 (Swap.subLevel 1 (Swap.subLevel 2 (Swap.subLevel 4 (Swap.leaf Z)))) 8 12 _ rfl rfl, Swap.laneHi4 (Swap.subLevel 1 (Swap.subLevel 2 (Swap.subLevel 4 (Swap.leaf Z)))) 9 13 _ rfl rfl, Swap.laneHi4 (Swap.subLevel 1 (Swap.subLevel 2 (Swap.subLevel 4 (Swap.leaf Z)))) 10 14 _ rfl rfl, Swap.laneHi4 (Swap.subLevel 1 (Swap.subLevel 2 (Swap.subLevel 4 (Swap.leaf Z)))) 11 15 _ rfl rfl]
    rw [Swap.laneHi2 (Swap.laneLevel 4 (Swap.subLevel 1 (Swap.subLevel 2 (Swap.subLevel 4 (Swap.leaf Z))))) 12 14 _ rfl rfl, Swap.laneHi2 (Swap.laneLevel 4 (Swap.subLevel 1 (Swap.subLevel 2 (Swap.subLevel 4 (Swap.leaf Z))))) 13 15 _ rfl rfl]
    rw [Swap.laneHi1 (Swap.laneLevel 2 (Swap.laneLevel 4 (Swap.subLevel 1 (Swap.subLevel 2 (Swap.subLevel 4 (Swap.leaf Z)))))) 14 15 _ rfl rfl]
    refine (Swap.group_at Z _ 15 (by decide) rfl x1 x2).trans ((hz _ _).trans ?_)
    exact congrArg₂ (pk b0 b1 b2) (Fin.ext (by show x1.val * 16 + x2.val / 16 = r.val * 16 + l.val / 16; omega)) (Fin.ext (by show 15 * 16 + x2.val % 16 = g.val * 16 + l.val % 16; omega))
  case piece15 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneLo4 (Swap.subLevel 1 (Swap.subLevel 2 (Swap.subLevel 4 (Swap.leaf Z)))) 16 20 _ rfl rfl, Swap.laneLo4 (Swap.subLevel 1 (Swap.subLevel 2 (Swap.subLevel 4 (Swap.leaf Z)))) 17 21 _ rfl rfl, Swap.laneLo4 (Swap.subLevel 1 (Swap.subLevel 2 (Swap.subLevel 4 (Swap.leaf Z)))) 18 22 _ rfl rfl, Swap.laneLo4 (Swap.subLevel 1 (Swap.subLevel 2 (Swap.subLevel 4 (Swap.leaf Z)))) 19 23 _ rfl rfl]
    rw [Swap.laneLo2 (Swap.laneLevel 4 (Swap.subLevel 1 (Swap.subLevel 2 (Swap.subLevel 4 (Swap.leaf Z))))) 16 18 _ rfl rfl, Swap.laneLo2 (Swap.laneLevel 4 (Swap.subLevel 1 (Swap.subLevel 2 (Swap.subLevel 4 (Swap.leaf Z))))) 17 19 _ rfl rfl]
    rw [Swap.laneLo1 (Swap.laneLevel 2 (Swap.laneLevel 4 (Swap.subLevel 1 (Swap.subLevel 2 (Swap.subLevel 4 (Swap.leaf Z)))))) 16 17 _ rfl rfl]
    refine (Swap.group_at Z _ 16 (by decide) rfl x1 x2).trans ((hz _ _).trans ?_)
    exact congrArg₂ (pk b0 b1 b2) (Fin.ext (by show x1.val * 16 + x2.val / 16 = r.val * 16 + l.val / 16; omega)) (Fin.ext (by show 16 * 16 + x2.val % 16 = g.val * 16 + l.val % 16; omega))
  case piece14 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneLo4 (Swap.subLevel 1 (Swap.subLevel 2 (Swap.subLevel 4 (Swap.leaf Z)))) 16 20 _ rfl rfl, Swap.laneLo4 (Swap.subLevel 1 (Swap.subLevel 2 (Swap.subLevel 4 (Swap.leaf Z)))) 17 21 _ rfl rfl, Swap.laneLo4 (Swap.subLevel 1 (Swap.subLevel 2 (Swap.subLevel 4 (Swap.leaf Z)))) 18 22 _ rfl rfl, Swap.laneLo4 (Swap.subLevel 1 (Swap.subLevel 2 (Swap.subLevel 4 (Swap.leaf Z)))) 19 23 _ rfl rfl]
    rw [Swap.laneLo2 (Swap.laneLevel 4 (Swap.subLevel 1 (Swap.subLevel 2 (Swap.subLevel 4 (Swap.leaf Z))))) 16 18 _ rfl rfl, Swap.laneLo2 (Swap.laneLevel 4 (Swap.subLevel 1 (Swap.subLevel 2 (Swap.subLevel 4 (Swap.leaf Z))))) 17 19 _ rfl rfl]
    rw [Swap.laneHi1 (Swap.laneLevel 2 (Swap.laneLevel 4 (Swap.subLevel 1 (Swap.subLevel 2 (Swap.subLevel 4 (Swap.leaf Z)))))) 16 17 _ rfl rfl]
    refine (Swap.group_at Z _ 17 (by decide) rfl x1 x2).trans ((hz _ _).trans ?_)
    exact congrArg₂ (pk b0 b1 b2) (Fin.ext (by show x1.val * 16 + x2.val / 16 = r.val * 16 + l.val / 16; omega)) (Fin.ext (by show 17 * 16 + x2.val % 16 = g.val * 16 + l.val % 16; omega))
  case piece13 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneLo4 (Swap.subLevel 1 (Swap.subLevel 2 (Swap.subLevel 4 (Swap.leaf Z)))) 16 20 _ rfl rfl, Swap.laneLo4 (Swap.subLevel 1 (Swap.subLevel 2 (Swap.subLevel 4 (Swap.leaf Z)))) 17 21 _ rfl rfl, Swap.laneLo4 (Swap.subLevel 1 (Swap.subLevel 2 (Swap.subLevel 4 (Swap.leaf Z)))) 18 22 _ rfl rfl, Swap.laneLo4 (Swap.subLevel 1 (Swap.subLevel 2 (Swap.subLevel 4 (Swap.leaf Z)))) 19 23 _ rfl rfl]
    rw [Swap.laneHi2 (Swap.laneLevel 4 (Swap.subLevel 1 (Swap.subLevel 2 (Swap.subLevel 4 (Swap.leaf Z))))) 16 18 _ rfl rfl, Swap.laneHi2 (Swap.laneLevel 4 (Swap.subLevel 1 (Swap.subLevel 2 (Swap.subLevel 4 (Swap.leaf Z))))) 17 19 _ rfl rfl]
    rw [Swap.laneLo1 (Swap.laneLevel 2 (Swap.laneLevel 4 (Swap.subLevel 1 (Swap.subLevel 2 (Swap.subLevel 4 (Swap.leaf Z)))))) 18 19 _ rfl rfl]
    refine (Swap.group_at Z _ 18 (by decide) rfl x1 x2).trans ((hz _ _).trans ?_)
    exact congrArg₂ (pk b0 b1 b2) (Fin.ext (by show x1.val * 16 + x2.val / 16 = r.val * 16 + l.val / 16; omega)) (Fin.ext (by show 18 * 16 + x2.val % 16 = g.val * 16 + l.val % 16; omega))
  case piece12 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneLo4 (Swap.subLevel 1 (Swap.subLevel 2 (Swap.subLevel 4 (Swap.leaf Z)))) 16 20 _ rfl rfl, Swap.laneLo4 (Swap.subLevel 1 (Swap.subLevel 2 (Swap.subLevel 4 (Swap.leaf Z)))) 17 21 _ rfl rfl, Swap.laneLo4 (Swap.subLevel 1 (Swap.subLevel 2 (Swap.subLevel 4 (Swap.leaf Z)))) 18 22 _ rfl rfl, Swap.laneLo4 (Swap.subLevel 1 (Swap.subLevel 2 (Swap.subLevel 4 (Swap.leaf Z)))) 19 23 _ rfl rfl]
    rw [Swap.laneHi2 (Swap.laneLevel 4 (Swap.subLevel 1 (Swap.subLevel 2 (Swap.subLevel 4 (Swap.leaf Z))))) 16 18 _ rfl rfl, Swap.laneHi2 (Swap.laneLevel 4 (Swap.subLevel 1 (Swap.subLevel 2 (Swap.subLevel 4 (Swap.leaf Z))))) 17 19 _ rfl rfl]
    rw [Swap.laneHi1 (Swap.laneLevel 2 (Swap.laneLevel 4 (Swap.subLevel 1 (Swap.subLevel 2 (Swap.subLevel 4 (Swap.leaf Z)))))) 18 19 _ rfl rfl]
    refine (Swap.group_at Z _ 19 (by decide) rfl x1 x2).trans ((hz _ _).trans ?_)
    exact congrArg₂ (pk b0 b1 b2) (Fin.ext (by show x1.val * 16 + x2.val / 16 = r.val * 16 + l.val / 16; omega)) (Fin.ext (by show 19 * 16 + x2.val % 16 = g.val * 16 + l.val % 16; omega))
  case piece11 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneHi4 (Swap.subLevel 1 (Swap.subLevel 2 (Swap.subLevel 4 (Swap.leaf Z)))) 16 20 _ rfl rfl, Swap.laneHi4 (Swap.subLevel 1 (Swap.subLevel 2 (Swap.subLevel 4 (Swap.leaf Z)))) 17 21 _ rfl rfl, Swap.laneHi4 (Swap.subLevel 1 (Swap.subLevel 2 (Swap.subLevel 4 (Swap.leaf Z)))) 18 22 _ rfl rfl, Swap.laneHi4 (Swap.subLevel 1 (Swap.subLevel 2 (Swap.subLevel 4 (Swap.leaf Z)))) 19 23 _ rfl rfl]
    rw [Swap.laneLo2 (Swap.laneLevel 4 (Swap.subLevel 1 (Swap.subLevel 2 (Swap.subLevel 4 (Swap.leaf Z))))) 20 22 _ rfl rfl, Swap.laneLo2 (Swap.laneLevel 4 (Swap.subLevel 1 (Swap.subLevel 2 (Swap.subLevel 4 (Swap.leaf Z))))) 21 23 _ rfl rfl]
    rw [Swap.laneLo1 (Swap.laneLevel 2 (Swap.laneLevel 4 (Swap.subLevel 1 (Swap.subLevel 2 (Swap.subLevel 4 (Swap.leaf Z)))))) 20 21 _ rfl rfl]
    refine (Swap.group_at Z _ 20 (by decide) rfl x1 x2).trans ((hz _ _).trans ?_)
    exact congrArg₂ (pk b0 b1 b2) (Fin.ext (by show x1.val * 16 + x2.val / 16 = r.val * 16 + l.val / 16; omega)) (Fin.ext (by show 20 * 16 + x2.val % 16 = g.val * 16 + l.val % 16; omega))
  case piece10 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneHi4 (Swap.subLevel 1 (Swap.subLevel 2 (Swap.subLevel 4 (Swap.leaf Z)))) 16 20 _ rfl rfl, Swap.laneHi4 (Swap.subLevel 1 (Swap.subLevel 2 (Swap.subLevel 4 (Swap.leaf Z)))) 17 21 _ rfl rfl, Swap.laneHi4 (Swap.subLevel 1 (Swap.subLevel 2 (Swap.subLevel 4 (Swap.leaf Z)))) 18 22 _ rfl rfl, Swap.laneHi4 (Swap.subLevel 1 (Swap.subLevel 2 (Swap.subLevel 4 (Swap.leaf Z)))) 19 23 _ rfl rfl]
    rw [Swap.laneLo2 (Swap.laneLevel 4 (Swap.subLevel 1 (Swap.subLevel 2 (Swap.subLevel 4 (Swap.leaf Z))))) 20 22 _ rfl rfl, Swap.laneLo2 (Swap.laneLevel 4 (Swap.subLevel 1 (Swap.subLevel 2 (Swap.subLevel 4 (Swap.leaf Z))))) 21 23 _ rfl rfl]
    rw [Swap.laneHi1 (Swap.laneLevel 2 (Swap.laneLevel 4 (Swap.subLevel 1 (Swap.subLevel 2 (Swap.subLevel 4 (Swap.leaf Z)))))) 20 21 _ rfl rfl]
    refine (Swap.group_at Z _ 21 (by decide) rfl x1 x2).trans ((hz _ _).trans ?_)
    exact congrArg₂ (pk b0 b1 b2) (Fin.ext (by show x1.val * 16 + x2.val / 16 = r.val * 16 + l.val / 16; omega)) (Fin.ext (by show 21 * 16 + x2.val % 16 = g.val * 16 + l.val % 16; omega))
  case piece9 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneHi4 (Swap.subLevel 1 (Swap.subLevel 2 (Swap.subLevel 4 (Swap.leaf Z)))) 16 20 _ rfl rfl, Swap.laneHi4 (Swap.subLevel 1 (Swap.subLevel 2 (Swap.subLevel 4 (Swap.leaf Z)))) 17 21 _ rfl rfl, Swap.laneHi4 (Swap.subLevel 1 (Swap.subLevel 2 (Swap.subLevel 4 (Swap.leaf Z)))) 18 22 _ rfl rfl, Swap.laneHi4 (Swap.subLevel 1 (Swap.subLevel 2 (Swap.subLevel 4 (Swap.leaf Z)))) 19 23 _ rfl rfl]
    rw [Swap.laneHi2 (Swap.laneLevel 4 (Swap.subLevel 1 (Swap.subLevel 2 (Swap.subLevel 4 (Swap.leaf Z))))) 20 22 _ rfl rfl, Swap.laneHi2 (Swap.laneLevel 4 (Swap.subLevel 1 (Swap.subLevel 2 (Swap.subLevel 4 (Swap.leaf Z))))) 21 23 _ rfl rfl]
    rw [Swap.laneLo1 (Swap.laneLevel 2 (Swap.laneLevel 4 (Swap.subLevel 1 (Swap.subLevel 2 (Swap.subLevel 4 (Swap.leaf Z)))))) 22 23 _ rfl rfl]
    refine (Swap.group_at Z _ 22 (by decide) rfl x1 x2).trans ((hz _ _).trans ?_)
    exact congrArg₂ (pk b0 b1 b2) (Fin.ext (by show x1.val * 16 + x2.val / 16 = r.val * 16 + l.val / 16; omega)) (Fin.ext (by show 22 * 16 + x2.val % 16 = g.val * 16 + l.val % 16; omega))
  case piece8 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 256 16 _ _ _ rfl (by decide) (by decide), Swap.leaf_of Z 1 256 17 _ _ _ rfl (by decide) (by decide), Swap.leaf_of Z 2 256 18 _ _ _ rfl (by decide) (by decide), Swap.leaf_of Z 3 256 19 _ _ _ rfl (by decide) (by decide), Swap.leaf_of Z 4 256 20 _ _ _ rfl (by decide) (by decide), Swap.leaf_of Z 5 256 21 _ _ _ rfl (by decide) (by decide), Swap.leaf_of Z 6 256 22 _ _ _ rfl (by decide) (by decide), Swap.leaf_of Z 7 256 23 _ _ _ rfl (by decide) (by decide)]
    rw [Swap.laneMask4, Swap.laneMask2, Swap.laneMask1, Swap.subMask4, Swap.subMask2, Swap.subMask1]
    rw [Swap.subLo4 (Swap.leaf Z) 16 20 _ rfl rfl, Swap.subLo4 (Swap.leaf Z) 17 21 _ rfl rfl, Swap.subLo4 (Swap.leaf Z) 18 22 _ rfl rfl, Swap.subLo4 (Swap.leaf Z) 19 23 _ rfl rfl, Swap.subHi4 (Swap.leaf Z) 16 20 _ rfl rfl, Swap.subHi4 (Swap.leaf Z) 17 21 _ rfl rfl, Swap.subHi4 (Swap.leaf Z) 18 22 _ rfl rfl, Swap.subHi4 (Swap.leaf Z) 19 23 _ rfl rfl]
    rw [Swap.subLo2 (Swap.subLevel 4 (Swap.leaf Z)) 16 18 _ rfl rfl, Swap.subLo2 (Swap.subLevel 4 (Swap.leaf Z)) 17 19 _ rfl rfl, Swap.subHi2 (Swap.subLevel 4 (Swap.leaf Z)) 16 18 _ rfl rfl, Swap.subHi2 (Swap.subLevel 4 (Swap.leaf Z)) 17 19 _ rfl rfl, Swap.subLo2 (Swap.subLevel 4 (Swap.leaf Z)) 20 22 _ rfl rfl, Swap.subLo2 (Swap.subLevel 4 (Swap.leaf Z)) 21 23 _ rfl rfl, Swap.subHi2 (Swap.subLevel 4 (Swap.leaf Z)) 20 22 _ rfl rfl, Swap.subHi2 (Swap.subLevel 4 (Swap.leaf Z)) 21 23 _ rfl rfl]
    rw [Swap.subLo1 (Swap.subLevel 2 (Swap.subLevel 4 (Swap.leaf Z))) 16 17 _ rfl rfl, Swap.subHi1 (Swap.subLevel 2 (Swap.subLevel 4 (Swap.leaf Z))) 16 17 _ rfl rfl, Swap.subLo1 (Swap.subLevel 2 (Swap.subLevel 4 (Swap.leaf Z))) 18 19 _ rfl rfl, Swap.subHi1 (Swap.subLevel 2 (Swap.subLevel 4 (Swap.leaf Z))) 18 19 _ rfl rfl, Swap.subLo1 (Swap.subLevel 2 (Swap.subLevel 4 (Swap.leaf Z))) 20 21 _ rfl rfl, Swap.subHi1 (Swap.subLevel 2 (Swap.subLevel 4 (Swap.leaf Z))) 20 21 _ rfl rfl, Swap.subLo1 (Swap.subLevel 2 (Swap.subLevel 4 (Swap.leaf Z))) 22 23 _ rfl rfl, Swap.subHi1 (Swap.subLevel 2 (Swap.subLevel 4 (Swap.leaf Z))) 22 23 _ rfl rfl]
    rw [Swap.laneHi4 (Swap.subLevel 1 (Swap.subLevel 2 (Swap.subLevel 4 (Swap.leaf Z)))) 16 20 _ rfl rfl, Swap.laneHi4 (Swap.subLevel 1 (Swap.subLevel 2 (Swap.subLevel 4 (Swap.leaf Z)))) 17 21 _ rfl rfl, Swap.laneHi4 (Swap.subLevel 1 (Swap.subLevel 2 (Swap.subLevel 4 (Swap.leaf Z)))) 18 22 _ rfl rfl, Swap.laneHi4 (Swap.subLevel 1 (Swap.subLevel 2 (Swap.subLevel 4 (Swap.leaf Z)))) 19 23 _ rfl rfl]
    rw [Swap.laneHi2 (Swap.laneLevel 4 (Swap.subLevel 1 (Swap.subLevel 2 (Swap.subLevel 4 (Swap.leaf Z))))) 20 22 _ rfl rfl, Swap.laneHi2 (Swap.laneLevel 4 (Swap.subLevel 1 (Swap.subLevel 2 (Swap.subLevel 4 (Swap.leaf Z))))) 21 23 _ rfl rfl]
    rw [Swap.laneHi1 (Swap.laneLevel 2 (Swap.laneLevel 4 (Swap.subLevel 1 (Swap.subLevel 2 (Swap.subLevel 4 (Swap.leaf Z)))))) 22 23 _ rfl rfl]
    refine (Swap.group_at Z _ 23 (by decide) rfl x1 x2).trans ((hz _ _).trans ?_)
    exact congrArg₂ (pk b0 b1 b2) (Fin.ext (by show x1.val * 16 + x2.val / 16 = r.val * 16 + l.val / 16; omega)) (Fin.ext (by show 23 * 16 + x2.val % 16 = g.val * 16 + l.val % 16; omega))
  case piece7 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneLo4 (Swap.subLevel 1 (Swap.subLevel 2 (Swap.subLevel 4 (Swap.leaf Z)))) 24 28 _ rfl rfl, Swap.laneLo4 (Swap.subLevel 1 (Swap.subLevel 2 (Swap.subLevel 4 (Swap.leaf Z)))) 25 29 _ rfl rfl, Swap.laneLo4 (Swap.subLevel 1 (Swap.subLevel 2 (Swap.subLevel 4 (Swap.leaf Z)))) 26 30 _ rfl rfl, Swap.laneLo4 (Swap.subLevel 1 (Swap.subLevel 2 (Swap.subLevel 4 (Swap.leaf Z)))) 27 31 _ rfl rfl]
    rw [Swap.laneLo2 (Swap.laneLevel 4 (Swap.subLevel 1 (Swap.subLevel 2 (Swap.subLevel 4 (Swap.leaf Z))))) 24 26 _ rfl rfl, Swap.laneLo2 (Swap.laneLevel 4 (Swap.subLevel 1 (Swap.subLevel 2 (Swap.subLevel 4 (Swap.leaf Z))))) 25 27 _ rfl rfl]
    rw [Swap.laneLo1 (Swap.laneLevel 2 (Swap.laneLevel 4 (Swap.subLevel 1 (Swap.subLevel 2 (Swap.subLevel 4 (Swap.leaf Z)))))) 24 25 _ rfl rfl]
    refine (Swap.group_at Z _ 24 (by decide) rfl x1 x2).trans ((hz _ _).trans ?_)
    exact congrArg₂ (pk b0 b1 b2) (Fin.ext (by show x1.val * 16 + x2.val / 16 = r.val * 16 + l.val / 16; omega)) (Fin.ext (by show 24 * 16 + x2.val % 16 = g.val * 16 + l.val % 16; omega))
  case piece6 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneLo4 (Swap.subLevel 1 (Swap.subLevel 2 (Swap.subLevel 4 (Swap.leaf Z)))) 24 28 _ rfl rfl, Swap.laneLo4 (Swap.subLevel 1 (Swap.subLevel 2 (Swap.subLevel 4 (Swap.leaf Z)))) 25 29 _ rfl rfl, Swap.laneLo4 (Swap.subLevel 1 (Swap.subLevel 2 (Swap.subLevel 4 (Swap.leaf Z)))) 26 30 _ rfl rfl, Swap.laneLo4 (Swap.subLevel 1 (Swap.subLevel 2 (Swap.subLevel 4 (Swap.leaf Z)))) 27 31 _ rfl rfl]
    rw [Swap.laneLo2 (Swap.laneLevel 4 (Swap.subLevel 1 (Swap.subLevel 2 (Swap.subLevel 4 (Swap.leaf Z))))) 24 26 _ rfl rfl, Swap.laneLo2 (Swap.laneLevel 4 (Swap.subLevel 1 (Swap.subLevel 2 (Swap.subLevel 4 (Swap.leaf Z))))) 25 27 _ rfl rfl]
    rw [Swap.laneHi1 (Swap.laneLevel 2 (Swap.laneLevel 4 (Swap.subLevel 1 (Swap.subLevel 2 (Swap.subLevel 4 (Swap.leaf Z)))))) 24 25 _ rfl rfl]
    refine (Swap.group_at Z _ 25 (by decide) rfl x1 x2).trans ((hz _ _).trans ?_)
    exact congrArg₂ (pk b0 b1 b2) (Fin.ext (by show x1.val * 16 + x2.val / 16 = r.val * 16 + l.val / 16; omega)) (Fin.ext (by show 25 * 16 + x2.val % 16 = g.val * 16 + l.val % 16; omega))
  case piece5 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneLo4 (Swap.subLevel 1 (Swap.subLevel 2 (Swap.subLevel 4 (Swap.leaf Z)))) 24 28 _ rfl rfl, Swap.laneLo4 (Swap.subLevel 1 (Swap.subLevel 2 (Swap.subLevel 4 (Swap.leaf Z)))) 25 29 _ rfl rfl, Swap.laneLo4 (Swap.subLevel 1 (Swap.subLevel 2 (Swap.subLevel 4 (Swap.leaf Z)))) 26 30 _ rfl rfl, Swap.laneLo4 (Swap.subLevel 1 (Swap.subLevel 2 (Swap.subLevel 4 (Swap.leaf Z)))) 27 31 _ rfl rfl]
    rw [Swap.laneHi2 (Swap.laneLevel 4 (Swap.subLevel 1 (Swap.subLevel 2 (Swap.subLevel 4 (Swap.leaf Z))))) 24 26 _ rfl rfl, Swap.laneHi2 (Swap.laneLevel 4 (Swap.subLevel 1 (Swap.subLevel 2 (Swap.subLevel 4 (Swap.leaf Z))))) 25 27 _ rfl rfl]
    rw [Swap.laneLo1 (Swap.laneLevel 2 (Swap.laneLevel 4 (Swap.subLevel 1 (Swap.subLevel 2 (Swap.subLevel 4 (Swap.leaf Z)))))) 26 27 _ rfl rfl]
    refine (Swap.group_at Z _ 26 (by decide) rfl x1 x2).trans ((hz _ _).trans ?_)
    exact congrArg₂ (pk b0 b1 b2) (Fin.ext (by show x1.val * 16 + x2.val / 16 = r.val * 16 + l.val / 16; omega)) (Fin.ext (by show 26 * 16 + x2.val % 16 = g.val * 16 + l.val % 16; omega))
  case piece4 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneLo4 (Swap.subLevel 1 (Swap.subLevel 2 (Swap.subLevel 4 (Swap.leaf Z)))) 24 28 _ rfl rfl, Swap.laneLo4 (Swap.subLevel 1 (Swap.subLevel 2 (Swap.subLevel 4 (Swap.leaf Z)))) 25 29 _ rfl rfl, Swap.laneLo4 (Swap.subLevel 1 (Swap.subLevel 2 (Swap.subLevel 4 (Swap.leaf Z)))) 26 30 _ rfl rfl, Swap.laneLo4 (Swap.subLevel 1 (Swap.subLevel 2 (Swap.subLevel 4 (Swap.leaf Z)))) 27 31 _ rfl rfl]
    rw [Swap.laneHi2 (Swap.laneLevel 4 (Swap.subLevel 1 (Swap.subLevel 2 (Swap.subLevel 4 (Swap.leaf Z))))) 24 26 _ rfl rfl, Swap.laneHi2 (Swap.laneLevel 4 (Swap.subLevel 1 (Swap.subLevel 2 (Swap.subLevel 4 (Swap.leaf Z))))) 25 27 _ rfl rfl]
    rw [Swap.laneHi1 (Swap.laneLevel 2 (Swap.laneLevel 4 (Swap.subLevel 1 (Swap.subLevel 2 (Swap.subLevel 4 (Swap.leaf Z)))))) 26 27 _ rfl rfl]
    refine (Swap.group_at Z _ 27 (by decide) rfl x1 x2).trans ((hz _ _).trans ?_)
    exact congrArg₂ (pk b0 b1 b2) (Fin.ext (by show x1.val * 16 + x2.val / 16 = r.val * 16 + l.val / 16; omega)) (Fin.ext (by show 27 * 16 + x2.val % 16 = g.val * 16 + l.val % 16; omega))
  case piece3 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneHi4 (Swap.subLevel 1 (Swap.subLevel 2 (Swap.subLevel 4 (Swap.leaf Z)))) 24 28 _ rfl rfl, Swap.laneHi4 (Swap.subLevel 1 (Swap.subLevel 2 (Swap.subLevel 4 (Swap.leaf Z)))) 25 29 _ rfl rfl, Swap.laneHi4 (Swap.subLevel 1 (Swap.subLevel 2 (Swap.subLevel 4 (Swap.leaf Z)))) 26 30 _ rfl rfl, Swap.laneHi4 (Swap.subLevel 1 (Swap.subLevel 2 (Swap.subLevel 4 (Swap.leaf Z)))) 27 31 _ rfl rfl]
    rw [Swap.laneLo2 (Swap.laneLevel 4 (Swap.subLevel 1 (Swap.subLevel 2 (Swap.subLevel 4 (Swap.leaf Z))))) 28 30 _ rfl rfl, Swap.laneLo2 (Swap.laneLevel 4 (Swap.subLevel 1 (Swap.subLevel 2 (Swap.subLevel 4 (Swap.leaf Z))))) 29 31 _ rfl rfl]
    rw [Swap.laneLo1 (Swap.laneLevel 2 (Swap.laneLevel 4 (Swap.subLevel 1 (Swap.subLevel 2 (Swap.subLevel 4 (Swap.leaf Z)))))) 28 29 _ rfl rfl]
    refine (Swap.group_at Z _ 28 (by decide) rfl x1 x2).trans ((hz _ _).trans ?_)
    exact congrArg₂ (pk b0 b1 b2) (Fin.ext (by show x1.val * 16 + x2.val / 16 = r.val * 16 + l.val / 16; omega)) (Fin.ext (by show 28 * 16 + x2.val % 16 = g.val * 16 + l.val % 16; omega))
  case piece2 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneHi4 (Swap.subLevel 1 (Swap.subLevel 2 (Swap.subLevel 4 (Swap.leaf Z)))) 24 28 _ rfl rfl, Swap.laneHi4 (Swap.subLevel 1 (Swap.subLevel 2 (Swap.subLevel 4 (Swap.leaf Z)))) 25 29 _ rfl rfl, Swap.laneHi4 (Swap.subLevel 1 (Swap.subLevel 2 (Swap.subLevel 4 (Swap.leaf Z)))) 26 30 _ rfl rfl, Swap.laneHi4 (Swap.subLevel 1 (Swap.subLevel 2 (Swap.subLevel 4 (Swap.leaf Z)))) 27 31 _ rfl rfl]
    rw [Swap.laneLo2 (Swap.laneLevel 4 (Swap.subLevel 1 (Swap.subLevel 2 (Swap.subLevel 4 (Swap.leaf Z))))) 28 30 _ rfl rfl, Swap.laneLo2 (Swap.laneLevel 4 (Swap.subLevel 1 (Swap.subLevel 2 (Swap.subLevel 4 (Swap.leaf Z))))) 29 31 _ rfl rfl]
    rw [Swap.laneHi1 (Swap.laneLevel 2 (Swap.laneLevel 4 (Swap.subLevel 1 (Swap.subLevel 2 (Swap.subLevel 4 (Swap.leaf Z)))))) 28 29 _ rfl rfl]
    refine (Swap.group_at Z _ 29 (by decide) rfl x1 x2).trans ((hz _ _).trans ?_)
    exact congrArg₂ (pk b0 b1 b2) (Fin.ext (by show x1.val * 16 + x2.val / 16 = r.val * 16 + l.val / 16; omega)) (Fin.ext (by show 29 * 16 + x2.val % 16 = g.val * 16 + l.val % 16; omega))
  case piece1 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneHi4 (Swap.subLevel 1 (Swap.subLevel 2 (Swap.subLevel 4 (Swap.leaf Z)))) 24 28 _ rfl rfl, Swap.laneHi4 (Swap.subLevel 1 (Swap.subLevel 2 (Swap.subLevel 4 (Swap.leaf Z)))) 25 29 _ rfl rfl, Swap.laneHi4 (Swap.subLevel 1 (Swap.subLevel 2 (Swap.subLevel 4 (Swap.leaf Z)))) 26 30 _ rfl rfl, Swap.laneHi4 (Swap.subLevel 1 (Swap.subLevel 2 (Swap.subLevel 4 (Swap.leaf Z)))) 27 31 _ rfl rfl]
    rw [Swap.laneHi2 (Swap.laneLevel 4 (Swap.subLevel 1 (Swap.subLevel 2 (Swap.subLevel 4 (Swap.leaf Z))))) 28 30 _ rfl rfl, Swap.laneHi2 (Swap.laneLevel 4 (Swap.subLevel 1 (Swap.subLevel 2 (Swap.subLevel 4 (Swap.leaf Z))))) 29 31 _ rfl rfl]
    rw [Swap.laneLo1 (Swap.laneLevel 2 (Swap.laneLevel 4 (Swap.subLevel 1 (Swap.subLevel 2 (Swap.subLevel 4 (Swap.leaf Z)))))) 30 31 _ rfl rfl]
    refine (Swap.group_at Z _ 30 (by decide) rfl x1 x2).trans ((hz _ _).trans ?_)
    exact congrArg₂ (pk b0 b1 b2) (Fin.ext (by show x1.val * 16 + x2.val / 16 = r.val * 16 + l.val / 16; omega)) (Fin.ext (by show 30 * 16 + x2.val % 16 = g.val * 16 + l.val % 16; omega))
  case piece0 =>
    idx_vars x
    generalize hr0 : View.read (Elt Ideal) (ms0_0 t).view _ = B0
    obtain rfl : b0 = B0 := (Memref.IsWhole.read_unread _ _).symm.trans hr0
    clear hr0
    generalize hr1 : View.read (Elt Ideal) (ms0_1 t).view _ = B1
    obtain rfl : b1 = B1 := (Memref.IsWhole.read_unread _ _).symm.trans hr1
    clear hr1
    generalize hr2 : View.read (Elt Ideal) (ms0_2 t).view _ = B2
    obtain rfl : b2 = B2 := (Memref.IsWhole.read_unread _ _).symm.trans hr2
    clear hr2
    generalize hZ : (matmul dot_S1024x1024_S1024x512_S1024x512_1_0_0_1_n_n none (k0_pay10 _ _) _ _ : FVec Ideal S1024x512 .f32) = Z
    have hz : ∀ (p : Fin 1024) (j : Fin 512), Z (ix2 p j) = pk b0 b1 b2 p ⟨j.val, by omega⟩ := by
      intro p j
      rw [← hZ]
      pointwise
      simp only [h_at, hk]
      pointwise
      unfold pk hk mv
      rfl
    clear hZ
    refine (Swap.rows_of _ x1 x2 x0).trans ?_
    rw [Swap.leaf_of Z 0 384 24 _ _ _ rfl (by decide) (by decide), Swap.leaf_of Z 1 384 25 _ _ _ rfl (by decide) (by decide), Swap.leaf_of Z 2 384 26 _ _ _ rfl (by decide) (by decide), Swap.leaf_of Z 3 384 27 _ _ _ rfl (by decide) (by decide), Swap.leaf_of Z 4 384 28 _ _ _ rfl (by decide) (by decide), Swap.leaf_of Z 5 384 29 _ _ _ rfl (by decide) (by decide), Swap.leaf_of Z 6 384 30 _ _ _ rfl (by decide) (by decide), Swap.leaf_of Z 7 384 31 _ _ _ rfl (by decide) (by decide)]
    rw [Swap.laneMask4, Swap.laneMask2, Swap.laneMask1, Swap.subMask4, Swap.subMask2, Swap.subMask1]
    rw [Swap.subLo4 (Swap.leaf Z) 24 28 _ rfl rfl, Swap.subLo4 (Swap.leaf Z) 25 29 _ rfl rfl, Swap.subLo4 (Swap.leaf Z) 26 30 _ rfl rfl, Swap.subLo4 (Swap.leaf Z) 27 31 _ rfl rfl, Swap.subHi4 (Swap.leaf Z) 24 28 _ rfl rfl, Swap.subHi4 (Swap.leaf Z) 25 29 _ rfl rfl, Swap.subHi4 (Swap.leaf Z) 26 30 _ rfl rfl, Swap.subHi4 (Swap.leaf Z) 27 31 _ rfl rfl]
    rw [Swap.subLo2 (Swap.subLevel 4 (Swap.leaf Z)) 24 26 _ rfl rfl, Swap.subLo2 (Swap.subLevel 4 (Swap.leaf Z)) 25 27 _ rfl rfl, Swap.subHi2 (Swap.subLevel 4 (Swap.leaf Z)) 24 26 _ rfl rfl, Swap.subHi2 (Swap.subLevel 4 (Swap.leaf Z)) 25 27 _ rfl rfl, Swap.subLo2 (Swap.subLevel 4 (Swap.leaf Z)) 28 30 _ rfl rfl, Swap.subLo2 (Swap.subLevel 4 (Swap.leaf Z)) 29 31 _ rfl rfl, Swap.subHi2 (Swap.subLevel 4 (Swap.leaf Z)) 28 30 _ rfl rfl, Swap.subHi2 (Swap.subLevel 4 (Swap.leaf Z)) 29 31 _ rfl rfl]
    rw [Swap.subLo1 (Swap.subLevel 2 (Swap.subLevel 4 (Swap.leaf Z))) 24 25 _ rfl rfl, Swap.subHi1 (Swap.subLevel 2 (Swap.subLevel 4 (Swap.leaf Z))) 24 25 _ rfl rfl, Swap.subLo1 (Swap.subLevel 2 (Swap.subLevel 4 (Swap.leaf Z))) 26 27 _ rfl rfl, Swap.subHi1 (Swap.subLevel 2 (Swap.subLevel 4 (Swap.leaf Z))) 26 27 _ rfl rfl, Swap.subLo1 (Swap.subLevel 2 (Swap.subLevel 4 (Swap.leaf Z))) 28 29 _ rfl rfl, Swap.subHi1 (Swap.subLevel 2 (Swap.subLevel 4 (Swap.leaf Z))) 28 29 _ rfl rfl, Swap.subLo1 (Swap.subLevel 2 (Swap.subLevel 4 (Swap.leaf Z))) 30 31 _ rfl rfl, Swap.subHi1 (Swap.subLevel 2 (Swap.subLevel 4 (Swap.leaf Z))) 30 31 _ rfl rfl]
    rw [Swap.laneHi4 (Swap.subLevel 1 (Swap.subLevel 2 (Swap.subLevel 4 (Swap.leaf Z)))) 24 28 _ rfl rfl, Swap.laneHi4 (Swap.subLevel 1 (Swap.subLevel 2 (Swap.subLevel 4 (Swap.leaf Z)))) 25 29 _ rfl rfl, Swap.laneHi4 (Swap.subLevel 1 (Swap.subLevel 2 (Swap.subLevel 4 (Swap.leaf Z)))) 26 30 _ rfl rfl, Swap.laneHi4 (Swap.subLevel 1 (Swap.subLevel 2 (Swap.subLevel 4 (Swap.leaf Z)))) 27 31 _ rfl rfl]
    rw [Swap.laneHi2 (Swap.laneLevel 4 (Swap.subLevel 1 (Swap.subLevel 2 (Swap.subLevel 4 (Swap.leaf Z))))) 28 30 _ rfl rfl, Swap.laneHi2 (Swap.laneLevel 4 (Swap.subLevel 1 (Swap.subLevel 2 (Swap.subLevel 4 (Swap.leaf Z))))) 29 31 _ rfl rfl]
    rw [Swap.laneHi1 (Swap.laneLevel 2 (Swap.laneLevel 4 (Swap.subLevel 1 (Swap.subLevel 2 (Swap.subLevel 4 (Swap.leaf Z)))))) 30 31 _ rfl rfl]
    refine (Swap.group_at Z _ 31 (by decide) rfl x1 x2).trans ((hz _ _).trans ?_)
    exact congrArg₂ (pk b0 b1 b2) (Fin.ext (by show x1.val * 16 + x2.val / 16 = r.val * 16 + l.val / 16; omega)) (Fin.ext (by show 31 * 16 + x2.val % 16 = g.val * 16 + l.val % 16; omega))

end Cert.KernelIdeal.Hand

end
-- ==== Proof.Cast1.lean ====
/- The first call's copies: each written tile is the block it is given. -/
module

public import proofs.«01_k».proof.Proof.Pay1

@[expose] public section

set_option maxRecDepth 16384
set_option maxHeartbeats 4000000

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

theorem cast10_A (c : Dev nD) (t : Fin cfg0.N) (p : Fin 32) (j : Fin 512) :
    (outsAt0 m c t).2.2.2.2.2.1 (ix2 p j) = (iblk m c 10 t : Vec Ideal S32x512 .f32) (ix2 p j) := by
  unfold outsAt0
  dsimp only
  frame_open
  frame_out
  generalize iblk m c 10 t = b0
  pointwise [k0_pay2, k0_pay3, k0_pay4, k0_pay5, k0_pay6, k0_pay7, k0_pay8, k0_pay9]

theorem cast11_A (c : Dev nD) (t : Fin cfg0.N) (p : Fin 32) (j : Fin 1024) :
    (outsAt0 m c t).2.2.2.2.2.2.1 (ix2 p j) = (iblk m c 11 t : Vec Ideal S32x1024 .f32) (ix2 p j) := by
  unfold outsAt0
  dsimp only
  frame_open
  frame_out
  generalize iblk m c 11 t = b0
  pointwise [k0_pay2, k0_pay3, k0_pay4, k0_pay5, k0_pay6, k0_pay7, k0_pay8, k0_pay9]

theorem cast12_A (c : Dev nD) (t : Fin cfg0.N) (p : Fin 32) (j : Fin 1024) :
    (outsAt0 m c t).2.2.2.2.2.2.2.1 (ix2 p j) = (iblk m c 12 t : Vec Ideal S32x1024 .f32) (ix2 p j) := by
  unfold outsAt0
  dsimp only
  frame_open
  frame_out
  generalize iblk m c 12 t = b0
  pointwise [k0_pay2, k0_pay3, k0_pay4, k0_pay5, k0_pay6, k0_pay7, k0_pay8, k0_pay9]

theorem cast13_A (c : Dev nD) (t : Fin cfg0.N) (p : Fin 32) (j : Fin 1024) :
    (outsAt0 m c t).2.2.2.2.2.2.2.2.1 (ix2 p j) = (iblk m c 13 t : Vec Ideal S32x1024 .f32) (ix2 p j) := by
  unfold outsAt0
  dsimp only
  frame_open
  frame_out
  generalize iblk m c 13 t = b0
  pointwise [k0_pay2, k0_pay3, k0_pay4, k0_pay5, k0_pay6, k0_pay7, k0_pay8, k0_pay9]

theorem cast14_A (c : Dev nD) (t : Fin cfg0.N) (p : Fin 64) (j : Fin 1024) :
    (outsAt0 m c t).2.2.2.2.2.2.2.2.2.1 (ix2 p j) = (iblk m c 14 t : Vec Ideal S64x1024 .f32) (ix2 p j) := by
  unfold outsAt0
  dsimp only
  frame_open
  frame_out
  generalize iblk m c 14 t = b0
  pointwise [k0_pay2, k0_pay3, k0_pay4, k0_pay5, k0_pay6, k0_pay7, k0_pay8, k0_pay9]

theorem cast15_A (c : Dev nD) (t : Fin cfg0.N) (p : Fin 64) (j : Fin 2816) :
    (outsAt0 m c t).2.2.2.2.2.2.2.2.2.2.1 (ix2 p j) = (iblk m c 15 t : Vec Ideal S64x2816 .f32) (ix2 p j) := by
  unfold outsAt0
  dsimp only
  frame_open
  frame_out
  generalize iblk m c 15 t = b0
  pointwise [k0_pay2, k0_pay3, k0_pay4, k0_pay5, k0_pay6, k0_pay7, k0_pay8, k0_pay9]

theorem cast16_A (c : Dev nD) (t : Fin cfg0.N) (p : Fin 64) (j : Fin 2816) :
    (outsAt0 m c t).2.2.2.2.2.2.2.2.2.2.2 (ix2 p j) = (iblk m c 16 t : Vec Ideal S64x2816 .f32) (ix2 p j) := by
  unfold outsAt0
  dsimp only
  frame_open
  frame_out
  generalize iblk m c 16 t = b0
  pointwise [k0_pay2, k0_pay3, k0_pay4, k0_pay5, k0_pay6, k0_pay7, k0_pay8, k0_pay9]

end Cert.KernelIdeal.Hand

end
-- ==== Proof.Ref1.lean ====
/- What the reference of the first half leaves, position by position: its printed run, read at an index stage by stage. -/
module

public import proofs.«01_k».proof.Proof.Gen.ReferenceIdeal.Read
public import proofs.«01_k».proof.Proof.Inproj
public import Idealize.ShloMosaic.Lib.Pointwise

@[expose] public section

set_option maxRecDepth 16384

noncomputable section

namespace Cert.ReferenceIdeal.Reads

open Idealize.ShloMosaic
open Cert.ReferenceIdeal Cert.ReferenceIdeal.Read Cert.Arith Cert.Merge Cert.Inproj

variable (x0 : Vec Ideal S8x2048x1024 .f32) (x1 : Vec Ideal S1x1024 .f32) (x2 : Vec Ideal S1x1024x5120 .f32)
  (x3 : Vec Ideal S1x3072 .f32) (x4 x5 : Vec Ideal S1x512 .f32) (x6 : Vec Ideal S1x4x128x128 .f32) (x7 : Vec Ideal S1x4x128 .f32)
  (x8 x9 : Vec Ideal S8x256x512 .bf16)

/-- The weights the reference reads. -/
def W : Inproj.Weights where
  g j := x1 (ix2 0 j)
  w k j := x2 (ix3 0 k j)
  bgate j := x3 (ix2 0 j)
  gsgu j := x4 (ix2 0 j)
  bsgu j := x5 (ix2 0 j)
  ws g p s := x6 (ix4 0 g p s)
  bs g p := x7 (ix3 0 g p)

theorem v13 (b : Fin 8) (t : Fin 2048) (j : Fin 1024) : val_main_v13 (F := Ideal) x0 x1 (ix3 b t j)
    = Cert.Merge.norm 1024 (fun k => x0 (ix3 b t k)) (fun j => x1 (ix2 0 j)) j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rw [Cert.Merge.norm, rinv, w_1024, w_eps]

theorem v15 (b : Fin 8) (t : Fin 2048) (j : Fin 5120) : val_main_v15 (F := Ideal) x0 x1 x2 (ix3 b t j)
    = proj (W x1 x2 x3 x4 x5 x6 x7) (fun k => x0 (ix3 b t k)) j := by
  pointwise [val_main_v15, val_main_v14]
  simp only [v13]
  rfl

theorem v39 (i : S8x2048x512.Idx) : val_main_v39 (F := Ideal) x0 x1 x2 i = gelu (val_main_v17 (F := Ideal) x0 x1 x2 i) := by
  pointwise [val_main_v39, val_main_v38, val_main_v37, val_main_v36, val_main_v35, val_main_v34, val_main_v33, val_main_v32, val_main_v31,
    val_main_v30, val_main_v29, val_main_v28, val_main_v27, val_main_cst_2, val_main_cst_3, val_main_cst_4, val_main_cst_5]
  rw [gelu, w_half, w_c1, w_c3]

theorem v52 (i : S8x2048x512.Idx) : val_main_v52 (F := Ideal) x0 x1 x2 i = gelu (val_main_v18 (F := Ideal) x0 x1 x2 i) := by
  pointwise [val_main_v52, val_main_v51, val_main_v50, val_main_v49, val_main_v48, val_main_v47, val_main_v46, val_main_v45, val_main_v44,
    val_main_v43, val_main_v42, val_main_v41, val_main_v40, val_main_cst_6, val_main_cst_7, val_main_cst_8, val_main_cst_9]
  rw [gelu, w_half, w_c1, w_c3]

theorem v58 (b : Fin 8) (t : Fin 2048) (j : Fin 512) : val_main_v58 (F := Ideal) x0 x1 x2 (ix3 b t j)
    = cen (fun k => val_main_v52 (F := Ideal) x0 x1 x2 (ix3 b t k)) j := by
  pointwise [val_main_v58, val_main_v57, val_main_v56, val_main_v55, val_main_v54, val_main_v53, val_main_cst_10, val_main_cst_11]
  rw [cen, w_512]

theorem v76 (b : Fin 8) (t : Fin 2048) (j : Fin 512) : val_main_v76 (F := Ideal) x0 x1 x2 x4 x5 (ix3 b t j)
    = ln (fun k => val_main_v52 (F := Ideal) x0 x1 x2 (ix3 b t k)) (fun j => x4 (ix2 0 j)) (fun j => x5 (ix2 0 j)) j := by
  have e : val_main_v65 (F := Ideal) x0 x1 x2 = val_main_v58 (F := Ideal) x0 x1 x2 := rfl
  pointwise [val_main_v76, val_main_v75, val_main_v74, val_main_v73, val_main_v72, val_main_v71, val_main_v70, val_main_v69, val_main_v68,
    val_main_v67, val_main_v66, e, val_main_v63, val_main_v62, val_main_v61, val_main_v60, val_main_v59, val_main_v24,
    val_main_v23, val_main_cst_12, val_main_cst_13, val_main_cst_14]
  simp only [v58, w_512, w_eps]
  rfl

theorem sge_at : ∀ p s : Fin 128, IntOp.cmpi CmpIPredicate.sge (IntOp.addi (BitVec.ofNat 32 p.val) 0#32) (BitVec.ofNat 32 s.val) = if s.val ≤ p.val then 1#1 else 0#1 := by
  decide +kernel

theorem v82 (g : Fin 4) (p s : Fin 128) : val_main_v82 (F := Ideal) x6 (ix3 g p s) = x6 (ix4 0 g p s) * tril p s := by
  pointwise [val_main_v82, val_main_v81, val_main_v80, val_main_v79, val_main_v78, val_main_v25, val_main_cst_15,
    val_main_call0_v5, val_main_call0_v4, val_main_call0_v3, val_main_call0_v2, val_main_call0_v1, val_main_call0_v0,
    val_main_call0_c, val_main_call0_cst]
  rw [sge_at, tril]
  split
  · exact (mul_one _).symm
  · exact (mul_zero _).symm

theorem v127 (b : Fin 8) (t : Fin 2048) (j : Fin 3072) : val_main_v127 (F := Ideal) x0 x1 x2 x3 (ix3 b t j)
    = gates (W x1 x2 x3 x4 x5 x6 x7) (fun k => x0 (ix3 b t k)) j := by
  pointwise [val_main_v127, val_main_v122, val_main_v121, val_main_v120, val_main_v119, val_main_v118, val_main_v117, val_main_v116, val_main_v115,
   val_main_v114, val_main_v113, val_main_v20, val_main_cst_20, val_main_cst_21]
  rw [v15 x0 x1 x2 x3 x4 x5 x6 x7]
  try rw [w_one]
  rfl

theorem v124 (g : Fin 32) (r : Fin 1024) (l : Fin 256) : val_main_v124 (F := Ideal) x0 x1 x2 (ix3 g r l)
    = val_main_v16 (F := Ideal) x0 x1 x2 (ix3 (⟨r.val / 128, by omega⟩ : Fin 8) (⟨r.val % 128 * 16 + l.val / 16, by omega⟩ : Fin 2048) (⟨g.val * 16 + l.val % 16, by omega⟩ : Fin 512)) := by
  pointwise [val_main_v124, val_main_v123, val_main_v22, val_main_v21]

theorem v16 (b : Fin 8) (t : Fin 2048) (j : Fin 512) : val_main_v16 (F := Ideal) x0 x1 x2 (ix3 b t j)
    = za (W x1 x2 x3 x4 x5 x6 x7) (fun k => x0 (ix3 b t k)) j := by
  pointwise [val_main_v16]
  rw [v15 x0 x1 x2 x3 x4 x5 x6 x7]
  rfl

theorem v17 (b : Fin 8) (t : Fin 2048) (j : Fin 512) : val_main_v17 (F := Ideal) x0 x1 x2 (ix3 b t j)
    = zu (W x1 x2 x3 x4 x5 x6 x7) (fun k => x0 (ix3 b t k)) j := by
  pointwise [val_main_v17]
  rw [v15 x0 x1 x2 x3 x4 x5 x6 x7]
  rfl

theorem v18 (b : Fin 8) (t : Fin 2048) (j : Fin 512) : val_main_v18 (F := Ideal) x0 x1 x2 (ix3 b t j)
    = zv (W x1 x2 x3 x4 x5 x6 x7) (fun k => x0 (ix3 b t k)) j := by
  pointwise [val_main_v18]
  rw [v15 x0 x1 x2 x3 x4 x5 x6 x7]
  rfl

theorem v19 (b : Fin 8) (t : Fin 2048) (j : Fin 512) : val_main_v19 (F := Ideal) x0 x1 x2 (ix3 b t j)
    = zq (W x1 x2 x3 x4 x5 x6 x7) (fun k => x0 (ix3 b t k)) j := by
  pointwise [val_main_v19]
  rw [v15 x0 x1 x2 x3 x4 x5 x6 x7]
  rfl

end Cert.ReferenceIdeal.Reads

end
-- ==== Proof.RefTop.lean ====
/- The reference's greatest score of a row, as a supremum. -/
module

public import proofs.«01_k».proof.Proof.Gen.ReferenceIdeal.Read
public import proofs.«01_k».proof.Proof.Inproj
public import Idealize.ShloMosaic.Lib.Pointwise

@[expose] public section

set_option maxRecDepth 16384

noncomputable section

namespace Cert.ReferenceIdeal.Reads

open Idealize.ShloMosaic
open Cert.ReferenceIdeal Cert.ReferenceIdeal.Read Cert.Arith Cert.Merge Cert.Inproj

variable (x0 : Vec Ideal S8x2048x1024 .f32) (x1 : Vec Ideal S1x1024 .f32) (x2 : Vec Ideal S1x1024x5120 .f32)
  (x3 : Vec Ideal S1x3072 .f32) (x4 x5 : Vec Ideal S1x512 .f32) (x6 : Vec Ideal S1x4x128x128 .f32) (x7 : Vec Ideal S1x4x128 .f32)
  (x8 x9 : Vec Ideal S8x256x512 .bf16)

theorem fold_sup {ι : Type} (s : Finset ι) (f : ι → EReal) : max (⊥ : EReal) (s.fold max ⊥ f) = s.sup f := bot_sup_eq _

theorem top_of (Z : Vec Ideal S8x4x2048x256 .f32) (h' : S8x4x2048x256.ReducesTo [3] S8x4x2048) (h : S8x4x2048x256.Reduces [3] S8x4x2048)
    (hu : 0 < S_.numel) (b : Fin 8) (t : Fin 2048) (g : Fin 4) :
    Host.reduce (FloatOps.maximumf (F := Ideal) (φ := .f32)) Z (constant S_ .f32 0xFF800000#32) h' hu (ix3 b g t)
      = (Finset.univ : Finset (Fin 256)).fold max (Ideal.ofBits .f32 0xFF800000#32) fun m : Fin 256 => Z (ix4 b g t m) := by
  rw [Host.reduce_eq_fold_single (FloatOps.maximumf (F := Ideal) (φ := .f32)) Z _ h' h hu]
  have hf : (Z ∘ h.lift (ix3 b g t)) = fun m : Fin 256 => Z (ix4 b g t m) := by
    funext k
    refine congrArg Z (funext fun c => Fin.ext ?_)
    fin_cases c <;> rfl
  exact congrArg (fun f => Finset.fold max (Ideal.ofBits .f32 0xFF800000#32) f (Finset.univ : Finset (Fin 256))) hf

theorem v101 (b : Fin 8) (t : Fin 2048) (h : Fin 4) : val_main_v101 (F := Ideal) x0 x1 x2 x8 (ix3 b h t)
    = Finset.univ.sup fun m => val_main_v98 (F := Ideal) x0 x1 x2 x8 (ix4 b h t m) := by
  rw [val_main_v101_apply]
  have e : val_main_v99 (F := Ideal) x0 x1 x2 x8 (ix3 b h t) = (Finset.univ : Finset (Fin 256)).fold max (Ideal.ofBits .f32 0xFF800000#32)
      fun m : Fin 256 => val_main_v98 (F := Ideal) x0 x1 x2 x8 (ix4 b h t m) := by
    unfold val_main_v99 val_main_cst_17
    generalize val_main_v98 (F := Ideal) x0 x1 x2 x8 = Z
    exact top_of Z _ (by decide) _ b t h
  have hb : Ideal.ofBits .f32 0xFF800000#32 = (⊥ : EReal) := by simp [Ideal.ofBits, Ideal.ieee]
  rw [e, hb]
  refine Eq.trans (congrArg (max · _) ?_) (fold_sup _ _)
  exact hb

end Cert.ReferenceIdeal.Reads

end
-- ==== Proof.Ref1A.lean ====
/- The reference's cross-attention at an index. -/
module

public import proofs.«01_k».proof.Proof.Gen.ReferenceIdeal.Read
public import proofs.«01_k».proof.Proof.Ref1
public import proofs.«01_k».proof.Proof.RefTop
public import Idealize.ShloMosaic.Lib.Pointwise

@[expose] public section

set_option maxRecDepth 16384

noncomputable section

namespace Cert.ReferenceIdeal.Reads

open Idealize.ShloMosaic
open Cert.ReferenceIdeal Cert.ReferenceIdeal.Read Cert.Arith Cert.Merge Cert.Inproj

variable (x0 : Vec Ideal S8x2048x1024 .f32) (x1 : Vec Ideal S1x1024 .f32) (x2 : Vec Ideal S1x1024x5120 .f32)
  (x3 : Vec Ideal S1x3072 .f32) (x4 x5 : Vec Ideal S1x512 .f32) (x6 : Vec Ideal S1x4x128x128 .f32) (x7 : Vec Ideal S1x4x128 .f32)
  (x8 x9 : Vec Ideal S8x256x512 .bf16)

theorem v98 (b : Fin 8) (t : Fin 2048) (h : Fin 4) (m : Fin 256) : val_main_v98 (F := Ideal) x0 x1 x2 x8 (ix4 b h t m)
    = score (fun j => val_main_v19 (F := Ideal) x0 x1 x2 (ix3 b t j)) (fun m j => x8 (ix3 b m j)) h m * (sw : EReal) := by
  pointwise [val_main_v98, val_main_v97, val_main_v96, val_main_v94, val_main_v93, val_main_v91, val_main_cst_16]
  rw [w_sw]
  rfl

theorem v112 (b : Fin 8) (t : Fin 2048) (j : Fin 512) : val_main_v112 (F := Ideal) x0 x1 x2 x8 x9 (ix3 b t j)
    = soft (score (fun j => val_main_v19 (F := Ideal) x0 x1 x2 (ix3 b t j)) (fun m j => x8 (ix3 b m j)) ⟨j.val / 128, by omega⟩) (fun m => x9 (ix3 b m j)) := by
  have e : val_main_v112 (F := Ideal) x0 x1 x2 x8 x9 (ix3 b t j) = ∑ m : Fin 256,
      x9 (ix3 b m j) *
        Ideal.div
          (Ideal.exp (val_main_v98 (F := Ideal) x0 x1 x2 x8 (ix4 b (⟨j.val / 128, by omega⟩ : Fin 4) t m) - val_main_v101 (F := Ideal) x0 x1 x2 x8 (ix3 b (⟨j.val / 128, by omega⟩ : Fin 4) t)))
          (∑ n : Fin 256,
            Ideal.exp
              (val_main_v98 (F := Ideal) x0 x1 x2 x8 (ix4 b (⟨j.val / 128, by omega⟩ : Fin 4) t n) -
                val_main_v101 (F := Ideal) x0 x1 x2 x8 (ix3 b (⟨j.val / 128, by omega⟩ : Fin 4) t))) := by
    pointwise [val_main_v112, val_main_v111, val_main_v110, val_main_v109, val_main_v108, val_main_v107, val_main_v106, val_main_v105,
     val_main_v104, val_main_v103, val_main_v102, val_main_v95, val_main_v92, val_main_cst_19]
  rw [e]
  simp only [v101, v98]
  rfl

/-- The reference's cross-attention at a position. -/
theorem r_attn (b : Fin 8) (t : Fin 2048) (j : Fin 512) : val_main_v126 (F := Ideal) x0 x1 x2 x8 x9 (ix3 b t j)
    = attn (W x1 x2 x3 x4 x5 x6 x7) (fun k => x0 (ix3 b t k)) (fun m j => x8 (ix3 b m j)) (fun m j => x9 (ix3 b m j)) j := by
  pointwise [val_main_v126]
  rw [v112]
  simp only [v19 x0 x1 x2 x3 x4 x5 x6 x7]
  rfl

end Cert.ReferenceIdeal.Reads

end
-- ==== Proof.Ref1S.lean ====
/- The reference's spatial gating at an index. -/
module

public import proofs.«01_k».proof.Proof.Gen.ReferenceIdeal.Read
public import proofs.«01_k».proof.Proof.Ref1
public import Idealize.ShloMosaic.Lib.Pointwise

@[expose] public section

set_option maxRecDepth 16384

noncomputable section

namespace Cert.ReferenceIdeal.Reads

open Idealize.ShloMosaic
open Cert.ReferenceIdeal Cert.ReferenceIdeal.Read Cert.Arith Cert.Merge Cert.Inproj

variable (x0 : Vec Ideal S8x2048x1024 .f32) (x1 : Vec Ideal S1x1024 .f32) (x2 : Vec Ideal S1x1024x5120 .f32)
  (x3 : Vec Ideal S1x3072 .f32) (x4 x5 : Vec Ideal S1x512 .f32) (x6 : Vec Ideal S1x4x128x128 .f32) (x7 : Vec Ideal S1x4x128 .f32)
  (x8 x9 : Vec Ideal S8x256x512 .bf16)

theorem v90 (b : Fin 8) (t : Fin 2048) (j : Fin 512) : val_main_v90 (F := Ideal) x0 x1 x2 x4 x5 x6 x7 (ix3 b t j)
    = val_main_v39 (F := Ideal) x0 x1 x2 (ix3 b t j) * (∑ s : Fin 128, val_main_v76 (F := Ideal) x0 x1 x2 x4 x5 (ix3 b (⟨t.val / 128 * 128 + s.val, by omega⟩ : Fin 2048) j)
        * val_main_v82 (F := Ideal) x6 (ix3 (⟨j.val / 128, by omega⟩ : Fin 4) (⟨t.val % 128, by omega⟩ : Fin 128) s)
        + x7 (ix3 0 (⟨j.val / 128, by omega⟩ : Fin 4) (⟨t.val % 128, by omega⟩ : Fin 128))) := by
  pointwise [val_main_v90, val_main_v89, val_main_v88, val_main_v87, val_main_v86, val_main_v85, val_main_v84, val_main_v83,
    val_main_v77, val_main_v26]

/-- The reference's spatial gating at a position. -/
theorem r_sgu (b : Fin 8) (t : Fin 2048) (j : Fin 512) : val_main_v125 (F := Ideal) x0 x1 x2 x4 x5 x6 x7 (ix3 b t j)
    = sgu (W x1 x2 x3 x4 x5 x6 x7) (fun s k => x0 (ix3 b (⟨t.val / 128 * 128 + s.val, by omega⟩ : Fin 2048) k)) (⟨t.val % 128, by omega⟩ : Fin 128) j := by
  pointwise [val_main_v125]
  rw [v90]
  simp only [v39, v76, v82, v52, v17 x0 x1 x2 x3 x4 x5 x6 x7, v18 x0 x1 x2 x3 x4 x5 x6 x7]
  unfold sgu vn
  have ht : (⟨t.val / 128 * 128 + t.val % 128, by omega⟩ : Fin 2048) = t := Fin.ext (by simp; omega)
  simp only [ht]
  rfl

end Cert.ReferenceIdeal.Reads

end
-- ==== Proof.Whole1.lean ====
/- The first call's tiles, position by position, as the functions of the call's arguments the reference computes: the columns
   the host halves are half of the reference's projection, and the rest of each result undoes the half. -/
module

public import proofs.«01_k».proof.Defs
public import proofs.«01_k».proof.Proof.Alg1
public import proofs.«01_k».proof.Proof.Fold1
public import proofs.«01_k».proof.Proof.Za1
public import proofs.«01_k».proof.Proof.Attn1
public import proofs.«01_k».proof.Proof.Sgu1
public import proofs.«01_k».proof.Proof.Uvec1
public import proofs.«01_k».proof.Proof.Cast1
public import proofs.«01_k».proof.Proof.Ref1A
public import proofs.«01_k».proof.Proof.Ref1S

@[expose] public section

set_option maxRecDepth 16384

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- The weights, read off the call's arguments. -/
def WK (c : Dev nD) : Inproj.Weights :=
  Cert.ReferenceIdeal.Reads.W (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A position's row, and the memory's keys and values, read off the call's arguments. -/
def XK (c : Dev nD) (b : Fin 8) (T : Fin 2048) (k : Fin 1024) : EReal :=
  (m ((c : Thread nD τ).loc main_arg0) : Vec Ideal S8x2048x1024 .f32) (ix3 b T k)
def KK (c : Dev nD) (b : Fin 8) (n : Fin 256) (j : Fin 512) : EReal :=
  (m ((c : Thread nD τ).loc main_arg8) : Vec Ideal S8x256x512 .bf16) (ix3 b n j)
def VK (c : Dev nD) (b : Fin 8) (n : Fin 256) (j : Fin 512) : EReal :=
  (m ((c : Thread nD τ).loc main_arg9) : Vec Ideal S8x256x512 .bf16) (ix3 b n j)

/-- What the precondition gives: the norm's gain, the projection and the keys are real numbers. -/
structure Live (c : Dev nD) : Prop where
  g : ∀ k, ∃ r : ℝ, (WK m c).g k = r
  w : ∀ k j, ∃ r : ℝ, (WK m c).w k j = r
  key : ∀ b n j, ∃ r : ℝ, KK m c b n j = r

/-- The batch entry of a grid point, and the position of a row of its tile. -/
abbrev tb (t : Fin cfg0.N) : Fin 8 := ⟨t.val / 2, by have := t.isLt; change t.val < 16 at this; omega⟩
abbrev tp (t : Fin cfg0.N) (p : Fin 1024) : Fin 2048 := ⟨t.val % 2 * 1024 + p.val, by omega⟩

theorem hk_eq (c : Dev nD) (t : Fin cfg0.N) (p : Fin 1024) :
    hk (iblk m c 0 t) (iblk m c 1 t) p = Merge.norm 1024 (XK m c (tb t) (tp t p)) (WK m c).g := by
  have e : (fun k => (iblk m c 0 t : Vec Ideal S1x1024x1024 .f32) (ix3 (0 : Fin 1) p k)) = XK m c (tb t) (tp t p) :=
    funext fun k => blk0 m c t p k
  have e1 : (fun k => (iblk m c 1 t : Vec Ideal S1x1024 .f32) (ix2 (0 : Fin 1) k)) = (WK m c).g :=
    funext fun k => (blk1 m c t k).trans (V19 m c k)
  unfold hk
  rw [e, e1]

/-- A column the host leaves as it is. -/
theorem pk_whole (c : Dev nD) (t : Fin cfg0.N) (p : Fin 1024) (j : Fin 5120) (h : ¬ halved j) :
    pk (iblk m c 0 t) (iblk m c 1 t) (iblk m c 2 t) p j = proj (WK m c) (XK m c (tb t) (tp t p)) j := by
  unfold pk proj
  rw [hk_eq]
  unfold mv
  refine Finset.sum_congr rfl fun k _ => congrArg _ ?_
  refine ((blk2 m c t k j).trans (V17 m c k j)).trans ?_
  rw [if_neg h, mul_one]
  rfl

/-- A column the host halves. -/
theorem pk_half (c : Dev nD) (t : Fin cfg0.N) (p : Fin 1024) (j : Fin 5120) (h : halved j) :
    pk (iblk m c 0 t) (iblk m c 1 t) (iblk m c 2 t) p j = ((1 / 2 : ℝ) : EReal) * proj (WK m c) (XK m c (tb t) (tp t p)) j := by
  unfold pk proj
  rw [hk_eq]
  unfold mv
  rw [← sum_halved]
  refine Finset.sum_congr rfl fun k _ => congrArg _ ?_
  refine ((blk2 m c t k j).trans (V17 m c k j)).trans ?_
  rw [if_pos h]
  rfl

theorem real_at (c : Dev nD) (hl : Live m c) (b : Fin 8) (T : Fin 2048) (j : Fin 5120) : ∃ r : ℝ, proj (WK m c) (XK m c b T) j = r :=
  proj_real (WK m c) (XK m c b T) hl.g hl.w j

theorem za_at (c : Dev nD) (t : Fin cfg0.N) (p : Fin 1024) (j : Fin 512) :
    (outsAt0 m c t).1 (ix3 (0 : Fin 1) p j) = za (WK m c) (XK m c (tb t) (tp t p)) j := by
  rw [za_A, pk_whole]
  · rfl
  · rintro (⟨h, _⟩ | h) <;> (dsimp only at h; omega)

theorem uvec_at (c : Dev nD) (t : Fin cfg0.N) (g : Fin 32) (r : Fin 64) (l : Fin 256) :
    (outsAt0 m c t).2.1 (ix3 g r l) = za (WK m c) (XK m c (tb t) (tp t (⟨r.val * 16 + l.val / 16, by omega⟩ : Fin 1024)))
      (⟨g.val * 16 + l.val % 16, by omega⟩ : Fin 512) := by
  rw [uvec_A, pk_whole]
  · rfl
  · rintro (⟨h, _⟩ | h) <;> (dsimp only at h; omega)

theorem gates_at (c : Dev nD) (t : Fin cfg0.N) (p : Fin 1024) (j : Fin 3072) :
    (outsAt0 m c t).2.2.2.2.1 (ix3 (0 : Fin 1) p j) = gates (WK m c) (XK m c (tb t) (tp t p)) j := by
  rw [gates_A, pk_half]
  · have e : (iblk m c 3 t : Vec Ideal S1x3072 .f32) (ix2 (0 : Fin 1) j) = (WK m c).bgate j := (blk3 m c t j).trans (V21 m c j)
    rw [e, ← Arith.mul_add _ (by norm_num), sigmoid]
    rfl
  · exact Or.inr (by dsimp only; omega)

theorem attn_at (c : Dev nD) (hl : Live m c) (t : Fin cfg0.N) (p : Fin 1024) (j : Fin 512) :
    (outsAt0 m c t).2.2.2.1 (ix3 (0 : Fin 1) p j) = attn (WK m c) (XK m c (tb t) (tp t p)) (KK m c (tb t)) (VK m c (tb t)) j := by
  have eq : (fun j : Fin 512 => pk (iblk m c 0 t) (iblk m c 1 t) (iblk m c 2 t) p ⟨1536 + j.val, by omega⟩)
      = zq (WK m c) (XK m c (tb t) (tp t p)) := by
    funext j
    rw [pk_whole]
    · rfl
    · rintro (⟨_, h⟩ | h) <;> (dsimp only at h; omega)
  have ek : (fun (n : Fin 256) (j : Fin 512) => (iblk m c 8 t : Vec Ideal S1x256x512 .bf16) (ix3 (0 : Fin 1) n j)) = KK m c (tb t) := by
    funext n j; exact blk8 m c t n j
  have ev : (fun (n : Fin 256) => (iblk m c 9 t : Vec Ideal S1x256x512 .bf16) (ix3 (0 : Fin 1) n j)) = fun n => VK m c (tb t) n j := by
    funext n; exact blk9 m c t n j
  rw [attn_A, eq, ek, ev, katt_soft]
  · rfl
  · intro n
    unfold score
    exact sum_real _ _ fun e => mul_real (real_at m c hl _ _ _) (hl.key _ _ _)

theorem kvn_eq (c : Dev nD) (hl : Live m c) (t : Fin cfg0.N) (p : Fin 1024) :
    kvn (iblk m c 0 t) (iblk m c 1 t) (iblk m c 2 t) (iblk m c 4 t) (iblk m c 5 t) p = vn (WK m c) (XK m c (tb t) (tp t p)) := by
  have e : (fun k : Fin 512 => kgelu (pk (iblk m c 0 t) (iblk m c 1 t) (iblk m c 2 t) p ⟨1024 + k.val, by omega⟩))
      = fun k => gelu (zv (WK m c) (XK m c (tb t) (tp t p)) k) := by
    funext k
    rw [pk_half, kgelu_half (real_at m c hl _ _ _)]
    · rfl
    · exact Or.inl (by dsimp only; omega)
  have e4 : (fun k => (iblk m c 4 t : Vec Ideal S1x512 .f32) (ix2 (0 : Fin 1) k)) = (WK m c).gsgu :=
    funext fun k => (blk4 m c t k).trans (V23 m c k)
  have e5 : (fun k => (iblk m c 5 t : Vec Ideal S1x512 .f32) (ix2 (0 : Fin 1) k)) = (WK m c).bsgu :=
    funext fun k => (blk5 m c t k).trans (V25 m c k)
  unfold kvn vn
  rw [e, e4, e5]

theorem sgu_at (c : Dev nD) (hl : Live m c) (t : Fin cfg0.N) (p : Fin 1024) (j : Fin 512) :
    (outsAt0 m c t).2.2.1 (ix3 (0 : Fin 1) p j)
    = sgu (WK m c) (fun s => XK m c (tb t) (⟨(tp t p).val / 128 * 128 + s.val, by omega⟩ : Fin 2048)) (⟨(tp t p).val % 128, by omega⟩ : Fin 128) j := by
  have hp : (⟨(tp t p).val % 128, by omega⟩ : Fin 128) = ⟨p.val % 128, by omega⟩ := Fin.ext (by dsimp only; omega)
  have hx : (⟨(tp t p).val / 128 * 128 + p.val % 128, by omega⟩ : Fin 2048) = tp t p := Fin.ext (by dsimp only; omega)
  rw [sgu_A, hp]
  unfold ksgu sgu
  dsimp only
  rw [pk_half m c t p _ (Or.inl (by dsimp only; omega)), kgelu_half (real_at m c hl _ _ _), hx]
  refine congrArg₂ (· * ·) rfl (congrArg₂ (· + ·) (Finset.sum_congr rfl fun s _ => ?_) ?_)
  · have hs : tp t (⟨p.val / 128 * 128 + s.val, by omega⟩ : Fin 1024) = (⟨(tp t p).val / 128 * 128 + s.val, by omega⟩ : Fin 2048) :=
      Fin.ext (by dsimp only; omega)
    rw [kvn_eq m c hl, hs, mul_comm]
    exact congrArg₂ (· * ·) rfl (congrArg₂ (· * ·) ((blk6 m c t _ _ _).trans (V26 m c _ _ _)) rfl)
  · exact (blk7 m c t _ _).trans (V28 m c _ _)

end Cert.KernelIdeal.Hand

end
-- ==== Proof.Blocks2.lean ====
/- The merge call's weights and one position's rows, read off the blocks a grid point is given. -/
module

public import proofs.«01_k».proof.Proof.Gen.Own.Kernel2Ideal.Value
public import proofs.«01_k».proof.Proof.Merge
public import Idealize.ShloMosaic.Lib.Pipeline.ValueKit
public import Idealize.ShloMosaic.Lib.Pipeline.ReadBack
public import Idealize.ShloMosaic.Lib.Pointwise

@[expose] public section

noncomputable section

namespace Cert.Kernel2Ideal.Hand

open Cert.Kernel2Ideal Cert.Kernel2Ideal.Gen Idealize.ShloMosaic Idealize.ShloMosaic.TcCoe Idealize.SL.Sem
open Cert.Arith Cert.Merge

/-- A whole load of what several stores left. -/
theorem readCov_all {S : Shape} {e : EltTy} {Val : EltTy → Type} [∀ e, Nonempty (Val e)] {sig : RefSig} {κ : Kind} {sp : Space}
    (v : View sig κ sp S e) (L : List (View.Piece Val S e)) {off : Fin S.rank → ℕ} (inb : ∀ a, off a + S.size a ≤ S.size a)
    (h : ∀ a, off a = 0) : v.readCov L (Rect.unit off (no_index S.size) inb).toLoadRect = View.canon L := by
  rw [View.readCov_eq_canon']
  funext j
  congr 1
  funext a
  apply Fin.ext
  have := Rect.idx_unit_val off S.size inb j a
  rw [h a, Nat.zero_add] at this
  exact this

variable (m : (ℓ : Loc nD τ sig) → Buf (Elt Ideal) ℓ)

/-- The weights twelve blocks hold. -/
def wtOf (b5 : Vec Ideal S1x512 .f32) (b9 : Vec Ideal S512x512 .bf16) (b10 : Vec Ideal S1x512 .f32) (b11 : Vec Ideal S512x1024 .bf16) (b12 : Vec Ideal S512x1024 .bf16) (b13 : Vec Ideal S512x1024 .bf16) (b14 : Vec Ideal S1024x1024 .bf16) (b15 : Vec Ideal S1x1024 .f32) (b16 : Vec Ideal S1024x2816 .bf16) (b17 : Vec Ideal S1024x2816 .bf16) (b18 : Vec Ideal S2816x1024 .bf16) (b19 : Vec Ideal S1x1024 .f32) : Weights where
  dskip k := b5 (ix2 (0 : Fin 1) k)
  wglu k j := b9 (ix2 k j)
  bglu k := b10 (ix2 (0 : Fin 1) k)
  wa k j := b11 (ix2 k j)
  wb k j := b12 (ix2 k j)
  wc k j := b13 (ix2 k j)
  wout k j := b14 (ix2 k j)
  gffn k := b15 (ix2 (0 : Fin 1) k)
  wgate k j := b16 (ix2 k j)
  wup k j := b17 (ix2 k j)
  wdown k j := b18 (ix2 k j)
  gfin k := b19 (ix2 (0 : Fin 1) k)

/-- Row `p` of a tile, but for the recurrence. -/
def rowOf (b0 : Vec Ideal S512x1024 .f32) (b6 b7 : Vec Ideal S512x512 .bf16) (b8 : Vec Ideal S512x3072 .bf16) (p : Fin 512) : Row where
  x k := b0 (ix2 p k)
  y _ := 0
  za _ := 0
  sgu k := b6 (ix2 p k)
  attn k := b7 (ix2 p k)
  gate b k := b8 (ix2 p (⟨b.val * 1024 + k.val, by omega⟩ : Fin 3072))

/-- The weights a point's blocks hold. -/
def wt (c : Dev nD) (t : Fin cfg0.N) : Weights :=
  wtOf (iblk m c 5 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- Row `p` of the point's tile, but for the recurrence. -/
def row (c : Dev nD) (t : Fin cfg0.N) (p : Fin 512) : Row := rowOf (iblk m c 0 t) (iblk m c 6 t) (iblk m c 7 t) (iblk m c 8 t) p

theorem gate_at (b0 : Vec Ideal S512x1024 .f32) (b6 b7 : Vec Ideal S512x512 .bf16) (b8 : Vec Ideal S512x3072 .bf16) (p : Fin 512)
    (i : Fin 3072) (b : Fin 3) (j : Fin 1024) (h : i.val = b.val * 1024 + j.val) :
    b8 (ix2 p i) = (rowOf b0 b6 b7 b8 p).gate b j := by
  obtain ⟨i, hi⟩ := i
  dsimp only at h
  subst h
  rfl

/-- SwiGLU with the row factor taken out of both contractions and the logistic written by `tanh`. -/
theorem swiglu_scaled (x g : Fin 1024 → EReal) (wg wu : Fin 1024 → Fin 2816 → EReal) (j : Fin 2816) :
    (rinv 1024 x * ∑ k, x k * g k * wg k j)
        * (((1 / 2 : ℝ) : EReal) * Ideal.tanh (((1 / 2 : ℝ) : EReal) * (rinv 1024 x * ∑ k, x k * g k * wg k j)) + ((1 / 2 : ℝ) : EReal))
        * (rinv 1024 x * ∑ k, x k * g k * wu k j)
      = swiglu (Merge.norm 1024 x g) wg wu j := by
  rw [rowscale 1024 (by norm_num) x x g fun k => wg k j, rowscale 1024 (by norm_num) x x g fun k => wu k j, sigmoid]
  rfl

end Cert.Kernel2Ideal.Hand

end
-- ==== Proof.Ref2.lean ====
/- What the reference of the second half leaves, position by position: its printed run, read at an index stage by stage, is
   `Merge.out` of the position's rows. -/
module

public import proofs.«01_k».proof.Proof.Merge
public import proofs.«01_k».proof.Proof.Gen.Reference2Ideal.Read
public import Idealize.ShloMosaic.Lib.Pointwise

@[expose] public section

set_option maxRecDepth 16384

noncomputable section

namespace Cert.Reference2Ideal.Reads

open Cert.Reference2Ideal Cert.Reference2Ideal.Read Cert.Arith Cert.Merge Idealize.ShloMosaic

variable (x0 : Vec Ideal S8x2048x1024 .f32) (x1 : Vec Ideal S32x1024x256 .bf16) (x2 : Vec Ideal S8x2048x512 .f32)
  (x3 : Vec Ideal S1x512 .f32) (x4 x5 : Vec Ideal S8x2048x512 .bf16) (x6 : Vec Ideal S8x2048x3072 .bf16)
  (x7 : Vec Ideal S1x512x512 .f32) (x8 : Vec Ideal S1x512 .f32) (x9 x10 x11 : Vec Ideal S1x512x1024 .f32)
  (x12 : Vec Ideal S1x1024x1024 .f32) (x13 : Vec Ideal S1x1024 .f32) (x14 x15 : Vec Ideal S1x1024x2816 .f32)
  (x16 : Vec Ideal S1x2816x1024 .f32) (x17 : Vec Ideal S1024 .f32)

/-- The weights the reference reads. -/
def W : Weights where
  dskip j := x3 (ix2 0 j)
  wglu k j := x7 (ix3 0 k j)
  bglu j := x8 (ix2 0 j)
  wa k j := x9 (ix3 0 k j)
  wb k j := x10 (ix3 0 k j)
  wc k j := x11 (ix3 0 k j)
  wout k j := x12 (ix3 0 k j)
  gffn j := x13 (ix2 0 j)
  wgate k j := x14 (ix3 0 k j)
  wup k j := x15 (ix3 0 k j)
  wdown k j := x16 (ix3 0 k j)
  gfin j := x17 (ix1 j)

/-- The rows of position `t` of batch `b`; the recurrence's output is kept by group of sixteen channels, sixteen positions
    to a row. -/
def R (b : Fin 8) (t : Fin 2048) : Row where
  x j := x0 (ix3 b t j)
  y j := x1 (ix3 (⟨j.val / 16, by omega⟩ : Fin 32) (⟨b.val * 128 + t.val / 16, by omega⟩ : Fin 1024)
    (⟨t.val % 16 * 16 + j.val % 16, by omega⟩ : Fin 256))
  za j := x2 (ix3 b t j)
  sgu j := x4 (ix3 b t j)
  attn j := x5 (ix3 b t j)
  gate i j := x6 (ix3 b t ⟨i.val * 1024 + j.val, by omega⟩)

/-- A row out of a [8, 2048, n] array. -/
abbrev row {n : Nat} (v : (⟨3, ![8, 2048, n]⟩ : Shape).Idx → EReal) (b : Fin 8) (t : Fin 2048) : Fin n → EReal := fun j => v (ix3 b t j)

theorem v8 (b : Fin 8) (t : Fin 2048) (j : Fin 512) : val_main_v8 (F := Ideal) x1 x2 x3 (ix3 b t j)
    = (R x0 x1 x2 x4 x5 x6 b t).y j + x3 (ix2 0 j) * (R x0 x1 x2 x4 x5 x6 b t).za j := by
  pointwise [val_main_v8, val_main_v7, val_main_v6, val_main_v5, val_main_v4, val_main_v3, val_main_v2, val_main_v1, val_main_v0]
  rfl

theorem v21 (i : S8x2048x512.Idx) : val_main_v21 (F := Ideal) x1 x2 x3 i = gelu (val_main_v8 (F := Ideal) x1 x2 x3 i) := by
  pointwise [val_main_v21, val_main_v20, val_main_v19, val_main_v18, val_main_v17, val_main_v16, val_main_v15, val_main_v14,
    val_main_v13, val_main_v12, val_main_v11, val_main_v10, val_main_v9, val_main_cst, val_main_cst_0, val_main_cst_1, val_main_cst_2]
  rw [gelu, w_half, w_c1, w_c3]

theorem v34 (b : Fin 8) (t : Fin 2048) (j : Fin 512) : val_main_v34 (F := Ideal) x1 x2 x3 x7 x8 (ix3 b t j)
    = glu (fun k => val_main_v8 (F := Ideal) x1 x2 x3 (ix3 b t k)) (fun k j => x7 (ix3 0 k j)) (fun j => x8 (ix2 0 j)) j := by
  pointwise [val_main_v34, val_main_v33, val_main_v32, val_main_v31, val_main_v30, val_main_v29, val_main_v28, val_main_v27,
    val_main_v26, val_main_v25, val_main_v24, val_main_v23, val_main_v22, val_main_cst_3, val_main_cst_4]
  simp only [v21, w_one]
  rfl

theorem v55 (b : Fin 8) (t : Fin 2048) (j : Fin 1024) : val_main_v55 (F := Ideal) x1 x2 x3 x4 x5 x6 x7 x8 x9 x10 x11 (ix3 b t j)
    = merged (fun k => val_main_v34 (F := Ideal) x1 x2 x3 x7 x8 (ix3 b t k)) (fun j => x4 (ix3 b t j)) (fun j => x5 (ix3 b t j))
      (R x0 x1 x2 x4 x5 x6 b t).gate (fun k j => x9 (ix3 0 k j)) (fun k j => x10 (ix3 0 k j)) (fun k j => x11 (ix3 0 k j)) j := by
  pointwise [val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35]
  simp only [merged, mv, R, Fin.val_zero, Fin.val_one, Fin.val_two, zero_mul, zero_add, one_mul, add_assoc]

theorem v58 (b : Fin 8) (t : Fin 2048) (j : Fin 1024) : val_main_v58 (F := Ideal) x0 x1 x2 x3 x4 x5 x6 x7 x8 x9 x10 x11 x12 (ix3 b t j)
    = resid (fun j => x0 (ix3 b t j)) (fun k => val_main_v55 (F := Ideal) x1 x2 x3 x4 x5 x6 x7 x8 x9 x10 x11 (ix3 b t k))
      (fun k j => x12 (ix3 0 k j)) j := by
  pointwise [val_main_v58, val_main_v57, val_main_v56]
  rfl

theorem v72 (b : Fin 8) (t : Fin 2048) (j : Fin 1024) : val_main_v72 (F := Ideal) x0 x1 x2 x3 x4 x5 x6 x7 x8 x9 x10 x11 x12 x13 (ix3 b t j)
    = norm 1024 (fun k => val_main_v58 (F := Ideal) x0 x1 x2 x3 x4 x5 x6 x7 x8 x9 x10 x11 x12 (ix3 b t k)) (fun j => x13 (ix2 0 j)) j := by
  pointwise [val_main_v72, val_main_v71, val_main_v70, val_main_v69, val_main_v68, val_main_v67, val_main_v66, val_main_v65,
    val_main_v64, val_main_v63, val_main_v62, val_main_v61, val_main_v60, val_main_v59, val_main_cst_5, val_main_cst_6, val_main_cst_7]
  rw [Merge.norm, rinv, w_1024, w_eps]

theorem v78 (b : Fin 8) (t : Fin 2048) (j : Fin 2816) :
    val_main_v78 (F := Ideal) x0 x1 x2 x3 x4 x5 x6 x7 x8 x9 x10 x11 x12 x13 x14 x15 (ix3 b t j)
    = swiglu (fun k => val_main_v72 (F := Ideal) x0 x1 x2 x3 x4 x5 x6 x7 x8 x9 x10 x11 x12 x13 (ix3 b t k)) (fun k j => x14 (ix3 0 k j))
      (fun k j => x15 (ix3 0 k j)) j := by
  pointwise [val_main_v78, val_main_v77, val_main_v76, val_main_v75, val_main_v74, val_main_v73, val_main_call0_v5, val_main_call0_v4, val_main_call0_v3, val_main_call0_v2, val_main_call0_v1,
    val_main_call0_v0, val_main_call0_cst, val_main_call0_cst_0]
  rfl

theorem v81 (b : Fin 8) (t : Fin 2048) (j : Fin 1024) :
    val_main_v81 (F := Ideal) x0 x1 x2 x3 x4 x5 x6 x7 x8 x9 x10 x11 x12 x13 x14 x15 x16 (ix3 b t j)
    = resid (fun j => val_main_v58 (F := Ideal) x0 x1 x2 x3 x4 x5 x6 x7 x8 x9 x10 x11 x12 (ix3 b t j))
      (fun k => val_main_v78 (F := Ideal) x0 x1 x2 x3 x4 x5 x6 x7 x8 x9 x10 x11 x12 x13 x14 x15 (ix3 b t k)) (fun k j => x16 (ix3 0 k j)) j := by
  pointwise [val_main_v81, val_main_v80, val_main_v79]
  rfl

theorem v94 (b : Fin 8) (t : Fin 2048) (j : Fin 1024) :
    val_main_v94 (F := Ideal) x0 x1 x2 x3 x4 x5 x6 x7 x8 x9 x10 x11 x12 x13 x14 x15 x16 x17 (ix3 b t j)
    = norm 1024 (fun k => val_main_v81 (F := Ideal) x0 x1 x2 x3 x4 x5 x6 x7 x8 x9 x10 x11 x12 x13 x14 x15 x16 (ix3 b t k)) (fun j => x17 (ix1 j)) j := by
  pointwise [val_main_v94, val_main_v93, val_main_v92, val_main_v91, val_main_v90, val_main_v89, val_main_v88, val_main_v87,
    val_main_v86, val_main_v85, val_main_v84, val_main_v83, val_main_v82, val_main_cst_8, val_main_cst_9, val_main_cst_10]
  rw [Merge.norm, rinv, w_1024, w_eps]

/-- The reference's result at a position: `Merge.out` of that position's rows. -/
theorem v95 (n : Fin 16384) (j : Fin 1024) :
    val_main_v95 (F := Ideal) x0 x1 x2 x3 x4 x5 x6 x7 x8 x9 x10 x11 x12 x13 x14 x15 x16 x17 (ix2 n j)
    = out (W x3 x7 x8 x9 x10 x11 x12 x13 x14 x15 x16 x17)
      (R x0 x1 x2 x4 x5 x6 (⟨n.val / 2048, by omega⟩ : Fin 8) (⟨n.val % 2048, by omega⟩ : Fin 2048)) j := by
  have e : val_main_v95 (F := Ideal) x0 x1 x2 x3 x4 x5 x6 x7 x8 x9 x10 x11 x12 x13 x14 x15 x16 x17 (ix2 n j)
      = val_main_v94 (F := Ideal) x0 x1 x2 x3 x4 x5 x6 x7 x8 x9 x10 x11 x12 x13 x14 x15 x16 x17
        (ix3 (⟨n.val / 2048, by omega⟩ : Fin 8) (⟨n.val % 2048, by omega⟩ : Fin 2048) j) := by
    pointwise [val_main_v95]
  rw [e, v94]
  simp only [v81, v78, v72, v58, v55 x0, v34, v8 x0 x1 x2 x3 x4 x5 x6]
  rfl

end Cert.Reference2Ideal.Reads

end
-- ==== Proof.Fold2.lean ====
/- The merge call's blocks as the call's arguments: which tile each grid point's windows hold, and what the host's reshapes and
   casts put there. -/
module

public import proofs.«01_k».proof.Proof.Blocks2
public import proofs.«01_k».proof.Proof.Ref2
public import Idealize.ShloMosaic.Lib.StableHlo.ReadAt

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

/-- Which block each moving window holds at a grid point. -/
theorem idxRow : ∀ t : Fin cfg0.N, win0_0.index t = ![min t.val 31, 0] ∧ win0_6.index t = ![min t.val 31, 0]
    ∧ win0_7.index t = ![min t.val 31, 0] ∧ win0_8.index t = ![min t.val 31, 0] :=
  (by decide +kernel : ∀ t : Fin grid0.N, _)

theorem idxRec : ∀ t : Fin cfg0.N, win0_1.index t = ![0, 0, 0] ∧ win0_2.index t = ![0, 0]
    ∧ win0_3.index t = ![0, min (t.val + 1) 31, 0] ∧ win0_4.index t = ![min (t.val + 1) 31, 0] :=
  (by decide +kernel : ∀ t : Fin grid0.N, _)

theorem idxOut : ∀ t : Fin cfg0.N, win0_20.index t = ![t.val - 1, 0] :=
  (by decide +kernel : ∀ t : Fin grid0.N, _)

theorem idxW : ∀ t : Fin cfg0.N, win0_5.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] :=
  (by decide +kernel : ∀ t : Fin grid0.N, _)

theorem V19 (c : Dev nD) (k : Fin 512) : (V m c main_v19 : Vec Ideal S1x512 .f32) (ix2 (0 : Fin 1) k)
    = (m ((c : Thread nD τ).loc main_arg3) : Vec Ideal S1x512 .f32) (ix2 (0 : Fin 1) k) := by
  unfold V
  after_reads_at

theorem V24 (c : Dev nD) (k : Fin 512) : (V m c main_v24 : Vec Ideal S1x512 .f32) (ix2 (0 : Fin 1) k)
    = (m ((c : Thread nD τ).loc main_arg8) : Vec Ideal S1x512 .f32) (ix2 (0 : Fin 1) k) := by
  unfold V
  after_reads_at

theorem V26 (c : Dev nD) (k : Fin 1024) : (V m c main_v26 : Vec Ideal S1x1024 .f32) (ix2 (0 : Fin 1) k)
    = (m ((c : Thread nD τ).loc main_arg13) : Vec Ideal S1x1024 .f32) (ix2 (0 : Fin 1) k) := by
  unfold V
  after_reads_at

theorem V27 (c : Dev nD) (k : Fin 1024) : (V m c main_v27 : Vec Ideal S1x1024 .f32) (ix2 (0 : Fin 1) k)
    = (m ((c : Thread nD τ).loc main_arg17) : Vec Ideal S1024 .f32) (ix1 k) := by
  unfold V
  after_reads_at

theorem V1 (c : Dev nD) (k : Fin 512) (j : Fin 512) : (V m c main_v1 : Vec Ideal S512x512 .bf16) (ix2 k j)
    = (m ((c : Thread nD τ).loc main_arg7) : Vec Ideal S1x512x512 .f32) (ix3 (0 : Fin 1) k j) := by
  unfold V
  after_reads_at

theorem V3 (c : Dev nD) (k : Fin 512) (j : Fin 1024) : (V m c main_v3 : Vec Ideal S512x1024 .bf16) (ix2 k j)
    = (m ((c : Thread nD τ).loc main_arg9) : Vec Ideal S1x512x1024 .f32) (ix3 (0 : Fin 1) k j) := by
  unfold V
  after_reads_at

theorem V5 (c : Dev nD) (k : Fin 512) (j : Fin 1024) : (V m c main_v5 : Vec Ideal S512x1024 .bf16) (ix2 k j)
    = (m ((c : Thread nD τ).loc main_arg10) : Vec Ideal S1x512x1024 .f32) (ix3 (0 : Fin 1) k j) := by
  unfold V
  after_reads_at

theorem V7 (c : Dev nD) (k : Fin 512) (j : Fin 1024) : (V m c main_v7 : Vec Ideal S512x1024 .bf16) (ix2 k j)
    = (m ((c : Thread nD τ).loc main_arg11) : Vec Ideal S1x512x1024 .f32) (ix3 (0 : Fin 1) k j) := by
  unfold V
  after_reads_at

theorem V9 (c : Dev nD) (k : Fin 1024) (j : Fin 1024) : (V m c main_v9 : Vec Ideal S1024x1024 .bf16) (ix2 k j)
    = (m ((c : Thread nD τ).loc main_arg12) : Vec Ideal S1x1024x1024 .f32) (ix3 (0 : Fin 1) k j) := by
  unfold V
  after_reads_at

theorem V11 (c : Dev nD) (k : Fin 1024) (j : Fin 2816) : (V m c main_v11 : Vec Ideal S1024x2816 .bf16) (ix2 k j)
    = (m ((c : Thread nD τ).loc main_arg14) : Vec Ideal S1x1024x2816 .f32) (ix3 (0 : Fin 1) k j) := by
  unfold V
  after_reads_at

theorem V13 (c : Dev nD) (k : Fin 1024) (j : Fin 2816) : (V m c main_v13 : Vec Ideal S1024x2816 .bf16) (ix2 k j)
    = (m ((c : Thread nD τ).loc main_arg15) : Vec Ideal S1x1024x2816 .f32) (ix3 (0 : Fin 1) k j) := by
  unfold V
  after_reads_at

theorem V15 (c : Dev nD) (k : Fin 2816) (j : Fin 1024) : (V m c main_v15 : Vec Ideal S2816x1024 .bf16) (ix2 k j)
    = (m ((c : Thread nD τ).loc main_arg16) : Vec Ideal S1x2816x1024 .f32) (ix3 (0 : Fin 1) k j) := by
  unfold V
  after_reads_at

theorem V16 (c : Dev nD) (n : Fin 16384) (j : Fin 1024) : (V m c main_v16 : Vec Ideal S16384x1024 .f32) (ix2 n j)
    = (m ((c : Thread nD τ).loc main_arg0) : Vec Ideal S8x2048x1024 .f32)
      (ix3 (⟨n.val / 2048, by omega⟩ : Fin 8) (⟨n.val % 2048, by omega⟩ : Fin 2048) j) := by
  unfold V
  after_reads_at

theorem V17 (c : Dev nD) (n : Fin 16384) (j : Fin 512) : (V m c main_v17 : Vec Ideal S16384x512 .f32) (ix2 n j)
    = (m ((c : Thread nD τ).loc main_arg2) : Vec Ideal S8x2048x512 .f32)
      (ix3 (⟨n.val / 2048, by omega⟩ : Fin 8) (⟨n.val % 2048, by omega⟩ : Fin 2048) j) := by
  unfold V
  after_reads_at

theorem V20 (c : Dev nD) (n : Fin 16384) (j : Fin 512) : (V m c main_v20 : Vec Ideal S16384x512 .bf16) (ix2 n j)
    = (m ((c : Thread nD τ).loc main_arg4) : Vec Ideal S8x2048x512 .bf16)
      (ix3 (⟨n.val / 2048, by omega⟩ : Fin 8) (⟨n.val % 2048, by omega⟩ : Fin 2048) j) := by
  unfold V
  after_reads_at

theorem V21 (c : Dev nD) (n : Fin 16384) (j : Fin 512) : (V m c main_v21 : Vec Ideal S16384x512 .bf16) (ix2 n j)
    = (m ((c : Thread nD τ).loc main_arg5) : Vec Ideal S8x2048x512 .bf16)
      (ix3 (⟨n.val / 2048, by omega⟩ : Fin 8) (⟨n.val % 2048, by omega⟩ : Fin 2048) j) := by
  unfold V
  after_reads_at

theorem V22 (c : Dev nD) (n : Fin 16384) (j : Fin 3072) : (V m c main_v22 : Vec Ideal S16384x3072 .bf16) (ix2 n j)
    = (m ((c : Thread nD τ).loc main_arg6) : Vec Ideal S8x2048x3072 .bf16)
      (ix3 (⟨n.val / 2048, by omega⟩ : Fin 8) (⟨n.val % 2048, by omega⟩ : Fin 2048) j) := by
  unfold V
  after_reads_at

theorem blk5 (c : Dev nD) (t : Fin cfg0.N) (k : Fin 512) : (iblk m c 5 t : Vec Ideal S1x512 .f32) (ix2 (0 : Fin 1) k)
    = (V m c main_v19 : Vec Ideal S1x512 .f32) (ix2 (0 : Fin 1) k) := by
  blk_ext [iblk, (idxW t).1]

theorem blk10 (c : Dev nD) (t : Fin cfg0.N) (k : Fin 512) : (iblk m c 10 t : Vec Ideal S1x512 .f32) (ix2 (0 : Fin 1) k)
    = (V m c main_v24 : Vec Ideal S1x512 .f32) (ix2 (0 : Fin 1) k) := by
  blk_ext [iblk, (idxW t).2.2.1]

theorem blk15 (c : Dev nD) (t : Fin cfg0.N) (k : Fin 1024) : (iblk m c 15 t : Vec Ideal S1x1024 .f32) (ix2 (0 : Fin 1) k)
    = (V m c main_v26 : Vec Ideal S1x1024 .f32) (ix2 (0 : Fin 1) k) := by
  blk_ext [iblk, (idxW t).2.2.2.2.2.2.2.1]

theorem blk19 (c : Dev nD) (t : Fin cfg0.N) (k : Fin 1024) : (iblk m c 19 t : Vec Ideal S1x1024 .f32) (ix2 (0 : Fin 1) k)
    = (V m c main_v27 : Vec Ideal S1x1024 .f32) (ix2 (0 : Fin 1) k) := by
  blk_ext [iblk, (idxW t).2.2.2.2.2.2.2.2.2.2.2]

theorem blk9 (c : Dev nD) (t : Fin cfg0.N) (k : Fin 512) (j : Fin 512) : (iblk m c 9 t : Vec Ideal S512x512 .bf16) (ix2 k j)
    = (V m c main_v1 : Vec Ideal S512x512 .bf16) (ix2 k j) := by
  blk_ext [iblk, (idxW t).2.1]

theorem blk11 (c : Dev nD) (t : Fin cfg0.N) (k : Fin 512) (j : Fin 1024) : (iblk m c 11 t : Vec Ideal S512x1024 .bf16) (ix2 k j)
    = (V m c main_v3 : Vec Ideal S512x1024 .bf16) (ix2 k j) := by
  blk_ext [iblk, (idxW t).2.2.2.1]

theorem blk12 (c : Dev nD) (t : Fin cfg0.N) (k : Fin 512) (j : Fin 1024) : (iblk m c 12 t : Vec Ideal S512x1024 .bf16) (ix2 k j)
    = (V m c main_v5 : Vec Ideal S512x1024 .bf16) (ix2 k j) := by
  blk_ext [iblk, (idxW t).2.2.2.2.1]

theorem blk13 (c : Dev nD) (t : Fin cfg0.N) (k : Fin 512) (j : Fin 1024) : (iblk m c 13 t : Vec Ideal S512x1024 .bf16) (ix2 k j)
    = (V m c main_v7 : Vec Ideal S512x1024 .bf16) (ix2 k j) := by
  blk_ext [iblk, (idxW t).2.2.2.2.2.1]

theorem blk14 (c : Dev nD) (t : Fin cfg0.N) (k : Fin 1024) (j : Fin 1024) : (iblk m c 14 t : Vec Ideal S1024x1024 .bf16) (ix2 k j)
    = (V m c main_v9 : Vec Ideal S1024x1024 .bf16) (ix2 k j) := by
  blk_ext [iblk, (idxW t).2.2.2.2.2.2.1]

theorem blk16 (c : Dev nD) (t : Fin cfg0.N) (k : Fin 1024) (j : Fin 2816) : (iblk m c 16 t : Vec Ideal S1024x2816 .bf16) (ix2 k j)
    = (V m c main_v11 : Vec Ideal S1024x2816 .bf16) (ix2 k j) := by
  blk_ext [iblk, (idxW t).2.2.2.2.2.2.2.2.1]

theorem blk17 (c : Dev nD) (t : Fin cfg0.N) (k : Fin 1024) (j : Fin 2816) : (iblk m c 17 t : Vec Ideal S1024x2816 .bf16) (ix2 k j)
    = (V m c main_v13 : Vec Ideal S1024x2816 .bf16) (ix2 k j) := by
  blk_ext [iblk, (idxW t).2.2.2.2.2.2.2.2.2.1]

theorem blk18 (c : Dev nD) (t : Fin cfg0.N) (k : Fin 2816) (j : Fin 1024) : (iblk m c 18 t : Vec Ideal S2816x1024 .bf16) (ix2 k j)
    = (V m c main_v15 : Vec Ideal S2816x1024 .bf16) (ix2 k j) := by
  blk_ext [iblk, (idxW t).2.2.2.2.2.2.2.2.2.2.1]

theorem blk0 (c : Dev nD) (t : Fin cfg0.N) (i : Fin 32) (h : t.val = i.val) (p : Fin 512) (j : Fin 1024) :
    (iblk m c 0 t : Vec Ideal S512x1024 .f32) (ix2 p j)
    = (V m c main_v16 : Vec Ideal S16384x1024 .f32) (ix2 (⟨i.val * 512 + p.val, by omega⟩ : Fin 16384) j) := by
  blk_ext [iblk, (idxRow t).1]

theorem blk6 (c : Dev nD) (t : Fin cfg0.N) (i : Fin 32) (h : t.val = i.val) (p : Fin 512) (j : Fin 512) :
    (iblk m c 6 t : Vec Ideal S512x512 .bf16) (ix2 p j)
    = (V m c main_v20 : Vec Ideal S16384x512 .bf16) (ix2 (⟨i.val * 512 + p.val, by omega⟩ : Fin 16384) j) := by
  blk_ext [iblk, (idxRow t).2.1]

theorem blk7 (c : Dev nD) (t : Fin cfg0.N) (i : Fin 32) (h : t.val = i.val) (p : Fin 512) (j : Fin 512) :
    (iblk m c 7 t : Vec Ideal S512x512 .bf16) (ix2 p j)
    = (V m c main_v21 : Vec Ideal S16384x512 .bf16) (ix2 (⟨i.val * 512 + p.val, by omega⟩ : Fin 16384) j) := by
  blk_ext [iblk, (idxRow t).2.2.1]

theorem blk8 (c : Dev nD) (t : Fin cfg0.N) (i : Fin 32) (h : t.val = i.val) (p : Fin 512) (j : Fin 3072) :
    (iblk m c 8 t : Vec Ideal S512x3072 .bf16) (ix2 p j)
    = (V m c main_v22 : Vec Ideal S16384x3072 .bf16) (ix2 (⟨i.val * 512 + p.val, by omega⟩ : Fin 16384) j) := by
  blk_ext [iblk, (idxRow t).2.2.2]

theorem blk2 (c : Dev nD) (t : Fin cfg0.N) (i : Fin 32) (h : i.val = 0) (p k : Fin 512) :
    (iblk m c 2 t : Vec Ideal S512x512 .f32) (ix2 p k)
    = (V m c main_v17 : Vec Ideal S16384x512 .f32) (ix2 (⟨i.val * 512 + p.val, by omega⟩ : Fin 16384) k) := by
  blk_ext [iblk, (idxRec t).2.1]

theorem blk4 (c : Dev nD) (t : Fin cfg0.N) (i : Fin 32) (h : t.val + 1 = i.val) (p k : Fin 512) :
    (iblk m c 4 t : Vec Ideal S512x512 .f32) (ix2 p k)
    = (V m c main_v17 : Vec Ideal S16384x512 .f32) (ix2 (⟨i.val * 512 + p.val, by omega⟩ : Fin 16384) k) := by
  blk_ext [iblk, (idxRec t).2.2.2]

theorem blk1 (c : Dev nD) (t : Fin cfg0.N) (i : Fin 32) (h : i.val = 0) (g : Fin 32) (r : Fin 32) (l : Fin 256) :
    (iblk m c 1 t : Vec Ideal S32x32x256 .bf16) (ix3 g r l)
    = (m ((c : Thread nD τ).loc main_arg1) : Vec Ideal S32x1024x256 .bf16) (ix3 g (⟨i.val * 32 + r.val, by omega⟩ : Fin 1024) l) := by
  rw [← V_main_arg1 m c]
  blk_ext [iblk, (idxRec t).1]

theorem blk3 (c : Dev nD) (t : Fin cfg0.N) (i : Fin 32) (h : t.val + 1 = i.val) (g : Fin 32) (r : Fin 32) (l : Fin 256) :
    (iblk m c 3 t : Vec Ideal S32x32x256 .bf16) (ix3 g r l)
    = (m ((c : Thread nD τ).loc main_arg1) : Vec Ideal S32x1024x256 .bf16) (ix3 g (⟨i.val * 32 + r.val, by omega⟩ : Fin 1024) l) := by
  rw [← V_main_arg1 m c]
  blk_ext [iblk, (idxRec t).2.2.1]

end Cert.Kernel2Ideal.Hand

end
-- ==== Proof.Swap2.lean ====
/- The butterfly that exchanges a list of eight arrays with the lane blocks, and with the sublanes, of those arrays. -/
module

public import proofs.«01_k».proof.Proof.Gen.Kernel2Ideal
public import Idealize.ShloMosaic.Lib.Pipeline.ValueKit
public import Idealize.ShloMosaic.Lib.Pipeline.ReadBack
public import Idealize.ShloMosaic.Lib.Pointwise

@[expose] public section

set_option maxHeartbeats 1000000

noncomputable section

namespace Cert.Kernel2Ideal.Swap

open Cert.Kernel2Ideal Cert.Kernel2Ideal.Gen Idealize.ShloMosaic Idealize.ShloMosaic.TcCoe Idealize.SL.Sem

/-- One array of the list. -/
abbrev Arr := S4x2x8x128.Idx → Ideal .f32

/-- Bit `d` of the lane block (of sixteen lanes) is clear. -/
def laneMask (d : ℕ) : S4x2x8x128.Idx → BitVec 1 := fun j => if (j 3).val / 16 / d % 2 = 0 then 1 else 0

/-- Bit `d` of the sublane is clear. -/
def subMask (d : ℕ) : S4x2x8x128.Idx → BitVec 1 := fun j => if (j 2).val / d % 2 = 0 then 1 else 0

/-- Bit `d` of a list place exchanged with that of a lane block. -/
def laneEx (d : ℕ) (x : ℕ × Fin 128) : ℕ × Fin 128 :=
  if x.2.val / 16 / d % 2 = x.1 / d % 2 then x
  else (if x.1 / d % 2 = 0 then x.1 + d else x.1 - d,
    ⟨(if x.2.val / 16 / d % 2 = 0 then x.2.val + 16 * d else x.2.val - 16 * d) % 128, Nat.mod_lt _ (by decide)⟩)

/-- Bit `d` of a list place exchanged with that of a sublane. -/
def subEx (d : ℕ) (x : ℕ × Fin 8) : ℕ × Fin 8 :=
  if x.2.val / d % 2 = x.1 / d % 2 then x
  else (if x.1 / d % 2 = 0 then x.1 + d else x.1 - d,
    ⟨(if x.2.val / d % 2 = 0 then x.2.val + d else x.2.val - d) % 8, Nat.mod_lt _ (by decide)⟩)

/-- One level of the exchange with the lane blocks. -/
def laneLevel (d : ℕ) (V : ℕ → Arr) (i : ℕ) : Arr := fun j =>
  V (laneEx d (i, j 3)).1 (ix4 (j 0) (j 1) (j 2) (laneEx d (i, j 3)).2)

/-- One level of the exchange with the sublanes. -/
def subLevel (d : ℕ) (V : ℕ → Arr) (i : ℕ) : Arr := fun j =>
  V (subEx d (i, j 2)).1 (ix4 (j 0) (j 1) (subEx d (i, j 2)).2 (j 3))

theorem laneEx_all : ∀ (i : Fin 32) (l : Fin 128), laneEx 4 (laneEx 2 (laneEx 1 (i.val, l)))
    = (i.val / 8 * 8 + l.val / 16, ⟨i.val % 8 * 16 + l.val % 16, by omega⟩) := by decide +kernel

theorem subEx_all : ∀ (i : Fin 32) (u : Fin 8), subEx 4 (subEx 2 (subEx 1 (i.val, u)))
    = (i.val / 8 * 8 + u.val, ⟨i.val % 8, by omega⟩) := by decide +kernel

theorem lane_all (V : ℕ → Arr) (i : ℕ) (hi : i < 32) (s : Fin 4) (h : Fin 2) (u : Fin 8) (l : Fin 128) :
    laneLevel 1 (laneLevel 2 (laneLevel 4 V)) i (ix4 s h u l)
      = V (i / 8 * 8 + l.val / 16) (ix4 s h u (⟨i % 8 * 16 + l.val % 16, by omega⟩ : Fin 128)) := by
  have e := laneEx_all ⟨i, hi⟩ l
  show V (laneEx 4 (laneEx 2 (laneEx 1 (i, l)))).1 (ix4 s h u (laneEx 4 (laneEx 2 (laneEx 1 (i, l)))).2) = _
  rw [e]

theorem sub_all (V : ℕ → Arr) (i : ℕ) (hi : i < 32) (s : Fin 4) (h : Fin 2) (u : Fin 8) (l : Fin 128) :
    subLevel 1 (subLevel 2 (subLevel 4 V)) i (ix4 s h u l)
      = V (i / 8 * 8 + u.val) (ix4 s h (⟨i % 8, by omega⟩ : Fin 8) l) := by
  have e := subEx_all ⟨i, hi⟩ u
  show V (subEx 4 (subEx 2 (subEx 1 (i, u)))).1 (ix4 s h (subEx 4 (subEx 2 (subEx 1 (i, u)))).2 l) = _
  rw [e]

theorem laneMask4 :
    cmpi .eq (andi (select
        (andi (cmpi .ne (subi (extui 32 (cmpi .sgt (iota .tc S4x2x8x128 32 [3] (by decide)) (broadcast S4x2x8x128 0#32)) (by decide))
            (extui 32 (cmpi .slt (iota .tc S4x2x8x128 32 [3] (by decide)) (broadcast S4x2x8x128 0#32)) (by decide))) (broadcast S4x2x8x128 1#32))
          (cmpi .ne (remsi (iota .tc S4x2x8x128 32 [3] (by decide)) (broadcast S4x2x8x128 16#32)) (broadcast S4x2x8x128 0#32)))
        (subi (divsi (iota .tc S4x2x8x128 32 [3] (by decide)) (broadcast S4x2x8x128 16#32)) (broadcast S4x2x8x128 1#32))
        (divsi (iota .tc S4x2x8x128 32 [3] (by decide)) (broadcast S4x2x8x128 16#32))) (broadcast S4x2x8x128 4#32)) (broadcast S4x2x8x128 0#32)
      = laneMask 4 := by
  funext j
  idx_vars j
  pointwise [laneMask]
  show _ = if j3.val / 16 / 4 % 2 = 0 then (1 : BitVec 1) else 0
  clear j0 j1 j2
  revert j3
  decide +kernel

theorem subMask4 :
    cmpi .eq (andi (iota .tc S4x2x8x128 32 [2] (by decide)) (broadcast S4x2x8x128 4#32)) (broadcast S4x2x8x128 0#32) = subMask 4 := by
  funext j
  idx_vars j
  pointwise [subMask]
  show _ = if j2.val / 4 % 2 = 0 then (1 : BitVec 1) else 0
  clear j0 j1 j3
  revert j2
  decide +kernel

theorem laneLo4 (V : ℕ → Arr) (i k : ℕ) (h : S4x2x8x128.Rotates 3 none) (hk : k = i + 4) (hi : i / 4 % 2 = 0) :
    select (laneMask 4) (V i) (dynamicRotate 3 (64#32) none (V k) h) = laneLevel 4 V i := by
  subst hk
  funext j
  idx_vars j
  show (if (laneMask 4) (ix4 j0 j1 j2 j3) = 1 then _ else _) = _
  unfold laneMask laneLevel laneEx
  simp only [hi, if_true]
  by_cases hb : j3.val / 16 / 4 % 2 = 0
  · rw [if_pos (by rw [if_pos (show ((ix4 j0 j1 j2 j3 : S4x2x8x128.Idx) 3).val / 16 / 4 % 2 = 0 from hb)]), if_pos (show ((ix4 j0 j1 j2 j3 : S4x2x8x128.Idx) 3).val / 16 / 4 % 2 = 0 from hb)]
    rfl
  · rw [if_neg (by rw [if_neg (show ¬((ix4 j0 j1 j2 j3 : S4x2x8x128.Idx) 3).val / 16 / 4 % 2 = 0 from hb)]; decide), if_neg (show ¬((ix4 j0 j1 j2 j3 : S4x2x8x128.Idx) 3).val / 16 / 4 % 2 = 0 from hb)]
    refine congrArg (V (i + 4)) (funext fun b => ?_)
    fin_cases b
    · rfl
    · rfl
    · rfl
    · apply Fin.ext
      show (j3.val + 128 - 64 % 128) % 128 = (if j3.val / 16 / 4 % 2 = 0 then j3.val + 16 * 4 else j3.val - 16 * 4) % 128
      rw [if_neg hb]
      have := j3.isLt
      omega

theorem laneHi4 (V : ℕ → Arr) (i k : ℕ) (h : S4x2x8x128.Rotates 3 none) (hk : k = i + 4) (hi : i / 4 % 2 = 0) :
    select (laneMask 4) (dynamicRotate 3 (64#32) none (V i) h) (V k) = laneLevel 4 V k := by
  have hi' : (i + 4) / 4 % 2 = 1 := by omega
  subst hk
  funext j
  idx_vars j
  show (if (laneMask 4) (ix4 j0 j1 j2 j3) = 1 then _ else _) = _
  unfold laneMask laneLevel laneEx
  simp only [hi', one_ne_zero, if_false]
  rw [show i + 4 - 4 = i by omega]
  by_cases hb : j3.val / 16 / 4 % 2 = 0
  · rw [if_pos (by rw [if_pos (show ((ix4 j0 j1 j2 j3 : S4x2x8x128.Idx) 3).val / 16 / 4 % 2 = 0 from hb)]), if_neg (show ¬((ix4 j0 j1 j2 j3 : S4x2x8x128.Idx) 3).val / 16 / 4 % 2 = 1 from by
      show ¬(j3.val / 16 / 4 % 2 = 1); omega)]
    refine congrArg (V i) (funext fun b => ?_)
    fin_cases b
    · rfl
    · rfl
    · rfl
    · apply Fin.ext
      show (j3.val + 128 - 64 % 128) % 128 = (if j3.val / 16 / 4 % 2 = 0 then j3.val + 16 * 4 else j3.val - 16 * 4) % 128
      rw [if_pos hb]
      have := j3.isLt
      omega
  · rw [if_neg (by rw [if_neg (show ¬((ix4 j0 j1 j2 j3 : S4x2x8x128.Idx) 3).val / 16 / 4 % 2 = 0 from hb)]; decide), if_pos (show ((ix4 j0 j1 j2 j3 : S4x2x8x128.Idx) 3).val / 16 / 4 % 2 = 1 from by
      show (j3.val / 16 / 4 % 2 = 1); omega)]
    rfl

theorem subLo4 (V : ℕ → Arr) (i k : ℕ) (h : S4x2x8x128.Rotates 2 none) (hk : k = i + 4) (hi : i / 4 % 2 = 0) :
    select (subMask 4) (V i) (dynamicRotate 2 (4#32) none (V k) h) = subLevel 4 V i := by
  subst hk
  funext j
  idx_vars j
  show (if (subMask 4) (ix4 j0 j1 j2 j3) = 1 then _ else _) = _
  unfold subMask subLevel subEx
  simp only [hi, if_true]
  by_cases hb : j2.val / 4 % 2 = 0
  · rw [if_pos (by rw [if_pos (show ((ix4 j0 j1 j2 j3 : S4x2x8x128.Idx) 2).val / 4 % 2 = 0 from hb)]), if_pos (show ((ix4 j0 j1 j2 j3 : S4x2x8x128.Idx) 2).val / 4 % 2 = 0 from hb)]
    rfl
  · rw [if_neg (by rw [if_neg (show ¬((ix4 j0 j1 j2 j3 : S4x2x8x128.Idx) 2).val / 4 % 2 = 0 from hb)]; decide), if_neg (show ¬((ix4 j0 j1 j2 j3 : S4x2x8x128.Idx) 2).val / 4 % 2 = 0 from hb)]
    refine congrArg (V (i + 4)) (funext fun b => ?_)
    fin_cases b
    · rfl
    · rfl
    · apply Fin.ext
      show (j2.val + 8 - 4 % 8) % 8 = (if j2.val / 4 % 2 = 0 then j2.val + 4 else j2.val - 4) % 8
      rw [if_neg hb]
      have := j2.isLt
      omega
    · rfl

theorem subHi4 (V : ℕ → Arr) (i k : ℕ) (h : S4x2x8x128.Rotates 2 none) (hk : k = i + 4) (hi : i / 4 % 2 = 0) :
    select (subMask 4) (dynamicRotate 2 (4#32) none (V i) h) (V k) = subLevel 4 V k := by
  have hi' : (i + 4) / 4 % 2 = 1 := by omega
  subst hk
  funext j
  idx_vars j
  show (if (subMask 4) (ix4 j0 j1 j2 j3) = 1 then _ else _) = _
  unfold subMask subLevel subEx
  simp only [hi', one_ne_zero, if_false]
  rw [show i + 4 - 4 = i by omega]
  by_cases hb : j2.val / 4 % 2 = 0
  · rw [if_pos (by rw [if_pos (show ((ix4 j0 j1 j2 j3 : S4x2x8x128.Idx) 2).val / 4 % 2 = 0 from hb)]), if_neg (show ¬((ix4 j0 j1 j2 j3 : S4x2x8x128.Idx) 2).val / 4 % 2 = 1 from by
      show ¬(j2.val / 4 % 2 = 1); omega)]
    refine congrArg (V i) (funext fun b => ?_)
    fin_cases b
    · rfl
    · rfl
    · apply Fin.ext
      show (j2.val + 8 - 4 % 8) % 8 = (if j2.val / 4 % 2 = 0 then j2.val + 4 else j2.val - 4) % 8
      rw [if_pos hb]
      have := j2.isLt
      omega
    · rfl
  · rw [if_neg (by rw [if_neg (show ¬((ix4 j0 j1 j2 j3 : S4x2x8x128.Idx) 2).val / 4 % 2 = 0 from hb)]; decide), if_pos (show ((ix4 j0 j1 j2 j3 : S4x2x8x128.Idx) 2).val / 4 % 2 = 1 from by
      show (j2.val / 4 % 2 = 1); omega)]
    rfl

theorem laneMask2 :
    cmpi .eq (andi (select
        (andi (cmpi .ne (subi (extui 32 (cmpi .sgt (iota .tc S4x2x8x128 32 [3] (by decide)) (broadcast S4x2x8x128 0#32)) (by decide))
            (extui 32 (cmpi .slt (iota .tc S4x2x8x128 32 [3] (by decide)) (broadcast S4x2x8x128 0#32)) (by decide))) (broadcast S4x2x8x128 1#32))
          (cmpi .ne (remsi (iota .tc S4x2x8x128 32 [3] (by decide)) (broadcast S4x2x8x128 16#32)) (broadcast S4x2x8x128 0#32)))
        (subi (divsi (iota .tc S4x2x8x128 32 [3] (by decide)) (broadcast S4x2x8x128 16#32)) (broadcast S4x2x8x128 1#32))
        (divsi (iota .tc S4x2x8x128 32 [3] (by decide)) (broadcast S4x2x8x128 16#32))) (broadcast S4x2x8x128 2#32)) (broadcast S4x2x8x128 0#32)
      = laneMask 2 := by
  funext j
  idx_vars j
  pointwise [laneMask]
  show _ = if j3.val / 16 / 2 % 2 = 0 then (1 : BitVec 1) else 0
  clear j0 j1 j2
  revert j3
  decide +kernel

theorem subMask2 :
    cmpi .eq (andi (iota .tc S4x2x8x128 32 [2] (by decide)) (broadcast S4x2x8x128 2#32)) (broadcast S4x2x8x128 0#32) = subMask 2 := by
  funext j
  idx_vars j
  pointwise [subMask]
  show _ = if j2.val / 2 % 2 = 0 then (1 : BitVec 1) else 0
  clear j0 j1 j3
  revert j2
  decide +kernel

theorem laneLo2 (V : ℕ → Arr) (i k : ℕ) (h : S4x2x8x128.Rotates 3 none) (hk : k = i + 2) (hi : i / 2 % 2 = 0) :
    select (laneMask 2) (V i) (dynamicRotate 3 (32#32) none (V k) h) = laneLevel 2 V i := by
  subst hk
  funext j
  idx_vars j
  show (if (laneMask 2) (ix4 j0 j1 j2 j3) = 1 then _ else _) = _
  unfold laneMask laneLevel laneEx
  simp only [hi, if_true]
  by_cases hb : j3.val / 16 / 2 % 2 = 0
  · rw [if_pos (by rw [if_pos (show ((ix4 j0 j1 j2 j3 : S4x2x8x128.Idx) 3).val / 16 / 2 % 2 = 0 from hb)]), if_pos (show ((ix4 j0 j1 j2 j3 : S4x2x8x128.Idx) 3).val / 16 / 2 % 2 = 0 from hb)]
    rfl
  · rw [if_neg (by rw [if_neg (show ¬((ix4 j0 j1 j2 j3 : S4x2x8x128.Idx) 3).val / 16 / 2 % 2 = 0 from hb)]; decide), if_neg (show ¬((ix4 j0 j1 j2 j3 : S4x2x8x128.Idx) 3).val / 16 / 2 % 2 = 0 from hb)]
    refine congrArg (V (i + 2)) (funext fun b => ?_)
    fin_cases b
    · rfl
    · rfl
    · rfl
    · apply Fin.ext
      show (j3.val + 128 - 32 % 128) % 128 = (if j3.val / 16 / 2 % 2 = 0 then j3.val + 16 * 2 else j3.val - 16 * 2) % 128
      rw [if_neg hb]
      have := j3.isLt
      omega

theorem laneHi2 (V : ℕ → Arr) (i k : ℕ) (h : S4x2x8x128.Rotates 3 none) (hk : k = i + 2) (hi : i / 2 % 2 = 0) :
    select (laneMask 2) (dynamicRotate 3 (96#32) none (V i) h) (V k) = laneLevel 2 V k := by
  have hi' : (i + 2) / 2 % 2 = 1 := by omega
  subst hk
  funext j
  idx_vars j
  show (if (laneMask 2) (ix4 j0 j1 j2 j3) = 1 then _ else _) = _
  unfold laneMask laneLevel laneEx
  simp only [hi', one_ne_zero, if_false]
  rw [show i + 2 - 2 = i by omega]
  by_cases hb : j3.val / 16 / 2 % 2 = 0
  · rw [if_pos (by rw [if_pos (show ((ix4 j0 j1 j2 j3 : S4x2x8x128.Idx) 3).val / 16 / 2 % 2 = 0 from hb)]), if_neg (show ¬((ix4 j0 j1 j2 j3 : S4x2x8x128.Idx) 3).val / 16 / 2 % 2 = 1 from by
      show ¬(j3.val / 16 / 2 % 2 = 1); omega)]
    refine congrArg (V i) (funext fun b => ?_)
    fin_cases b
    · rfl
    · rfl
    · rfl
    · apply Fin.ext
      show (j3.val + 128 - 96 % 128) % 128 = (if j3.val / 16 / 2 % 2 = 0 then j3.val + 16 * 2 else j3.val - 16 * 2) % 128
      rw [if_pos hb]
      have := j3.isLt
      omega
  · rw [if_neg (by rw [if_neg (show ¬((ix4 j0 j1 j2 j3 : S4x2x8x128.Idx) 3).val / 16 / 2 % 2 = 0 from hb)]; decide), if_pos (show ((ix4 j0 j1 j2 j3 : S4x2x8x128.Idx) 3).val / 16 / 2 % 2 = 1 from by
      show (j3.val / 16 / 2 % 2 = 1); omega)]
    rfl

theorem subLo2 (V : ℕ → Arr) (i k : ℕ) (h : S4x2x8x128.Rotates 2 none) (hk : k = i + 2) (hi : i / 2 % 2 = 0) :
    select (subMask 2) (V i) (dynamicRotate 2 (2#32) none (V k) h) = subLevel 2 V i := by
  subst hk
  funext j
  idx_vars j
  show (if (subMask 2) (ix4 j0 j1 j2 j3) = 1 then _ else _) = _
  unfold subMask subLevel subEx
  simp only [hi, if_true]
  by_cases hb : j2.val / 2 % 2 = 0
  · rw [if_pos (by rw [if_pos (show ((ix4 j0 j1 j2 j3 : S4x2x8x128.Idx) 2).val / 2 % 2 = 0 from hb)]), if_pos (show ((ix4 j0 j1 j2 j3 : S4x2x8x128.Idx) 2).val / 2 % 2 = 0 from hb)]
    rfl
  · rw [if_neg (by rw [if_neg (show ¬((ix4 j0 j1 j2 j3 : S4x2x8x128.Idx) 2).val / 2 % 2 = 0 from hb)]; decide), if_neg (show ¬((ix4 j0 j1 j2 j3 : S4x2x8x128.Idx) 2).val / 2 % 2 = 0 from hb)]
    refine congrArg (V (i + 2)) (funext fun b => ?_)
    fin_cases b
    · rfl
    · rfl
    · apply Fin.ext
      show (j2.val + 8 - 2 % 8) % 8 = (if j2.val / 2 % 2 = 0 then j2.val + 2 else j2.val - 2) % 8
      rw [if_neg hb]
      have := j2.isLt
      omega
    · rfl

theorem subHi2 (V : ℕ → Arr) (i k : ℕ) (h : S4x2x8x128.Rotates 2 none) (hk : k = i + 2) (hi : i / 2 % 2 = 0) :
    select (subMask 2) (dynamicRotate 2 (6#32) none (V i) h) (V k) = subLevel 2 V k := by
  have hi' : (i + 2) / 2 % 2 = 1 := by omega
  subst hk
  funext j
  idx_vars j
  show (if (subMask 2) (ix4 j0 j1 j2 j3) = 1 then _ else _) = _
  unfold subMask subLevel subEx
  simp only [hi', one_ne_zero, if_false]
  rw [show i + 2 - 2 = i by omega]
  by_cases hb : j2.val / 2 % 2 = 0
  · rw [if_pos (by rw [if_pos (show ((ix4 j0 j1 j2 j3 : S4x2x8x128.Idx) 2).val / 2 % 2 = 0 from hb)]), if_neg (show ¬((ix4 j0 j1 j2 j3 : S4x2x8x128.Idx) 2).val / 2 % 2 = 1 from by
      show ¬(j2.val / 2 % 2 = 1); omega)]
    refine congrArg (V i) (funext fun b => ?_)
    fin_cases b
    · rfl
    · rfl
    · apply Fin.ext
      show (j2.val + 8 - 6 % 8) % 8 = (if j2.val / 2 % 2 = 0 then j2.val + 2 else j2.val - 2) % 8
      rw [if_pos hb]
      have := j2.isLt
      omega
    · rfl
  · rw [if_neg (by rw [if_neg (show ¬((ix4 j0 j1 j2 j3 : S4x2x8x128.Idx) 2).val / 2 % 2 = 0 from hb)]; decide), if_pos (show ((ix4 j0 j1 j2 j3 : S4x2x8x128.Idx) 2).val / 2 % 2 = 1 from by
      show (j2.val / 2 % 2 = 1); omega)]
    rfl

theorem laneMask1 :
    cmpi .eq (andi (select
        (andi (cmpi .ne (subi (extui 32 (cmpi .sgt (iota .tc S4x2x8x128 32 [3] (by decide)) (broadcast S4x2x8x128 0#32)) (by decide))
            (extui 32 (cmpi .slt (iota .tc S4x2x8x128 32 [3] (by decide)) (broadcast S4x2x8x128 0#32)) (by decide))) (broadcast S4x2x8x128 1#32))
          (cmpi .ne (remsi (iota .tc S4x2x8x128 32 [3] (by decide)) (broadcast S4x2x8x128 16#32)) (broadcast S4x2x8x128 0#32)))
        (subi (divsi (iota .tc S4x2x8x128 32 [3] (by decide)) (broadcast S4x2x8x128 16#32)) (broadcast S4x2x8x128 1#32))
        (divsi (iota .tc S4x2x8x128 32 [3] (by decide)) (broadcast S4x2x8x128 16#32))) (broadcast S4x2x8x128 1#32)) (broadcast S4x2x8x128 0#32)
      = laneMask 1 := by
  funext j
  idx_vars j
  pointwise [laneMask]
  show _ = if j3.val / 16 % 2 = 0 then (1 : BitVec 1) else 0
  clear j0 j1 j2
  revert j3
  decide +kernel

theorem subMask1 :
    cmpi .eq (andi (iota .tc S4x2x8x128 32 [2] (by decide)) (broadcast S4x2x8x128 1#32)) (broadcast S4x2x8x128 0#32) = subMask 1 := by
  funext j
  idx_vars j
  pointwise [subMask]
  show _ = if j2.val % 2 = 0 then (1 : BitVec 1) else 0
  clear j0 j1 j3
  revert j2
  decide +kernel

theorem laneLo1 (V : ℕ → Arr) (i k : ℕ) (h : S4x2x8x128.Rotates 3 none) (hk : k = i + 1) (hi : i / 1 % 2 = 0) :
    select (laneMask 1) (V i) (dynamicRotate 3 (16#32) none (V k) h) = laneLevel 1 V i := by
  subst hk
  funext j
  idx_vars j
  show (if (laneMask 1) (ix4 j0 j1 j2 j3) = 1 then _ else _) = _
  unfold laneMask laneLevel laneEx
  simp only [hi, if_true]
  by_cases hb : j3.val / 16 / 1 % 2 = 0
  · rw [if_pos (by rw [if_pos (show ((ix4 j0 j1 j2 j3 : S4x2x8x128.Idx) 3).val / 16 / 1 % 2 = 0 from hb)]), if_pos (show ((ix4 j0 j1 j2 j3 : S4x2x8x128.Idx) 3).val / 16 / 1 % 2 = 0 from hb)]
    rfl
  · rw [if_neg (by rw [if_neg (show ¬((ix4 j0 j1 j2 j3 : S4x2x8x128.Idx) 3).val / 16 / 1 % 2 = 0 from hb)]; decide), if_neg (show ¬((ix4 j0 j1 j2 j3 : S4x2x8x128.Idx) 3).val / 16 / 1 % 2 = 0 from hb)]
    refine congrArg (V (i + 1)) (funext fun b => ?_)
    fin_cases b
    · rfl
    · rfl
    · rfl
    · apply Fin.ext
      show (j3.val + 128 - 16 % 128) % 128 = (if j3.val / 16 / 1 % 2 = 0 then j3.val + 16 * 1 else j3.val - 16 * 1) % 128
      rw [if_neg hb]
      have := j3.isLt
      omega

theorem laneHi1 (V : ℕ → Arr) (i k : ℕ) (h : S4x2x8x128.Rotates 3 none) (hk : k = i + 1) (hi : i / 1 % 2 = 0) :
    select (laneMask 1) (dynamicRotate 3 (112#32) none (V i) h) (V k) = laneLevel 1 V k := by
  have hi' : (i + 1) / 1 % 2 = 1 := by omega
  subst hk
  funext j
  idx_vars j
  show (if (laneMask 1) (ix4 j0 j1 j2 j3) = 1 then _ else _) = _
  unfold laneMask laneLevel laneEx
  simp only [hi', one_ne_zero, if_false]
  rw [show i + 1 - 1 = i by omega]
  by_cases hb : j3.val / 16 / 1 % 2 = 0
  · rw [if_pos (by rw [if_pos (show ((ix4 j0 j1 j2 j3 : S4x2x8x128.Idx) 3).val / 16 / 1 % 2 = 0 from hb)]), if_neg (show ¬((ix4 j0 j1 j2 j3 : S4x2x8x128.Idx) 3).val / 16 / 1 % 2 = 1 from by
      show ¬(j3.val / 16 / 1 % 2 = 1); omega)]
    refine congrArg (V i) (funext fun b => ?_)
    fin_cases b
    · rfl
    · rfl
    · rfl
    · apply Fin.ext
      show (j3.val + 128 - 112 % 128) % 128 = (if j3.val / 16 / 1 % 2 = 0 then j3.val + 16 * 1 else j3.val - 16 * 1) % 128
      rw [if_pos hb]
      have := j3.isLt
      omega
  · rw [if_neg (by rw [if_neg (show ¬((ix4 j0 j1 j2 j3 : S4x2x8x128.Idx) 3).val / 16 / 1 % 2 = 0 from hb)]; decide), if_pos (show ((ix4 j0 j1 j2 j3 : S4x2x8x128.Idx) 3).val / 16 / 1 % 2 = 1 from by
      show (j3.val / 16 / 1 % 2 = 1); omega)]
    rfl

theorem subLo1 (V : ℕ → Arr) (i k : ℕ) (h : S4x2x8x128.Rotates 2 none) (hk : k = i + 1) (hi : i / 1 % 2 = 0) :
    select (subMask 1) (V i) (dynamicRotate 2 (1#32) none (V k) h) = subLevel 1 V i := by
  subst hk
  funext j
  idx_vars j
  show (if (subMask 1) (ix4 j0 j1 j2 j3) = 1 then _ else _) = _
  unfold subMask subLevel subEx
  simp only [hi, if_true]
  by_cases hb : j2.val / 1 % 2 = 0
  · rw [if_pos (by rw [if_pos (show ((ix4 j0 j1 j2 j3 : S4x2x8x128.Idx) 2).val / 1 % 2 = 0 from hb)]), if_pos (show ((ix4 j0 j1 j2 j3 : S4x2x8x128.Idx) 2).val / 1 % 2 = 0 from hb)]
    rfl
  · rw [if_neg (by rw [if_neg (show ¬((ix4 j0 j1 j2 j3 : S4x2x8x128.Idx) 2).val / 1 % 2 = 0 from hb)]; decide), if_neg (show ¬((ix4 j0 j1 j2 j3 : S4x2x8x128.Idx) 2).val / 1 % 2 = 0 from hb)]
    refine congrArg (V (i + 1)) (funext fun b => ?_)
    fin_cases b
    · rfl
    · rfl
    · apply Fin.ext
      show (j2.val + 8 - 1 % 8) % 8 = (if j2.val / 1 % 2 = 0 then j2.val + 1 else j2.val - 1) % 8
      rw [if_neg hb]
      have := j2.isLt
      omega
    · rfl

theorem subHi1 (V : ℕ → Arr) (i k : ℕ) (h : S4x2x8x128.Rotates 2 none) (hk : k = i + 1) (hi : i / 1 % 2 = 0) :
    select (subMask 1) (dynamicRotate 2 (7#32) none (V i) h) (V k) = subLevel 1 V k := by
  have hi' : (i + 1) / 1 % 2 = 1 := by omega
  subst hk
  funext j
  idx_vars j
  show (if (subMask 1) (ix4 j0 j1 j2 j3) = 1 then _ else _) = _
  unfold subMask subLevel subEx
  simp only [hi', one_ne_zero, if_false]
  rw [show i + 1 - 1 = i by omega]
  by_cases hb : j2.val / 1 % 2 = 0
  · rw [if_pos (by rw [if_pos (show ((ix4 j0 j1 j2 j3 : S4x2x8x128.Idx) 2).val / 1 % 2 = 0 from hb)]), if_neg (show ¬((ix4 j0 j1 j2 j3 : S4x2x8x128.Idx) 2).val / 1 % 2 = 1 from by
      show ¬(j2.val / 1 % 2 = 1); omega)]
    refine congrArg (V i) (funext fun b => ?_)
    fin_cases b
    · rfl
    · rfl
    · apply Fin.ext
      show (j2.val + 8 - 7 % 8) % 8 = (if j2.val / 1 % 2 = 0 then j2.val + 1 else j2.val - 1) % 8
      rw [if_pos hb]
      have := j2.isLt
      omega
    · rfl
  · rw [if_neg (by rw [if_neg (show ¬((ix4 j0 j1 j2 j3 : S4x2x8x128.Idx) 2).val / 1 % 2 = 0 from hb)]; decide), if_pos (show ((ix4 j0 j1 j2 j3 : S4x2x8x128.Idx) 2).val / 1 % 2 = 1 from by
      show (j2.val / 1 % 2 = 1); omega)]
    rfl

/-- One row group of the recurrence's block as the merge reads it: eight position groups, two halves, sixteenths, lanes. -/
def leafOf (L : Vec Ideal S1x32x256 .bf16) : Arr := fun j =>
  L (ix3 (0 : Fin 1) (⟨((j 0).val * 8 + (j 2).val) % 32, Nat.mod_lt _ (by decide)⟩ : Fin 32)
    (⟨((j 1).val * 128 + (j 3).val) % 256, Nat.mod_lt _ (by decide)⟩ : Fin 256))

/-- The same, of row group `g` of the block. -/
def leaf (Y : Vec Ideal S32x32x256 .bf16) (g : ℕ) : Arr := fun j =>
  Y (ix3 (⟨g % 32, Nat.mod_lt _ (by decide)⟩ : Fin 32) (⟨((j 0).val * 8 + (j 2).val) % 32, Nat.mod_lt _ (by decide)⟩ : Fin 32)
    (⟨((j 1).val * 128 + (j 3).val) % 256, Nat.mod_lt _ (by decide)⟩ : Fin 256))

theorem leafOf_eq (L : Vec Ideal S1x32x256 .bf16) :
    concatenate (α := Ideal .f32) S4x2x8x128 1
      [⟨S4x1x8x128, shapeCast S4x1x8x128 (extractStridedSlice S4x8x128 ![0, 0, 0] (shapeCast S4x8x256 (extf .f32 (shapeCast (s := no_index S1x32x256) S32x256 (no_index L) (by decide)) bitsLt_bf16_f32) (by decide)) (by decide)) (by decide)⟩,
       ⟨S4x1x8x128, shapeCast S4x1x8x128 (extractStridedSlice S4x8x128 ![0, 0, 128] (shapeCast S4x8x256 (extf .f32 (shapeCast (s := no_index S1x32x256) S32x256 (no_index L) (by decide)) bitsLt_bf16_f32) (by decide)) (by decide)) (by decide)⟩]
      concatenates_S4x1x8x128_S4x1x8x128_S4x2x8x128_d1 = leafOf L := by
  funext j
  concat_tiles j h
  all_goals
    idx_vars j
    pointwise [leafOf]
    have b0 : j0.val < 4 := j0.isLt
    have b2 : j2.val < 8 := j2.isLt
    have b3 : j3.val < 128 := j3.isLt
    refine congrArg L (funext fun a => Fin.ext ?_)
    fin_cases a
    · rfl
    · show j0.val * 8 + j2.val = ((j 0).val * 8 + (j 2).val) % 32
      omega
    · show _ = ((j 1).val * 128 + (j 3).val) % 256
      rw [h, ← h3]
      first
        | (show j3.val = (0 * 128 + j3.val) % 256; omega)
        | (show 128 + j3.val = (1 * 128 + j3.val) % 256; omega)

theorem leafOf_ld (Y : Vec Ideal S32x32x256 .bf16) (g : ℕ) (hg : g < 32) (inb : ∀ a, (![g, 0, 0] : Fin 3 → ℕ) a + (![1, 32, 256] : Fin 3 → ℕ) a ≤ S32x32x256.size a) :
    leafOf (View.ld (Val := Elt Ideal) (e' := .bf16) Y (Rect.unit ![g, 0, 0] ![1, 32, 256] inb)) = leaf Y g := by
  funext j
  unfold leafOf leaf
  refine congrArg Y (funext fun a => Fin.ext ?_)
  fin_cases a
  · show g + 1 * 0 = g % 32
    omega
  · show 0 + 1 * (((j 0).val * 8 + (j 2).val) % 32) = _
    exact (by omega : ∀ x : ℕ, 0 + 1 * x = x) _
  · show 0 + 1 * (((j 1).val * 128 + (j 3).val) % 256) = _
    exact (by omega : ∀ x : ℕ, 0 + 1 * x = x) _

theorem stack_at (V : Fin 8 → Arr) (j : S4x8x2x8x128.Idx) :
    concatenate (α := Ideal .f32) S4x8x2x8x128 1 [⟨S4x1x2x8x128, shapeCast S4x1x2x8x128 (V 0) (by decide)⟩, ⟨S4x1x2x8x128, shapeCast S4x1x2x8x128 (V 1) (by decide)⟩, ⟨S4x1x2x8x128, shapeCast S4x1x2x8x128 (V 2) (by decide)⟩, ⟨S4x1x2x8x128, shapeCast S4x1x2x8x128 (V 3) (by decide)⟩, ⟨S4x1x2x8x128, shapeCast S4x1x2x8x128 (V 4) (by decide)⟩, ⟨S4x1x2x8x128, shapeCast S4x1x2x8x128 (V 5) (by decide)⟩, ⟨S4x1x2x8x128, shapeCast S4x1x2x8x128 (V 6) (by decide)⟩, ⟨S4x1x2x8x128, shapeCast S4x1x2x8x128 (V 7) (by decide)⟩]
      concatenates_S4x1x2x8x128_S4x1x2x8x128_S4x1x2x8x128_S4x1x2x8x128_S4x1x2x8x128_S4x1x2x8x128_S4x1x2x8x128_S4x1x2x8x128_S4x8x2x8x128_d1 j = V (j 1) (ix4 (j 0) (j 2) (j 3) (j 4)) := by
  concat_tiles j h
  all_goals
    idx_vars j
    pointwise
    refine congr (congrArg V (Fin.ext (by first | exact h.symm | omega))) (funext fun a => Fin.ext ?_)
    fin_cases a
    · exact h0
    · exact h2
    · exact h3
    · exact h4

/-- The eight arrays stacked, as rows of one lane block. -/
theorem stack_rows (v0 v1 v2 v3 v4 v5 v6 v7 : Arr) (p : Fin 512) (l : Fin 128) :
    shapeCast S512x128 (shapeCast S512x128 (concatenate (α := Ideal .f32) S4x8x2x8x128 1 [⟨S4x1x2x8x128, shapeCast S4x1x2x8x128 v0 (by decide)⟩, ⟨S4x1x2x8x128, shapeCast S4x1x2x8x128 v1 (by decide)⟩, ⟨S4x1x2x8x128, shapeCast S4x1x2x8x128 v2 (by decide)⟩, ⟨S4x1x2x8x128, shapeCast S4x1x2x8x128 v3 (by decide)⟩, ⟨S4x1x2x8x128, shapeCast S4x1x2x8x128 v4 (by decide)⟩, ⟨S4x1x2x8x128, shapeCast S4x1x2x8x128 v5 (by decide)⟩, ⟨S4x1x2x8x128, shapeCast S4x1x2x8x128 v6 (by decide)⟩, ⟨S4x1x2x8x128, shapeCast S4x1x2x8x128 v7 (by decide)⟩]
      concatenates_S4x1x2x8x128_S4x1x2x8x128_S4x1x2x8x128_S4x1x2x8x128_S4x1x2x8x128_S4x1x2x8x128_S4x1x2x8x128_S4x1x2x8x128_S4x8x2x8x128_d1) (by decide)) (by decide) (ix2 p l)
      = (![v0, v1, v2, v3, v4, v5, v6, v7] : Fin 8 → Arr) (⟨p.val / 16 % 8, by omega⟩ : Fin 8)
        (ix4 (⟨p.val / 128, by omega⟩ : Fin 4) (⟨p.val / 8 % 2, by omega⟩ : Fin 2) (⟨p.val % 8, by omega⟩ : Fin 8) l) := by
  have e := stack_at ![v0, v1, v2, v3, v4, v5, v6, v7]
  generalize hC : concatenate (α := Ideal .f32) S4x8x2x8x128 1 _ _ = C
  have e' : ∀ j, C j = (![v0, v1, v2, v3, v4, v5, v6, v7] : Fin 8 → Arr) (j 1) (ix4 (j 0) (j 2) (j 3) (j 4)) := by
    intro j
    rw [← hC]
    exact e j
  clear hC e
  pointwise
  exact e' _

/-- All six levels. -/
def full (V : ℕ → Arr) : ℕ → Arr := subLevel 1 (subLevel 2 (subLevel 4 (laneLevel 1 (laneLevel 2 (laneLevel 4 V)))))

theorem full_at (Y : Vec Ideal S32x32x256 .bf16) (i : ℕ) (hi : i < 32) (s : Fin 4) (h : Fin 2) (u : Fin 8) (l : Fin 128) :
    full (leaf Y) i (ix4 s h u l) = Y (ix3 (⟨i / 8 * 8 + l.val / 16, by omega⟩ : Fin 32) (⟨s.val * 8 + i % 8, by omega⟩ : Fin 32)
      (⟨h.val * 128 + u.val * 16 + l.val % 16, by omega⟩ : Fin 256)) := by
  refine (sub_all _ i hi s h u l).trans ((lane_all _ _ (by omega) s h _ l).trans ?_)
  unfold leaf
  refine congrArg Y (funext fun a => Fin.ext ?_)
  fin_cases a
  · show ((i / 8 * 8 + u.val) / 8 * 8 + l.val / 16) % 32 = i / 8 * 8 + l.val / 16
    omega
  · show (s.val * 8 + i % 8) % 32 = s.val * 8 + i % 8
    omega
  · show (h.val * 128 + ((i / 8 * 8 + u.val) % 8 * 16 + l.val % 16)) % 256 = h.val * 128 + u.val * 16 + l.val % 16
    omega

/-- One lane block's rows, from the base of its groups. -/
theorem rows_at (Y : Vec Ideal S32x32x256 .bf16) (b : ℕ) (hb : b % 8 = 0) (hb' : b < 32) (F : Fin 8 → Arr)
    (hF : ∀ v : Fin 8, F v = full (leaf Y) (b + v.val)) (p : Fin 512) (l : Fin 128) :
    F (⟨p.val / 16 % 8, by omega⟩ : Fin 8) (ix4 (⟨p.val / 128, by omega⟩ : Fin 4) (⟨p.val / 8 % 2, by omega⟩ : Fin 2) (⟨p.val % 8, by omega⟩ : Fin 8) l)
      = Y (ix3 (⟨b + l.val / 16, by omega⟩ : Fin 32) (⟨p.val / 16, by omega⟩ : Fin 32) (⟨p.val % 16 * 16 + l.val % 16, by omega⟩ : Fin 256)) := by
  rw [hF]
  refine (full_at Y _ (by show b + p.val / 16 % 8 < 32; omega) _ _ _ l).trans (congrArg Y (funext fun a => Fin.ext ?_))
  fin_cases a
  · show (b + p.val / 16 % 8) / 8 * 8 + l.val / 16 = b + l.val / 16
    omega
  · show p.val / 128 * 8 + (b + p.val / 16 % 8) % 8 = p.val / 16
    omega
  · show p.val / 8 % 2 * 128 + p.val % 8 * 16 + l.val % 16 = p.val % 16 * 16 + l.val % 16
    omega

end Cert.Kernel2Ideal.Swap

end
-- ==== Proof.Glu.lean ====
/- What a grid point leaves in the carried gated linear unit. -/
module

public import proofs.«01_k».proof.Proof.Blocks2
public import proofs.«01_k».proof.Proof.Swap2

@[expose] public section

set_option maxHeartbeats 4000000

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

/-- The recurrence's output at a position and column of the tile, in the layout the block comes in. -/
def yOf (Y : Vec Ideal S32x32x256 .bf16) (p k : Fin 512) : EReal :=
  Y (ix3 (⟨k.val / 16, by omega⟩ : Fin 32) (⟨p.val / 16, by omega⟩ : Fin 32) (⟨p.val % 16 * 16 + k.val % 16, by omega⟩ : Fin 256))

theorem canon_drop {S : Shape} {e : EltTy} {Val : EltTy → Type} [∀ e, Nonempty (Val e)] : ∀ (L L' : List (View.Piece Val S e)) (y : S.Idx)
    (_ : ∃ p ∈ L, y ∈ p.1.set), View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl]
      exact (View.canon_cons_emb p.1 p.2 (L ++ L') x).trans (View.canon_cons_emb p.1 p.2 L x).symm
    · rw [List.cons_append, View.canon_cons_of_not_mem _ _ hm, View.canon_cons_of_not_mem _ _ hm]
      refine canon_drop L L' y ?_
      obtain ⟨q, hq, hyq⟩ := hc
      rcases List.mem_cons.mp hq with rfl | hq'
      · exact absurd hyq hm
      · exact ⟨q, hq', hyq⟩

/-- Stores older than four that cover are out of sight. -/
theorem canon_four {S : Shape} {e : EltTy} {Val : EltTy → Type} [∀ e, Nonempty (Val e)] (a b c d : View.Piece Val S e)
    (L' : List (View.Piece Val S e)) (y : S.Idx) (h : ∃ p ∈ [a, b, c, d], y ∈ p.1.set) :
    View.canon (a :: b :: c :: d :: L') y = View.canon [a, b, c, d] y := canon_drop [a, b, c, d] L' y h

theorem gelu_3_eq : Named.named (F := Ideal) (φ := .f32) κ "gelu_3" 0x3D122279#32 = ((c1 * c3 : ℝ) : EReal) := by
  show ((80338380498831 / 2251799813685248 : ℝ) : EReal) = _
  unfold c1 c3
  norm_num

/-- The gated linear unit from the gathered rows. -/
theorem glu_of (Y0 b4 : Vec Ideal S512x512 .f32) (b5 : Vec Ideal S1x512 .f32) (b9 : Vec Ideal S512x512 .bf16) (b10 : Vec Ideal S1x512 .f32)
    (y : Fin 512 → Fin 512 → EReal) (hy : ∀ p k, Y0 (ix2 p k) = y p k)
    (hr : ∀ p k : Fin 512, ∃ r : ℝ, y p k + b5 (ix2 (0 : Fin 1) k) * b4 (ix2 p k) = r) (p k : Fin 512) :
    shapeCast S512x512 (truncf .bf16 (mulf (k0_pay532 Y0 b5 b4) (k0_pay533 Y0 b5 b4 b9 b10)) bitsLt_bf16_f32) (by decide) (ix2 p k)
      = glu (fun j => y p j + b5 (ix2 (0 : Fin 1) j) * b4 (ix2 p j)) (fun k j => b9 (ix2 k j)) (fun k => b10 (ix2 (0 : Fin 1) k)) k := by
  have zp : ∀ k : Fin 512, k0_pay532 Y0 b5 b4 (ix2 p k) = gelu (y p k + b5 (ix2 (0 : Fin 1) k) * b4 (ix2 p k)) := by
    intro k
    pointwise [k0_pay532]
    rw [hy, w_half, w_c1, ← gelu_factored (hr p k)]
    rw [gelu_3_eq]
  have sp : k0_pay533 Y0 b5 b4 b9 b10 (ix2 p k) = Ideal.logistic (mv (fun k => gelu (y p k + b5 (ix2 (0 : Fin 1) k) * b4 (ix2 p k))) (fun k j => b9 (ix2 k j)) k + b10 (ix2 (0 : Fin 1) k)) := by
    unfold k0_pay533
    generalize k0_pay532 Y0 b5 b4 = Z at zp
    pointwise
    simp only [zp, w_half]
    rw [sigmoid]
    rfl
  generalize k0_pay532 Y0 b5 b4 = Z at *
  generalize k0_pay533 Y0 b5 b4 b9 b10 = S at *
  pointwise
  rw [zp, sp]
  rfl

theorem glu_B (c : Dev nD) (t : Fin cfg0.N) (h0 : ¬t.val % 33 = 0) (h1 : ¬t.val % 33 = 32) (h2 : t.val < 32)
    (hr : ∀ p k : Fin 512, ∃ r : ℝ, yOf (iblk m c 3 t) p k + (wt m c t).dskip k * iblk m c 4 t (ix2 p k) = r) (p k : Fin 512) :
    (outsAt0 m c t.val t.isLt).2.1 (ix2 p k)
      = gluRow (wt m c t) (fun k => yOf (iblk m c 3 t) p k) (fun k => iblk m c 4 t (ix2 p k)) k := by
  rw [outsAt0_B m c t h0 h1 h2]
  dsimp only
  frame_open
  simp (disch := decide) only [↓ View.readCov_skip, ↓ View.readCov_cons_toLoadRect, ↓ View.readCov_fill]
  frame_out
  unfold wt at *
  revert hr
  generalize iblk m c 3 t = b3
  change Vec Ideal S32x32x256 .bf16 at b3
  generalize iblk m c 4 t = b4
  change Vec Ideal S512x512 .f32 at b4
  generalize hY : (View.whole cc0_scratch0).readCov (Val := Elt Ideal) _ _ = Y0
  have yp : ∀ p k : Fin 512, Y0 (ix2 p k) = yOf b3 p k := by
    clear p k
    intro p k
    rw [← hY]
    refine (congrFun (readCov_all (S := S512x512) (Val := Elt Ideal) (View.whole cc0_scratch0) _ _ (by decide)) _).trans ?_
    clear hY
    canon_tiles x h
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 24 28 _ rfl rfl, Swap.laneLo4 _ 25 29 _ rfl rfl, Swap.laneLo4 _ 26 30 _ rfl rfl, Swap.laneLo4 _ 27 31 _ rfl rfl, Swap.laneHi4 _ 24 28 _ rfl rfl, Swap.laneHi4 _ 25 29 _ rfl rfl, Swap.laneHi4 _ 26 30 _ rfl rfl, Swap.laneHi4 _ 27 31 _ rfl rfl]
      rw [Swap.laneLo2 _ 24 26 _ rfl rfl, Swap.laneLo2 _ 25 27 _ rfl rfl, Swap.laneLo2 _ 28 30 _ rfl rfl, Swap.laneLo2 _ 29 31 _ rfl rfl, Swap.laneHi2 _ 24 26 _ rfl rfl, Swap.laneHi2 _ 25 27 _ rfl rfl, Swap.laneHi2 _ 28 30 _ rfl rfl, Swap.laneHi2 _ 29 31 _ rfl rfl]
      rw [Swap.laneLo1 _ 24 25 _ rfl rfl, Swap.laneLo1 _ 26 27 _ rfl rfl, Swap.laneLo1 _ 28 29 _ rfl rfl, Swap.laneLo1 _ 30 31 _ rfl rfl, Swap.laneHi1 _ 24 25 _ rfl rfl, Swap.laneHi1 _ 26 27 _ rfl rfl, Swap.laneHi1 _ 28 29 _ rfl rfl, Swap.laneHi1 _ 30 31 _ rfl rfl]
      rw [Swap.subLo4 _ 24 28 _ rfl rfl, Swap.subLo4 _ 25 29 _ rfl rfl, Swap.subLo4 _ 26 30 _ rfl rfl, Swap.subLo4 _ 27 31 _ rfl rfl, Swap.subHi4 _ 24 28 _ rfl rfl, Swap.subHi4 _ 25 29 _ rfl rfl, Swap.subHi4 _ 26 30 _ rfl rfl, Swap.subHi4 _ 27 31 _ rfl rfl]
      rw [Swap.subLo2 _ 24 26 _ rfl rfl, Swap.subLo2 _ 25 27 _ rfl rfl, Swap.subLo2 _ 28 30 _ rfl rfl, Swap.subLo2 _ 29 31 _ rfl rfl, Swap.subHi2 _ 24 26 _ rfl rfl, Swap.subHi2 _ 25 27 _ rfl rfl, Swap.subHi2 _ 28 30 _ rfl rfl, Swap.subHi2 _ 29 31 _ rfl rfl]
      rw [Swap.subLo1 _ 24 25 _ rfl rfl, Swap.subLo1 _ 26 27 _ rfl rfl, Swap.subLo1 _ 28 29 _ rfl rfl, Swap.subLo1 _ 30 31 _ rfl rfl, Swap.subHi1 _ 24 25 _ rfl rfl, Swap.subHi1 _ 26 27 _ rfl rfl, Swap.subHi1 _ 28 29 _ rfl rfl, Swap.subHi1 _ 30 31 _ rfl rfl]
      refine (Swap.rows_at b3 24 rfl (by decide) _ (fun v => by fin_cases v <;> rfl) x0 x1).trans ?_
      unfold yOf
      refine congrArg b3 (funext fun a => Fin.ext ?_)
      fin_cases a
      · show 24 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 16 20 _ rfl rfl, Swap.laneLo4 _ 17 21 _ rfl rfl, Swap.laneLo4 _ 18 22 _ rfl rfl, Swap.laneLo4 _ 19 23 _ rfl rfl, Swap.laneHi4 _ 16 20 _ rfl rfl, Swap.laneHi4 _ 17 21 _ rfl rfl, Swap.laneHi4 _ 18 22 _ rfl rfl, Swap.laneHi4 _ 19 23 _ rfl rfl]
      rw [Swap.laneLo2 _ 16 18 _ rfl rfl, Swap.laneLo2 _ 17 19 _ rfl rfl, Swap.laneLo2 _ 20 22 _ rfl rfl, Swap.laneLo2 _ 21 23 _ rfl rfl, Swap.laneHi2 _ 16 18 _ rfl rfl, Swap.laneHi2 _ 17 19 _ rfl rfl, Swap.laneHi2 _ 20 22 _ rfl rfl, Swap.laneHi2 _ 21 23 _ rfl rfl]
      rw [Swap.laneLo1 _ 16 17 _ rfl rfl, Swap.laneLo1 _ 18 19 _ rfl rfl, Swap.laneLo1 _ 20 21 _ rfl rfl, Swap.laneLo1 _ 22 23 _ rfl rfl, Swap.laneHi1 _ 16 17 _ rfl rfl, Swap.laneHi1 _ 18 19 _ rfl rfl, Swap.laneHi1 _ 20 21 _ rfl rfl, Swap.laneHi1 _ 22 23 _ rfl rfl]
      rw [Swap.subLo4 _ 16 20 _ rfl rfl, Swap.subLo4 _ 17 21 _ rfl rfl, Swap.subLo4 _ 18 22 _ rfl rfl, Swap.subLo4 _ 19 23 _ rfl rfl, Swap.subHi4 _ 16 20 _ rfl rfl, Swap.subHi4 _ 17 21 _ rfl rfl, Swap.subHi4 _ 18 22 _ rfl rfl, Swap.subHi4 _ 19 23 _ rfl rfl]
      rw [Swap.subLo2 _ 16 18 _ rfl rfl, Swap.subLo2 _ 17 19 _ rfl rfl, Swap.subLo2 _ 20 22 _ rfl rfl, Swap.subLo2 _ 21 23 _ rfl rfl, Swap.subHi2 _ 16 18 _ rfl rfl, Swap.subHi2 _ 17 19 _ rfl rfl, Swap.subHi2 _ 20 22 _ rfl rfl, Swap.subHi2 _ 21 23 _ rfl rfl]
      rw [Swap.subLo1 _ 16 17 _ rfl rfl, Swap.subLo1 _ 18 19 _ rfl rfl, Swap.subLo1 _ 20 21 _ rfl rfl, Swap.subLo1 _ 22 23 _ rfl rfl, Swap.subHi1 _ 16 17 _ rfl rfl, Swap.subHi1 _ 18 19 _ rfl rfl, Swap.subHi1 _ 20 21 _ rfl rfl, Swap.subHi1 _ 22 23 _ rfl rfl]
      refine (Swap.rows_at b3 16 rfl (by decide) _ (fun v => by fin_cases v <;> rfl) x0 x1).trans ?_
      unfold yOf
      refine congrArg b3 (funext fun a => Fin.ext ?_)
      fin_cases a
      · show 16 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 8 12 _ rfl rfl, Swap.laneLo4 _ 9 13 _ rfl rfl, Swap.laneLo4 _ 10 14 _ rfl rfl, Swap.laneLo4 _ 11 15 _ rfl rfl, Swap.laneHi4 _ 8 12 _ rfl rfl, Swap.laneHi4 _ 9 13 _ rfl rfl, Swap.laneHi4 _ 10 14 _ rfl rfl, Swap.laneHi4 _ 11 15 _ rfl rfl]
      rw [Swap.laneLo2 _ 8 10 _ rfl rfl, Swap.laneLo2 _ 9 11 _ rfl rfl, Swap.laneLo2 _ 12 14 _ rfl rfl, Swap.laneLo2 _ 13 15 _ rfl rfl, Swap.laneHi2 _ 8 10 _ rfl rfl, Swap.laneHi2 _ 9 11 _ rfl rfl, Swap.laneHi2 _ 12 14 _ rfl rfl, Swap.laneHi2 _ 13 15 _ rfl rfl]
      rw [Swap.laneLo1 _ 8 9 _ rfl rfl, Swap.laneLo1 _ 10 11 _ rfl rfl, Swap.laneLo1 _ 12 13 _ rfl rfl, Swap.laneLo1 _ 14 15 _ rfl rfl, Swap.laneHi1 _ 8 9 _ rfl rfl, Swap.laneHi1 _ 10 11 _ rfl rfl, Swap.laneHi1 _ 12 13 _ rfl rfl, Swap.laneHi1 _ 14 15 _ rfl rfl]
      rw [Swap.subLo4 _ 8 12 _ rfl rfl, Swap.subLo4 _ 9 13 _ rfl rfl, Swap.subLo4 _ 10 14 _ rfl rfl, Swap.subLo4 _ 11 15 _ rfl rfl, Swap.subHi4 _ 8 12 _ rfl rfl, Swap.subHi4 _ 9 13 _ rfl rfl, Swap.subHi4 _ 10 14 _ rfl rfl, Swap.subHi4 _ 11 15 _ rfl rfl]
      rw [Swap.subLo2 _ 8 10 _ rfl rfl, Swap.subLo2 _ 9 11 _ rfl rfl, Swap.subLo2 _ 12 14 _ rfl rfl, Swap.subLo2 _ 13 15 _ rfl rfl, Swap.subHi2 _ 8 10 _ rfl rfl, Swap.subHi2 _ 9 11 _ rfl rfl, Swap.subHi2 _ 12 14 _ rfl rfl, Swap.subHi2 _ 13 15 _ rfl rfl]
      rw [Swap.subLo1 _ 8 9 _ rfl rfl, Swap.subLo1 _ 10 11 _ rfl rfl, Swap.subLo1 _ 12 13 _ rfl rfl, Swap.subLo1 _ 14 15 _ rfl rfl, Swap.subHi1 _ 8 9 _ rfl rfl, Swap.subHi1 _ 10 11 _ rfl rfl, Swap.subHi1 _ 12 13 _ rfl rfl, Swap.subHi1 _ 14 15 _ rfl rfl]
      refine (Swap.rows_at b3 8 rfl (by decide) _ (fun v => by fin_cases v <;> rfl) x0 x1).trans ?_
      unfold yOf
      refine congrArg b3 (funext fun a => Fin.ext ?_)
      fin_cases a
      · show 8 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 0 4 _ rfl rfl, Swap.laneLo4 _ 1 5 _ rfl rfl, Swap.laneLo4 _ 2 6 _ rfl rfl, Swap.laneLo4 _ 3 7 _ rfl rfl, Swap.laneHi4 _ 0 4 _ rfl rfl, Swap.laneHi4 _ 1 5 _ rfl rfl, Swap.laneHi4 _ 2 6 _ rfl rfl, Swap.laneHi4 _ 3 7 _ rfl rfl]
      rw [Swap.laneLo2 _ 0 2 _ rfl rfl, Swap.laneLo2 _ 1 3 _ rfl rfl, Swap.laneLo2 _ 4 6 _ rfl rfl, Swap.laneLo2 _ 5 7 _ rfl rfl, Swap.laneHi2 _ 0 2 _ rfl rfl, Swap.laneHi2 _ 1 3 _ rfl rfl, Swap.laneHi2 _ 4 6 _ rfl rfl, Swap.laneHi2 _ 5 7 _ rfl rfl]
      rw [Swap.laneLo1 _ 0 1 _ rfl rfl, Swap.laneLo1 _ 2 3 _ rfl rfl, Swap.laneLo1 _ 4 5 _ rfl rfl, Swap.laneLo1 _ 6 7 _ rfl rfl, Swap.laneHi1 _ 0 1 _ rfl rfl, Swap.laneHi1 _ 2 3 _ rfl rfl, Swap.laneHi1 _ 4 5 _ rfl rfl, Swap.laneHi1 _ 6 7 _ rfl rfl]
      rw [Swap.subLo4 _ 0 4 _ rfl rfl, Swap.subLo4 _ 1 5 _ rfl rfl, Swap.subLo4 _ 2 6 _ rfl rfl, Swap.subLo4 _ 3 7 _ rfl rfl, Swap.subHi4 _ 0 4 _ rfl rfl, Swap.subHi4 _ 1 5 _ rfl rfl, Swap.subHi4 _ 2 6 _ rfl rfl, Swap.subHi4 _ 3 7 _ rfl rfl]
      rw [Swap.subLo2 _ 0 2 _ rfl rfl, Swap.subLo2 _ 1 3 _ rfl rfl, Swap.subLo2 _ 4 6 _ rfl rfl, Swap.subLo2 _ 5 7 _ rfl rfl, Swap.subHi2 _ 0 2 _ rfl rfl, Swap.subHi2 _ 1 3 _ rfl rfl, Swap.subHi2 _ 4 6 _ rfl rfl, Swap.subHi2 _ 5 7 _ rfl rfl]
      rw [Swap.subLo1 _ 0 1 _ rfl rfl, Swap.subLo1 _ 2 3 _ rfl rfl, Swap.subLo1 _ 4 5 _ rfl rfl, Swap.subLo1 _ 6 7 _ rfl rfl, Swap.subHi1 _ 0 1 _ rfl rfl, Swap.subHi1 _ 2 3 _ rfl rfl, Swap.subHi1 _ 4 5 _ rfl rfl, Swap.subHi1 _ 6 7 _ rfl rfl]
      refine (Swap.rows_at b3 0 rfl (by decide) _ (fun v => by fin_cases v <;> rfl) x0 x1).trans ?_
      unfold yOf
      refine congrArg b3 (funext fun a => Fin.ext ?_)
      fin_cases a
      · show 0 + x1.val / 16 = k.val / 16
        omega
      · show x0.val / 16 = p.val / 16
        omega
      · show x0.val % 16 * 16 + x1.val % 16 = p.val % 16 * 16 + k.val % 16
        omega
  clear hY
  generalize iblk m c 5 t = b5
  change Vec Ideal S1x512 .f32 at b5
  generalize iblk m c 9 t = b9
  change Vec Ideal S512x512 .bf16 at b9
  generalize iblk m c 10 t = b10
  change Vec Ideal S1x512 .f32 at b10
  intro hr
  exact glu_of Y0 b4 b5 b9 b10 (yOf b3) yp hr p k

end Cert.Kernel2Ideal.Hand

end
-- ==== Proof.GluA.lean ====
/- What the first grid point leaves in the carried gated linear unit. -/
module

public import proofs.«01_k».proof.Proof.Glu

@[expose] public section

set_option maxHeartbeats 4000000

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

theorem glu_A (c : Dev nD) (t : Fin cfg0.N) (h0 : t.val % 33 = 0) (h1 : ¬t.val % 33 = 32) (h2 : t.val < 32)
    (hr : ∀ p k : Fin 512, ∃ r : ℝ, yOf (iblk m c 3 t) p k + (wt m c t).dskip k * iblk m c 4 t (ix2 p k) = r) (p k : Fin 512) :
    (outsAt0 m c t.val t.isLt).2.1 (ix2 p k)
      = gluRow (wt m c t) (fun k => yOf (iblk m c 3 t) p k) (fun k => iblk m c 4 t (ix2 p k)) k := by
  rw [outsAt0_A m c t h0 h1 h2]
  dsimp only
  frame_open
  simp (disch := decide) only [↓ View.readCov_skip, ↓ View.readCov_cons_toLoadRect, ↓ View.readCov_fill]
  frame_out
  unfold wt at *
  revert hr
  generalize iblk m c 3 t = b3
  change Vec Ideal S32x32x256 .bf16 at b3
  generalize iblk m c 4 t = b4
  change Vec Ideal S512x512 .f32 at b4
  generalize hY : (View.whole cc0_scratch0).readCov (Val := Elt Ideal) _ _ = Y0
  have yp : ∀ p k : Fin 512, Y0 (ix2 p k) = yOf b3 p k := by
    clear p k
    intro p k
    rw [← hY]
    refine (congrFun (readCov_all (S := S512x512) (Val := Elt Ideal) (View.whole cc0_scratch0) _ _ (by decide)) _).trans ?_
    clear hY
    refine (canon_four _ _ _ _ _ _ ?_).trans ?_
    · exact View.cover_of_tiled_head _ _ _ (by rfl) _
    canon_tiles x h
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 24 28 _ rfl rfl, Swap.laneLo4 _ 25 29 _ rfl rfl, Swap.laneLo4 _ 26 30 _ rfl rfl, Swap.laneLo4 _ 27 31 _ rfl rfl, Swap.laneHi4 _ 24 28 _ rfl rfl, Swap.laneHi4 _ 25 29 _ rfl rfl, Swap.laneHi4 _ 26 30 _ rfl rfl, Swap.laneHi4 _ 27 31 _ rfl rfl]
      rw [Swap.laneLo2 _ 24 26 _ rfl rfl, Swap.laneLo2 _ 25 27 _ rfl rfl, Swap.laneLo2 _ 28 30 _ rfl rfl, Swap.laneLo2 _ 29 31 _ rfl rfl, Swap.laneHi2 _ 24 26 _ rfl rfl, Swap.laneHi2 _ 25 27 _ rfl rfl, Swap.laneHi2 _ 28 30 _ rfl rfl, Swap.laneHi2 _ 29 31 _ rfl rfl]
      rw [Swap.laneLo1 _ 24 25 _ rfl rfl, Swap.laneLo1 _ 26 27 _ rfl rfl, Swap.laneLo1 _ 28 29 _ rfl rfl, Swap.laneLo1 _ 30 31 _ rfl rfl, Swap.laneHi1 _ 24 25 _ rfl rfl, Swap.laneHi1 _ 26 27 _ rfl rfl, Swap.laneHi1 _ 28 29 _ rfl rfl, Swap.laneHi1 _ 30 31 _ rfl rfl]
      rw [Swap.subLo4 _ 24 28 _ rfl rfl, Swap.subLo4 _ 25 29 _ rfl rfl, Swap.subLo4 _ 26 30 _ rfl rfl, Swap.subLo4 _ 27 31 _ rfl rfl, Swap.subHi4 _ 24 28 _ rfl rfl, Swap.subHi4 _ 25 29 _ rfl rfl, Swap.subHi4 _ 26 30 _ rfl rfl, Swap.subHi4 _ 27 31 _ rfl rfl]
      rw [Swap.subLo2 _ 24 26 _ rfl rfl, Swap.subLo2 _ 25 27 _ rfl rfl, Swap.subLo2 _ 28 30 _ rfl rfl, Swap.subLo2 _ 29 31 _ rfl rfl, Swap.subHi2 _ 24 26 _ rfl rfl, Swap.subHi2 _ 25 27 _ rfl rfl, Swap.subHi2 _ 28 30 _ rfl rfl, Swap.subHi2 _ 29 31 _ rfl rfl]
      rw [Swap.subLo1 _ 24 25 _ rfl rfl, Swap.subLo1 _ 26 27 _ rfl rfl, Swap.subLo1 _ 28 29 _ rfl rfl, Swap.subLo1 _ 30 31 _ rfl rfl, Swap.subHi1 _ 24 25 _ rfl rfl, Swap.subHi1 _ 26 27 _ rfl rfl, Swap.subHi1 _ 28 29 _ rfl rfl, Swap.subHi1 _ 30 31 _ rfl rfl]
      refine (Swap.rows_at b3 24 rfl (by decide) _ (fun v => by fin_cases v <;> rfl) x0 x1).trans ?_
      unfold yOf
      refine congrArg b3 (funext fun a => Fin.ext ?_)
      fin_cases a
      · show 24 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 16 20 _ rfl rfl, Swap.laneLo4 _ 17 21 _ rfl rfl, Swap.laneLo4 _ 18 22 _ rfl rfl, Swap.laneLo4 _ 19 23 _ rfl rfl, Swap.laneHi4 _ 16 20 _ rfl rfl, Swap.laneHi4 _ 17 21 _ rfl rfl, Swap.laneHi4 _ 18 22 _ rfl rfl, Swap.laneHi4 _ 19 23 _ rfl rfl]
      rw [Swap.laneLo2 _ 16 18 _ rfl rfl, Swap.laneLo2 _ 17 19 _ rfl rfl, Swap.laneLo2 _ 20 22 _ rfl rfl, Swap.laneLo2 _ 21 23 _ rfl rfl, Swap.laneHi2 _ 16 18 _ rfl rfl, Swap.laneHi2 _ 17 19 _ rfl rfl, Swap.laneHi2 _ 20 22 _ rfl rfl, Swap.laneHi2 _ 21 23 _ rfl rfl]
      rw [Swap.laneLo1 _ 16 17 _ rfl rfl, Swap.laneLo1 _ 18 19 _ rfl rfl, Swap.laneLo1 _ 20 21 _ rfl rfl, Swap.laneLo1 _ 22 23 _ rfl rfl, Swap.laneHi1 _ 16 17 _ rfl rfl, Swap.laneHi1 _ 18 19 _ rfl rfl, Swap.laneHi1 _ 20 21 _ rfl rfl, Swap.laneHi1 _ 22 23 _ rfl rfl]
      rw [Swap.subLo4 _ 16 20 _ rfl rfl, Swap.subLo4 _ 17 21 _ rfl rfl, Swap.subLo4 _ 18 22 _ rfl rfl, Swap.subLo4 _ 19 23 _ rfl rfl, Swap.subHi4 _ 16 20 _ rfl rfl, Swap.subHi4 _ 17 21 _ rfl rfl, Swap.subHi4 _ 18 22 _ rfl rfl, Swap.subHi4 _ 19 23 _ rfl rfl]
      rw [Swap.subLo2 _ 16 18 _ rfl rfl, Swap.subLo2 _ 17 19 _ rfl rfl, Swap.subLo2 _ 20 22 _ rfl rfl, Swap.subLo2 _ 21 23 _ rfl rfl, Swap.subHi2 _ 16 18 _ rfl rfl, Swap.subHi2 _ 17 19 _ rfl rfl, Swap.subHi2 _ 20 22 _ rfl rfl, Swap.subHi2 _ 21 23 _ rfl rfl]
      rw [Swap.subLo1 _ 16 17 _ rfl rfl, Swap.subLo1 _ 18 19 _ rfl rfl, Swap.subLo1 _ 20 21 _ rfl rfl, Swap.subLo1 _ 22 23 _ rfl rfl, Swap.subHi1 _ 16 17 _ rfl rfl, Swap.subHi1 _ 18 19 _ rfl rfl, Swap.subHi1 _ 20 21 _ rfl rfl, Swap.subHi1 _ 22 23 _ rfl rfl]
      refine (Swap.rows_at b3 16 rfl (by decide) _ (fun v => by fin_cases v <;> rfl) x0 x1).trans ?_
      unfold yOf
      refine congrArg b3 (funext fun a => Fin.ext ?_)
      fin_cases a
      · show 16 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 8 12 _ rfl rfl, Swap.laneLo4 _ 9 13 _ rfl rfl, Swap.laneLo4 _ 10 14 _ rfl rfl, Swap.laneLo4 _ 11 15 _ rfl rfl, Swap.laneHi4 _ 8 12 _ rfl rfl, Swap.laneHi4 _ 9 13 _ rfl rfl, Swap.laneHi4 _ 10 14 _ rfl rfl, Swap.laneHi4 _ 11 15 _ rfl rfl]
      rw [Swap.laneLo2 _ 8 10 _ rfl rfl, Swap.laneLo2 _ 9 11 _ rfl rfl, Swap.laneLo2 _ 12 14 _ rfl rfl, Swap.laneLo2 _ 13 15 _ rfl rfl, Swap.laneHi2 _ 8 10 _ rfl rfl, Swap.laneHi2 _ 9 11 _ rfl rfl, Swap.laneHi2 _ 12 14 _ rfl rfl, Swap.laneHi2 _ 13 15 _ rfl rfl]
      rw [Swap.laneLo1 _ 8 9 _ rfl rfl, Swap.laneLo1 _ 10 11 _ rfl rfl, Swap.laneLo1 _ 12 13 _ rfl rfl, Swap.laneLo1 _ 14 15 _ rfl rfl, Swap.laneHi1 _ 8 9 _ rfl rfl, Swap.laneHi1 _ 10 11 _ rfl rfl, Swap.laneHi1 _ 12 13 _ rfl rfl, Swap.laneHi1 _ 14 15 _ rfl rfl]
      rw [Swap.subLo4 _ 8 12 _ rfl rfl, Swap.subLo4 _ 9 13 _ rfl rfl, Swap.subLo4 _ 10 14 _ rfl rfl, Swap.subLo4 _ 11 15 _ rfl rfl, Swap.subHi4 _ 8 12 _ rfl rfl, Swap.subHi4 _ 9 13 _ rfl rfl, Swap.subHi4 _ 10 14 _ rfl rfl, Swap.subHi4 _ 11 15 _ rfl rfl]
      rw [Swap.subLo2 _ 8 10 _ rfl rfl, Swap.subLo2 _ 9 11 _ rfl rfl, Swap.subLo2 _ 12 14 _ rfl rfl, Swap.subLo2 _ 13 15 _ rfl rfl, Swap.subHi2 _ 8 10 _ rfl rfl, Swap.subHi2 _ 9 11 _ rfl rfl, Swap.subHi2 _ 12 14 _ rfl rfl, Swap.subHi2 _ 13 15 _ rfl rfl]
      rw [Swap.subLo1 _ 8 9 _ rfl rfl, Swap.subLo1 _ 10 11 _ rfl rfl, Swap.subLo1 _ 12 13 _ rfl rfl, Swap.subLo1 _ 14 15 _ rfl rfl, Swap.subHi1 _ 8 9 _ rfl rfl, Swap.subHi1 _ 10 11 _ rfl rfl, Swap.subHi1 _ 12 13 _ rfl rfl, Swap.subHi1 _ 14 15 _ rfl rfl]
      refine (Swap.rows_at b3 8 rfl (by decide) _ (fun v => by fin_cases v <;> rfl) x0 x1).trans ?_
      unfold yOf
      refine congrArg b3 (funext fun a => Fin.ext ?_)
      fin_cases a
      · show 8 + x1.val / 16 = k.val / 16
        omega
      · show x0.val / 16 = p.val / 16
        omega
      · show x0.val % 16 * 16 + x1.val % 16 = p.val % 16 * 16 + k.val % 16
        omega
    · idx_vars x
      refine (Swap.stack_rows _ _ _ _ _ _ _ _ x0 x1).trans ?_
      simp only [Swap.leafOf_eq, Memref.IsWhole.read_unread]
      simp (disch := decide) only [Swap.leafOf_ld]
      rw [Swap.laneMask4, Swap.laneMask2, Swap.laneMask1, Swap.subMask4, Swap.subMask2, Swap.subMask1]
      rw [Swap.laneLo4 _ 0 4 _ rfl rfl, Swap.laneLo4 _ 1 5 _ rfl rfl, Swap.laneLo4 _ 2 6 _ rfl rfl, Swap.laneLo4 _ 3 7 _ rfl rfl, Swap.laneHi4 _ 0 4 _ rfl rfl, Swap.laneHi4 _ 1 5 _ rfl rfl, Swap.laneHi4 _ 2 6 _ rfl rfl, Swap.laneHi4 _ 3 7 _ rfl rfl]
      rw [Swap.laneLo2 _ 0 2 _ rfl rfl, Swap.laneLo2 _ 1 3 _ rfl rfl, Swap.laneLo2 _ 4 6 _ rfl rfl, Swap.laneLo2 _ 5 7 _ rfl rfl, Swap.laneHi2 _ 0 2 _ rfl rfl, Swap.laneHi2 _ 1 3 _ rfl rfl, Swap.laneHi2 _ 4 6 _ rfl rfl, Swap.laneHi2 _ 5 7 _ rfl rfl]
      rw [Swap.laneLo1 _ 0 1 _ rfl rfl, Swap.laneLo1 _ 2 3 _ rfl rfl, Swap.laneLo1 _ 4 5 _ rfl rfl, Swap.laneLo1 _ 6 7 _ rfl rfl, Swap.laneHi1 _ 0 1 _ rfl rfl, Swap.laneHi1 _ 2 3 _ rfl rfl, Swap.laneHi1 _ 4 5 _ rfl rfl, Swap.laneHi1 _ 6 7 _ rfl rfl]
      rw [Swap.subLo4 _ 0 4 _ rfl rfl, Swap.subLo4 _ 1 5 _ rfl rfl, Swap.subLo4 _ 2 6 _ rfl rfl, Swap.subLo4 _ 3 7 _ rfl rfl, Swap.subHi4 _ 0 4 _ rfl rfl, Swap.subHi4 _ 1 5 _ rfl rfl, Swap.subHi4 _ 2 6 _ rfl rfl, Swap.subHi4 _ 3 7 _ rfl rfl]
      rw [Swap.subLo2 _ 0 2 _ rfl rfl, Swap.subLo2 _ 1 3 _ rfl rfl, Swap.subLo2 _ 4 6 _ rfl rfl, Swap.subLo2 _ 5 7 _ rfl rfl, Swap.subHi2 _ 0 2 _ rfl rfl, Swap.subHi2 _ 1 3 _ rfl rfl, Swap.subHi2 _ 4 6 _ rfl rfl, Swap.subHi2 _ 5 7 _ rfl rfl]
      rw [Swap.subLo1 _ 0 1 _ rfl rfl, Swap.subLo1 _ 2 3 _ rfl rfl, Swap.subLo1 _ 4 5 _ rfl rfl, Swap.subLo1 _ 6 7 _ rfl rfl, Swap.subHi1 _ 0 1 _ rfl rfl, Swap.subHi1 _ 2 3 _ rfl rfl, Swap.subHi1 _ 4 5 _ rfl rfl, Swap.subHi1 _ 6 7 _ rfl rfl]
      refine (Swap.rows_at b3 0 rfl (by decide) _ (fun v => by fin_cases v <;> rfl) x0 x1).trans ?_
      unfold yOf
      refine congrArg b3 (funext fun a => Fin.ext ?_)
      fin_cases a
      · show 0 + x1.val / 16 = k.val / 16
        omega
      · show x0.val / 16 = p.val / 16
        omega
      · show x0.val % 16 * 16 + x1.val % 16 = p.val % 16 * 16 + k.val % 16
        omega
  clear hY
  generalize iblk m c 5 t = b5
  change Vec Ideal S1x512 .f32 at b5
  generalize iblk m c 9 t = b9
  change Vec Ideal S512x512 .bf16 at b9
  generalize iblk m c 10 t = b10
  change Vec Ideal S1x512 .f32 at b10
  intro hr
  exact glu_of Y0 b4 b5 b9 b10 (yOf b3) yp hr p k

end Cert.Kernel2Ideal.Hand

end
-- ==== Proof.X2A.lean ====
/- What an inner grid point leaves in the carried second residual. -/
module

public import proofs.«01_k».proof.Proof.Glu

@[expose] public section

set_option maxHeartbeats 4000000

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

/-- The stored gated linear unit, read whole. -/
def heldGlu (L : List (View.Piece (Elt Ideal) S512x512 .bf16)) :=
  (View.whole cc0_scratch1).readCov (Val := Elt Ideal) L (Rect.unit ![0, 0] ![512, 512] inb_S512x512_S512x512_0_0).toLoadRect

theorem heldGlu_eq (L : List (View.Piece (Elt Ideal) S512x512 .bf16)) :
    (View.whole cc0_scratch1).readCov (Val := Elt Ideal) L (Rect.unit ![0, 0] ![512, 512] inb_S512x512_S512x512_0_0).toLoadRect = heldGlu L := rfl

theorem x2_A (c : Dev nD) (t : Fin cfg0.N) (h0 : t.val % 33 = 0) (h1 : ¬t.val % 33 = 32) (h2 : t.val < 32)
    (hr : ∀ p k : Fin 512, ∃ r : ℝ, yOf (iblk m c 1 t) p k + (wt m c t).dskip k * iblk m c 2 t (ix2 p k) = r)
    (p : Fin 512) (j : Fin 1024) :
    (outsAt0 m c t.val t.isLt).2.2 (ix2 p j)
      = x2Of (wt m c t) (x1Of (wt m c t) (row m c t p)
          (gluRow (wt m c t) (fun k => yOf (iblk m c 1 t) p k) (fun k => iblk m c 2 t (ix2 p k)))) j := by
  rw [outsAt0_A m c t h0 h1 h2]
  dsimp only
  frame_open
  simp only [↓ heldGlu_eq]
  simp (disch := decide) only [↓ View.readCov_skip, ↓ View.readCov_cons_toLoadRect, ↓ View.readCov_fill]
  frame_out
  try simp only [read_unread_whole]
  generalize hG : heldGlu _ = G
  change Vec Ideal S512x512 .bf16 at G
  have gp : (gluRow (wt m c t) (fun k => yOf (iblk m c 1 t) p k) (fun k => iblk m c 2 t (ix2 p k))) = fun k => G (ix2 p k) := by
    funext k
    clear j
    rw [← hG]
    clear hG
    symm
    unfold heldGlu
    simp (disch := decide) only [↓ View.readCov_skip, ↓ View.readCov_cons_toLoadRect, ↓ View.readCov_fill]
    unfold wt at *
    revert hr
    generalize iblk m c 1 t = b1
    change Vec Ideal S32x32x256 .bf16 at b1
    generalize iblk m c 2 t = b2
    change Vec Ideal S512x512 .f32 at b2
    generalize hY : (View.whole cc0_scratch0).readCov (Val := Elt Ideal) _ _ = Y0
    have yp : ∀ p k : Fin 512, Y0 (ix2 p k) = yOf b1 p k := by
      clear p k
      intro p k
      rw [← hY]
      refine (congrFun (readCov_all (S := S512x512) (Val := Elt Ideal) (View.whole cc0_scratch0) _ _ (by decide)) _).trans ?_
      clear hY
      canon_tiles x h
      · idx_vars x
        refine (Swap.stack_rows _ _ _ _ _ _ _ _ x0 x1).trans ?_
        simp only [Swap.leafOf_eq, Memref.IsWhole.read_unread]
        simp (disch := decide) only [Swap.leafOf_ld]
        rw [Swap.laneMask4, Swap.laneMask2, Swap.laneMask1, Swap.subMask4, Swap.subMask2, Swap.subMask1]
        rw [Swap.laneLo4 _ 24 28 _ rfl rfl, Swap.laneLo4 _ 25 29 _ rfl rfl, Swap.laneLo4 _ 26 30 _ rfl rfl, Swap.laneLo4 _ 27 31 _ rfl rfl, Swap.laneHi4 _ 24 28 _ rfl rfl, Swap.laneHi4 _ 25 29 _ rfl rfl, Swap.laneHi4 _ 26 30 _ rfl rfl, Swap.laneHi4 _ 27 31 _ rfl rfl]
        rw [Swap.laneLo2 _ 24 26 _ rfl rfl, Swap.laneLo2 _ 25 27 _ rfl rfl, Swap.laneLo2 _ 28 30 _ rfl rfl, Swap.laneLo2 _ 29 31 _ rfl rfl, Swap.laneHi2 _ 24 26 _ rfl rfl, Swap.laneHi2 _ 25 27 _ rfl rfl, Swap.laneHi2 _ 28 30 _ rfl rfl, Swap.laneHi2 _ 29 31 _ rfl rfl]
        rw [Swap.laneLo1 _ 24 25 _ rfl rfl, Swap.laneLo1 _ 26 27 _ rfl rfl, Swap.laneLo1 _ 28 29 _ rfl rfl, Swap.laneLo1 _ 30 31 _ rfl rfl, Swap.laneHi1 _ 24 25 _ rfl rfl, Swap.laneHi1 _ 26 27 _ rfl rfl, Swap.laneHi1 _ 28 29 _ rfl rfl, Swap.laneHi1 _ 30 31 _ rfl rfl]
        rw [Swap.subLo4 _ 24 28 _ rfl rfl, Swap.subLo4 _ 25 29 _ rfl rfl, Swap.subLo4 _ 26 30 _ rfl rfl, Swap.subLo4 _ 27 31 _ rfl rfl, Swap.subHi4 _ 24 28 _ rfl rfl, Swap.subHi4 _ 25 29 _ rfl rfl, Swap.subHi4 _ 26 30 _ rfl rfl, Swap.subHi4 _ 27 31 _ rfl rfl]
        rw [Swap.subLo2 _ 24 26 _ rfl rfl, Swap.subLo2 _ 25 27 _ rfl rfl, Swap.subLo2 _ 28 30 _ rfl rfl, Swap.subLo2 _ 29 31 _ rfl rfl, Swap.subHi2 _ 24 26 _ rfl rfl, Swap.subHi2 _ 25 27 _ rfl rfl, Swap.subHi2 _ 28 30 _ rfl rfl, Swap.subHi2 _ 29 31 _ rfl rfl]
        rw [Swap.subLo1 _ 24 25 _ rfl rfl, Swap.subLo1 _ 26 27 _ rfl rfl, Swap.subLo1 _ 28 29 _ rfl rfl, Swap.subLo1 _ 30 31 _ rfl rfl, Swap.subHi1 _ 24 25 _ rfl rfl, Swap.subHi1 _ 26 27 _ rfl rfl, Swap.subHi1 _ 28 29 _ rfl rfl, Swap.subHi1 _ 30 31 _ rfl rfl]
        refine (Swap.rows_at b1 24 rfl (by decide) _ (fun v => by fin_cases v <;> rfl) x0 x1).trans ?_
        unfold yOf
        refine congrArg b1 (funext fun a => Fin.ext ?_)
        fin_cases a
        · show 24 + x1.val / 16 = k.val / 16
          omega
        · show x0.val / 16 = p.val / 16
          omega
        · show x0.val % 16 * 16 + x1.val % 16 = p.val % 16 * 16 + k.val % 16
          omega
      · idx_vars x
        refine (Swap.stack_rows _ _ _ _ _ _ _ _ x0 x1).trans ?_
        simp only [Swap.leafOf_eq, Memref.IsWhole.read_unread]
        simp (disch := decide) only [Swap.leafOf_ld]
        rw [Swap.laneMask4, Swap.laneMask2, Swap.laneMask1, Swap.subMask4, Swap.subMask2, Swap.subMask1]
        rw [Swap.laneLo4 _ 16 20 _ rfl rfl, Swap.laneLo4 _ 17 21 _ rfl rfl, Swap.laneLo4 _ 18 22 _ rfl rfl, Swap.laneLo4 _ 19 23 _ rfl rfl, Swap.laneHi4 _ 16 20 _ rfl rfl, Swap.laneHi4 _ 17 21 _ rfl rfl, Swap.laneHi4 _ 18 22 _ rfl rfl, Swap.laneHi4 _ 19 23 _ rfl rfl]
        rw [Swap.laneLo2 _ 16 18 _ rfl rfl, Swap.laneLo2 _ 17 19 _ rfl rfl, Swap.laneLo2 _ 20 22 _ rfl rfl, Swap.laneLo2 _ 21 23 _ rfl rfl, Swap.laneHi2 _ 16 18 _ rfl rfl, Swap.laneHi2 _ 17 19 _ rfl rfl, Swap.laneHi2 _ 20 22 _ rfl rfl, Swap.laneHi2 _ 21 23 _ rfl rfl]
        rw [Swap.laneLo1 _ 16 17 _ rfl rfl, Swap.laneLo1 _ 18 19 _ rfl rfl, Swap.laneLo1 _ 20 21 _ rfl rfl, Swap.laneLo1 _ 22 23 _ rfl rfl, Swap.laneHi1 _ 16 17 _ rfl rfl, Swap.laneHi1 _ 18 19 _ rfl rfl, Swap.laneHi1 _ 20 21 _ rfl rfl, Swap.laneHi1 _ 22 23 _ rfl rfl]
        rw [Swap.subLo4 _ 16 20 _ rfl rfl, Swap.subLo4 _ 17 21 _ rfl rfl, Swap.subLo4 _ 18 22 _ rfl rfl, Swap.subLo4 _ 19 23 _ rfl rfl, Swap.subHi4 _ 16 20 _ rfl rfl, Swap.subHi4 _ 17 21 _ rfl rfl, Swap.subHi4 _ 18 22 _ rfl rfl, Swap.subHi4 _ 19 23 _ rfl rfl]
        rw [Swap.subLo2 _ 16 18 _ rfl rfl, Swap.subLo2 _ 17 19 _ rfl rfl, Swap.subLo2 _ 20 22 _ rfl rfl, Swap.subLo2 _ 21 23 _ rfl rfl, Swap.subHi2 _ 16 18 _ rfl rfl, Swap.subHi2 _ 17 19 _ rfl rfl, Swap.subHi2 _ 20 22 _ rfl rfl, Swap.subHi2 _ 21 23 _ rfl rfl]
        rw [Swap.subLo1 _ 16 17 _ rfl rfl, Swap.subLo1 _ 18 19 _ rfl rfl, Swap.subLo1 _ 20 21 _ rfl rfl, Swap.subLo1 _ 22 23 _ rfl rfl, Swap.subHi1 _ 16 17 _ rfl rfl, Swap.subHi1 _ 18 19 _ rfl rfl, Swap.subHi1 _ 20 21 _ rfl rfl, Swap.subHi1 _ 22 23 _ rfl rfl]
        refine (Swap.rows_at b1 16 rfl (by decide) _ (fun v => by fin_cases v <;> rfl) x0 x1).trans ?_
        unfold yOf
        refine congrArg b1 (funext fun a => Fin.ext ?_)
        fin_cases a
        · show 16 + x1.val / 16 = k.val / 16
          omega
        · show x0.val / 16 = p.val / 16
          omega
        · show x0.val % 16 * 16 + x1.val % 16 = p.val % 16 * 16 + k.val % 16
          omega
      · idx_vars x
        refine (Swap.stack_rows _ _ _ _ _ _ _ _ x0 x1).trans ?_
        simp only [Swap.leafOf_eq, Memref.IsWhole.read_unread]
        simp (disch := decide) only [Swap.leafOf_ld]
        rw [Swap.laneMask4, Swap.laneMask2, Swap.laneMask1, Swap.subMask4, Swap.subMask2, Swap.subMask1]
        rw [Swap.laneLo4 _ 8 12 _ rfl rfl, Swap.laneLo4 _ 9 13 _ rfl rfl, Swap.laneLo4 _ 10 14 _ rfl rfl, Swap.laneLo4 _ 11 15 _ rfl rfl, Swap.laneHi4 _ 8 12 _ rfl rfl, Swap.laneHi4 _ 9 13 _ rfl rfl, Swap.laneHi4 _ 10 14 _ rfl rfl, Swap.laneHi4 _ 11 15 _ rfl rfl]
        rw [Swap.laneLo2 _ 8 10 _ rfl rfl, Swap.laneLo2 _ 9 11 _ rfl rfl, Swap.laneLo2 _ 12 14 _ rfl rfl, Swap.laneLo2 _ 13 15 _ rfl rfl, Swap.laneHi2 _ 8 10 _ rfl rfl, Swap.laneHi2 _ 9 11 _ rfl rfl, Swap.laneHi2 _ 12 14 _ rfl rfl, Swap.laneHi2 _ 13 15 _ rfl rfl]
        rw [Swap.laneLo1 _ 8 9 _ rfl rfl, Swap.laneLo1 _ 10 11 _ rfl rfl, Swap.laneLo1 _ 12 13 _ rfl rfl, Swap.laneLo1 _ 14 15 _ rfl rfl, Swap.laneHi1 _ 8 9 _ rfl rfl, Swap.laneHi1 _ 10 11 _ rfl rfl, Swap.laneHi1 _ 12 13 _ rfl rfl, Swap.laneHi1 _ 14 15 _ rfl rfl]
        rw [Swap.subLo4 _ 8 12 _ rfl rfl, Swap.subLo4 _ 9 13 _ rfl rfl, Swap.subLo4 _ 10 14 _ rfl rfl, Swap.subLo4 _ 11 15 _ rfl rfl, Swap.subHi4 _ 8 12 _ rfl rfl, Swap.subHi4 _ 9 13 _ rfl rfl, Swap.subHi4 _ 10 14 _ rfl rfl, Swap.subHi4 _ 11 15 _ rfl rfl]
        rw [Swap.subLo2 _ 8 10 _ rfl rfl, Swap.subLo2 _ 9 11 _ rfl rfl, Swap.subLo2 _ 12 14 _ rfl rfl, Swap.subLo2 _ 13 15 _ rfl rfl, Swap.subHi2 _ 8 10 _ rfl rfl, Swap.subHi2 _ 9 11 _ rfl rfl, Swap.subHi2 _ 12 14 _ rfl rfl, Swap.subHi2 _ 13 15 _ rfl rfl]
        rw [Swap.subLo1 _ 8 9 _ rfl rfl, Swap.subLo1 _ 10 11 _ rfl rfl, Swap.subLo1 _ 12 13 _ rfl rfl, Swap.subLo1 _ 14 15 _ rfl rfl, Swap.subHi1 _ 8 9 _ rfl rfl, Swap.subHi1 _ 10 11 _ rfl rfl, Swap.subHi1 _ 12 13 _ rfl rfl, Swap.subHi1 _ 14 15 _ rfl rfl]
        refine (Swap.rows_at b1 8 rfl (by decide) _ (fun v => by fin_cases v <;> rfl) x0 x1).trans ?_
        unfold yOf
        refine congrArg b1 (funext fun a => Fin.ext ?_)
        fin_cases a
        · show 8 + x1.val / 16 = k.val / 16
          omega
        · show x0.val / 16 = p.val / 16
          omega
        · show x0.val % 16 * 16 + x1.val % 16 = p.val % 16 * 16 + k.val % 16
          omega
      · idx_vars x
        refine (Swap.stack_rows _ _ _ _ _ _ _ _ x0 x1).trans ?_
        simp only [Swap.leafOf_eq, Memref.IsWhole.read_unread]
        simp (disch := decide) only [Swap.leafOf_ld]
        rw [Swap.laneMask4, Swap.laneMask2, Swap.laneMask1, Swap.subMask4, Swap.subMask2, Swap.subMask1]
        rw [Swap.laneLo4 _ 0 4 _ rfl rfl, Swap.laneLo4 _ 1 5 _ rfl rfl, Swap.laneLo4 _ 2 6 _ rfl rfl, Swap.laneLo4 _ 3 7 _ rfl rfl, Swap.laneHi4 _ 0 4 _ rfl rfl, Swap.laneHi4 _ 1 5 _ rfl rfl, Swap.laneHi4 _ 2 6 _ rfl rfl, Swap.laneHi4 _ 3 7 _ rfl rfl]
        rw [Swap.laneLo2 _ 0 2 _ rfl rfl, Swap.laneLo2 _ 1 3 _ rfl rfl, Swap.laneLo2 _ 4 6 _ rfl rfl, Swap.laneLo2 _ 5 7 _ rfl rfl, Swap.laneHi2 _ 0 2 _ rfl rfl, Swap.laneHi2 _ 1 3 _ rfl rfl, Swap.laneHi2 _ 4 6 _ rfl rfl, Swap.laneHi2 _ 5 7 _ rfl rfl]
        rw [Swap.laneLo1 _ 0 1 _ rfl rfl, Swap.laneLo1 _ 2 3 _ rfl rfl, Swap.laneLo1 _ 4 5 _ rfl rfl, Swap.laneLo1 _ 6 7 _ rfl rfl, Swap.laneHi1 _ 0 1 _ rfl rfl, Swap.laneHi1 _ 2 3 _ rfl rfl, Swap.laneHi1 _ 4 5 _ rfl rfl, Swap.laneHi1 _ 6 7 _ rfl rfl]
        rw [Swap.subLo4 _ 0 4 _ rfl rfl, Swap.subLo4 _ 1 5 _ rfl rfl, Swap.subLo4 _ 2 6 _ rfl rfl, Swap.subLo4 _ 3 7 _ rfl rfl, Swap.subHi4 _ 0 4 _ rfl rfl, Swap.subHi4 _ 1 5 _ rfl rfl, Swap.subHi4 _ 2 6 _ rfl rfl, Swap.subHi4 _ 3 7 _ rfl rfl]
        rw [Swap.subLo2 _ 0 2 _ rfl rfl, Swap.subLo2 _ 1 3 _ rfl rfl, Swap.subLo2 _ 4 6 _ rfl rfl, Swap.subLo2 _ 5 7 _ rfl rfl, Swap.subHi2 _ 0 2 _ rfl rfl, Swap.subHi2 _ 1 3 _ rfl rfl, Swap.subHi2 _ 4 6 _ rfl rfl, Swap.subHi2 _ 5 7 _ rfl rfl]
        rw [Swap.subLo1 _ 0 1 _ rfl rfl, Swap.subLo1 _ 2 3 _ rfl rfl, Swap.subLo1 _ 4 5 _ rfl rfl, Swap.subLo1 _ 6 7 _ rfl rfl, Swap.subHi1 _ 0 1 _ rfl rfl, Swap.subHi1 _ 2 3 _ rfl rfl, Swap.subHi1 _ 4 5 _ rfl rfl, Swap.subHi1 _ 6 7 _ rfl rfl]
        refine (Swap.rows_at b1 0 rfl (by decide) _ (fun v => by fin_cases v <;> rfl) x0 x1).trans ?_
        unfold yOf
        refine congrArg b1 (funext fun a => Fin.ext ?_)
        fin_cases a
        · show 0 + x1.val / 16 = k.val / 16
          omega
        · show x0.val / 16 = p.val / 16
          omega
        · show x0.val % 16 * 16 + x1.val % 16 = p.val % 16 * 16 + k.val % 16
          omega
    clear hY
    generalize iblk m c 5 t = b5
    change Vec Ideal S1x512 .f32 at b5
    generalize iblk m c 9 t = b9
    change Vec Ideal S512x512 .bf16 at b9
    generalize iblk m c 10 t = b10
    change Vec Ideal S1x512 .f32 at b10
    intro hr
    exact glu_of Y0 b2 b5 b9 b10 (yOf b1) yp hr p k
  rw [gp]
  clear gp hG hr
  unfold wt row
  generalize iblk m c 0 t = b0
  change Vec Ideal S512x1024 .f32 at b0
  generalize iblk m c 6 t = b6
  change Vec Ideal S512x512 .bf16 at b6
  generalize iblk m c 7 t = b7
  change Vec Ideal S512x512 .bf16 at b7
  generalize iblk m c 8 t = b8
  change Vec Ideal S512x3072 .bf16 at b8
  generalize iblk m c 5 t = b5
  change Vec Ideal S1x512 .f32 at b5
  generalize iblk m c 9 t = b9
  change Vec Ideal S512x512 .bf16 at b9
  generalize iblk m c 10 t = b10
  change Vec Ideal S1x512 .f32 at b10
  generalize iblk m c 11 t = b11
  change Vec Ideal S512x1024 .bf16 at b11
  generalize iblk m c 12 t = b12
  change Vec Ideal S512x1024 .bf16 at b12
  generalize iblk m c 13 t = b13
  change Vec Ideal S512x1024 .bf16 at b13
  generalize iblk m c 14 t = b14
  change Vec Ideal S1024x1024 .bf16 at b14
  generalize iblk m c 15 t = b15
  change Vec Ideal S1x1024 .f32 at b15
  generalize iblk m c 16 t = b16
  change Vec Ideal S1024x2816 .bf16 at b16
  generalize iblk m c 17 t = b17
  change Vec Ideal S1024x2816 .bf16 at b17
  generalize iblk m c 18 t = b18
  change Vec Ideal S2816x1024 .bf16 at b18
  generalize iblk m c 19 t = b19
  change Vec Ideal S1x1024 .f32 at b19
  obtain ⟨W, hW⟩ : ∃ W, W = wtOf b5 b9 b10 b11 b12 b13 b14 b15 b16 b17 b18 b19 := ⟨_, rfl⟩
  simp only [← hW]
  generalize hX1 : shapeCast S512x1024 (addf (shapeCast S512x1024 _ _) (matmul (F := Ideal) dot_S512x1024_S1024x1024_S512x1024_1_0_0_1_n_n _ _ _ _)) _ = X1
  have x1p : ∀ (p : Fin 512) (j : Fin 1024), X1 (ix2 p j)
      = x1Of W (rowOf b0 b6 b7 b8 p) (fun k => G (ix2 p k)) j := by
    clear j p
    intro p j
    rw [← hX1]
    generalize hM : (View.whole cc0_scratch2).readCov (Val := Elt Ideal) _ _ = M
    have mp : ∀ (p : Fin 512) (j : Fin 1024), M (ix2 p j) = merged (fun k => G (ix2 p k)) (rowOf b0 b6 b7 b8 p).sgu
        (rowOf b0 b6 b7 b8 p).attn (rowOf b0 b6 b7 b8 p).gate W.wa W.wb W.wc j := by
      clear p j
      intro p j
      rw [← hM]
      refine (congrFun (readCov_all (S := S512x1024) (Val := Elt Ideal) (View.whole cc0_scratch2) _ _ (by decide)) _).trans ?_
      canon_tiles x h
      all_goals
        idx_vars x
        clear hM hX1
        pointwise
        obtain rfl : p = x0 := Fin.ext h0
        obtain ⟨j, hj⟩ := j
        dsimp only at h1
        subst h1
        subst hW
        unfold merged
        rw [add_assoc]
        refine congrArg₂ (· + ·) (congrArg₂ (· * ·) (gate_at _ _ _ _ _ _ 0 _ (by simp)) rfl)
          (congrArg₂ (· + ·) (congrArg₂ (· * ·) (gate_at _ _ _ _ _ _ 1 _ (by simp <;> omega)) rfl)
            (congrArg₂ (· * ·) (gate_at _ _ _ _ _ _ 2 _ (by simp <;> omega)) rfl))
    pointwise
    simp only [mp]
    subst hW
    rfl
  generalize hHF : shapeCast S512x1024 (truncf (F := Ideal) FTy.bf16 (mulf (F := Ideal) X1 _) _) _ = HF
  generalize hRS : rsqrt (F := Ideal) (s := S512x1) (φ := .f32) _ = RS
  clear hX1
  have hf : ∀ (p : Fin 512) (k : Fin 1024), HF (ix2 p k) = X1 (ix2 p k) * W.gffn k := by
    intro p k
    rw [← hHF]
    pointwise
    subst hW
    rfl
  have rs : ∀ (p : Fin 512), RS (ix2 p (0 : Fin 1)) = rinv 1024 (fun k => X1 (ix2 p k)) := by
    intro p
    rw [← hRS]
    pointwise
    simp only [w_1024, w_eps]
    rfl
  clear hHF hRS
  have wg : ∀ (k : Fin 1024) (j : Fin 2816), b16 (ix2 k j) = W.wgate k j := by intro k j; rw [hW]; rfl
  have wu : ∀ (k : Fin 1024) (j : Fin 2816), b17 (ix2 k j) = W.wup k j := by intro k j; rw [hW]; rfl
  generalize hA : (View.whole cc0_scratch6).readCov (Val := Elt Ideal) _ _ = A
  have ap : ∀ (p : Fin 512) (j : Fin 2816), A (ix2 p j)
      = swiglu (norm 1024 (fun k => X1 (ix2 p k)) W.gffn) W.wgate W.wup j := by
    clear p j
    intro p j
    rw [← hA]
    refine (congrFun (readCov_all (S := S512x2816) (Val := Elt Ideal) (View.whole cc0_scratch6) _ _ (by decide)) _).trans ?_
    clear hA
    canon_tiles x h
    all_goals
      idx_vars x
      pointwise [k0_pay3, k0_pay544, k0_pay531]
      obtain rfl : p = x0 := Fin.ext h0
      obtain ⟨j, hj⟩ := j
      dsimp only at h1
      subst h1
      simp only [hf, rs, w_half, wg, wu]
      exact swiglu_scaled (fun k => X1 (ix2 p k)) W.gffn W.wgate W.wup ⟨_, hj⟩
  pointwise [k0_pay4]
  simp only [ap, x1p]
  subst hW
  rfl

end Cert.Kernel2Ideal.Hand

end
-- ==== Proof.X2B.lean ====
/- What an inner grid point leaves in the carried second residual. -/
module

public import proofs.«01_k».proof.Proof.Blocks2

@[expose] public section

set_option maxHeartbeats 4000000

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

theorem x2_B (c : Dev nD) (t : Fin cfg0.N) (h0 : ¬t.val % 33 = 0) (h1 : ¬t.val % 33 = 32) (h2 : t.val < 32)
    (p : Fin 512) (j : Fin 1024) :
    (outsAt0 m c t.val t.isLt).2.2 (ix2 p j)
      = x2Of (wt m c t) (x1Of (wt m c t) (row m c t p)
          (fun k => (outsAt0 m c (t.val - 1) (by have := t.isLt; omega)).2.1 (ix2 p k))) j := by
  rw [outsAt0_B m c t h0 h1 h2]
  dsimp only
  frame_open
  simp (disch := decide) only [↓ View.readCov_skip, ↓ View.readCov_cons_toLoadRect, ↓ View.readCov_fill]
  frame_out
  simp only [read_unread_whole]
  unfold wt row
  generalize iblk m c 0 t = b0
  change Vec Ideal S512x1024 .f32 at b0
  generalize iblk m c 6 t = b6
  change Vec Ideal S512x512 .bf16 at b6
  generalize iblk m c 7 t = b7
  change Vec Ideal S512x512 .bf16 at b7
  generalize iblk m c 8 t = b8
  change Vec Ideal S512x3072 .bf16 at b8
  generalize iblk m c 5 t = b5
  change Vec Ideal S1x512 .f32 at b5
  generalize iblk m c 9 t = b9
  change Vec Ideal S512x512 .bf16 at b9
  generalize iblk m c 10 t = b10
  change Vec Ideal S1x512 .f32 at b10
  generalize iblk m c 11 t = b11
  change Vec Ideal S512x1024 .bf16 at b11
  generalize iblk m c 12 t = b12
  change Vec Ideal S512x1024 .bf16 at b12
  generalize iblk m c 13 t = b13
  change Vec Ideal S512x1024 .bf16 at b13
  generalize iblk m c 14 t = b14
  change Vec Ideal S1024x1024 .bf16 at b14
  generalize iblk m c 15 t = b15
  change Vec Ideal S1x1024 .f32 at b15
  generalize iblk m c 16 t = b16
  change Vec Ideal S1024x2816 .bf16 at b16
  generalize iblk m c 17 t = b17
  change Vec Ideal S1024x2816 .bf16 at b17
  generalize iblk m c 18 t = b18
  change Vec Ideal S2816x1024 .bf16 at b18
  generalize iblk m c 19 t = b19
  change Vec Ideal S1x1024 .f32 at b19
  generalize hG : (outsAt0 m c (t.val-1) _).2.1 = G
  obtain ⟨W, hW⟩ : ∃ W, W = wtOf b5 b9 b10 b11 b12 b13 b14 b15 b16 b17 b18 b19 := ⟨_, rfl⟩
  simp only [← hW]
  generalize hX1 : shapeCast S512x1024 (addf (shapeCast S512x1024 _ _) (matmul (F := Ideal) dot_S512x1024_S1024x1024_S512x1024_1_0_0_1_n_n _ _ _ _)) _ = X1
  have x1p : ∀ (p : Fin 512) (j : Fin 1024), X1 (ix2 p j)
      = x1Of W (rowOf b0 b6 b7 b8 p) (fun k => G (ix2 p k)) j := by
    clear j p
    intro p j
    rw [← hX1]
    generalize hM : (View.whole cc0_scratch2).readCov (Val := Elt Ideal) _ _ = M
    have mp : ∀ (p : Fin 512) (j : Fin 1024), M (ix2 p j) = merged (fun k => G (ix2 p k)) (rowOf b0 b6 b7 b8 p).sgu
        (rowOf b0 b6 b7 b8 p).attn (rowOf b0 b6 b7 b8 p).gate W.wa W.wb W.wc j := by
      clear p j
      intro p j
      rw [← hM]
      refine (congrFun (readCov_all (S := S512x1024) (Val := Elt Ideal) (View.whole cc0_scratch2) _ _ (by decide)) _).trans ?_
      canon_tiles x h
      all_goals
        idx_vars x
        clear hM hX1 hG
        pointwise
        obtain rfl : p = x0 := Fin.ext h0
        obtain ⟨j, hj⟩ := j
        dsimp only at h1
        subst h1
        subst hW
        unfold merged
        rw [add_assoc]
        refine congrArg₂ (· + ·) (congrArg₂ (· * ·) (gate_at _ _ _ _ _ _ 0 _ (by simp)) rfl)
          (congrArg₂ (· + ·) (congrArg₂ (· * ·) (gate_at _ _ _ _ _ _ 1 _ (by simp <;> omega)) rfl)
            (congrArg₂ (· * ·) (gate_at _ _ _ _ _ _ 2 _ (by simp <;> omega)) rfl))
    pointwise
    simp only [mp]
    subst hW
    rfl
  generalize hHF : shapeCast S512x1024 (truncf (F := Ideal) FTy.bf16 (mulf (F := Ideal) X1 _) _) _ = HF
  generalize hRS : rsqrt (F := Ideal) (s := S512x1) (φ := .f32) _ = RS
  clear hX1
  have hf : ∀ (p : Fin 512) (k : Fin 1024), HF (ix2 p k) = X1 (ix2 p k) * W.gffn k := by
    intro p k
    rw [← hHF]
    pointwise
    subst hW
    rfl
  have rs : ∀ (p : Fin 512), RS (ix2 p (0 : Fin 1)) = rinv 1024 (fun k => X1 (ix2 p k)) := by
    intro p
    rw [← hRS]
    pointwise
    simp only [w_1024, w_eps]
    rfl
  clear hHF hRS
  have wg : ∀ (k : Fin 1024) (j : Fin 2816), b16 (ix2 k j) = W.wgate k j := by intro k j; rw [hW]; rfl
  have wu : ∀ (k : Fin 1024) (j : Fin 2816), b17 (ix2 k j) = W.wup k j := by intro k j; rw [hW]; rfl
  generalize hA : (View.whole cc0_scratch6).readCov (Val := Elt Ideal) _ _ = A
  have ap : ∀ (p : Fin 512) (j : Fin 2816), A (ix2 p j)
      = swiglu (norm 1024 (fun k => X1 (ix2 p k)) W.gffn) W.wgate W.wup j := by
    clear p j
    intro p j
    rw [← hA]
    refine (congrFun (readCov_all (S := S512x2816) (Val := Elt Ideal) (View.whole cc0_scratch6) _ _ (by decide)) _).trans ?_
    clear hA
    canon_tiles x h
    all_goals
      idx_vars x
      pointwise [k0_pay3, k0_pay544, k0_pay531]
      obtain rfl : p = x0 := Fin.ext h0
      obtain ⟨j, hj⟩ := j
      dsimp only at h1
      subst h1
      simp only [hf, rs, w_half, wg, wu]
      exact swiglu_scaled (fun k => X1 (ix2 p k)) W.gffn W.wgate W.wup ⟨_, hj⟩
  pointwise [k0_pay4]
  simp only [ap, x1p]
  subst hW
  rfl

end Cert.Kernel2Ideal.Hand

end
-- ==== Proof.Out2.lean ====
/- What a grid point leaves in the output block: the normalised second residual that the point before carried. -/
module

public import proofs.«01_k».proof.Proof.Glu

@[expose] public section

set_option maxHeartbeats 4000000

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

theorem out_B (c : Dev nD) (t : Fin cfg0.N) (h0 : ¬t.val % 33 = 0) (h1 : ¬t.val % 33 = 32) (h2 : t.val < 32)
    (p : Fin 512) (j : Fin 1024) :
    (outsAt0 m c t.val t.isLt).1 (ix2 p j)
      = Merge.norm 1024 (fun k => (outsAt0 m c (t.val - 1) (by have := t.isLt; omega)).2.2 (ix2 p k)) (wt m c t).gfin j := by
  rw [outsAt0_B m c t h0 h1 h2]
  dsimp only
  frame_open
  simp (disch := decide) only [↓ View.readCov_skip, ↓ View.readCov_cons_toLoadRect, ↓ View.readCov_fill]
  frame_out
  simp only [read_unread_whole]
  unfold wt
  generalize (outsAt0 m c (t.val-1) _).2.2 = X
  change Vec Ideal S512x1024 .f32 at X
  generalize iblk m c 19 t = b19
  change Vec Ideal S1x1024 .f32 at b19
  try pointwise [k0_pay2]
  simp only [w_1024, w_eps]
  rfl

theorem out_C (c : Dev nD) (t : Fin cfg0.N) (h0 : ¬t.val % 33 = 0) (h1 : t.val % 33 = 32) (h2 : ¬t.val < 32)
    (p : Fin 512) (j : Fin 1024) :
    (outsAt0 m c t.val t.isLt).1 (ix2 p j)
      = Merge.norm 1024 (fun k => (outsAt0 m c (t.val - 1) (by have := t.isLt; omega)).2.2 (ix2 p k)) (wt m c t).gfin j := by
  rw [outsAt0_C m c t h0 h1 h2]
  dsimp only
  frame_open
  simp (disch := decide) only [↓ View.readCov_skip, ↓ View.readCov_cons_toLoadRect, ↓ View.readCov_fill]
  frame_out
  simp only [read_unread_whole]
  unfold wt
  generalize (outsAt0 m c (t.val-1) _).2.2 = X
  change Vec Ideal S512x1024 .f32 at X
  generalize iblk m c 19 t = b19
  change Vec Ideal S1x1024 .f32 at b19
  pointwise [k0_pay2]
  simp only [w_1024, w_eps]
  rfl

end Cert.Kernel2Ideal.Hand

end
-- ==== Proof.Whole2.lean ====
/- The merge call's result array: tile by tile, the block function of each position's rows. A grid point's gated linear unit is
   the next tile's, and a grid point's output is the tile before's, so one tile's row goes through three points in a row. -/
module

public import proofs.«01_k».proof.Defs
public import proofs.«01_k».proof.Proof.Fold2
public import proofs.«01_k».proof.Proof.GluA
public import proofs.«01_k».proof.Proof.X2A
public import proofs.«01_k».proof.Proof.X2B
public import proofs.«01_k».proof.Proof.Out2
public import proofs.«01_k».proof.Proof.Gen.Pre_finite_inputs2
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

/-- The weights, read off the call's arguments. -/
def WK (c : Dev nD) : Weights :=
  Cert.Reference2Ideal.Reads.W (m ((c : Thread nD τ).loc main_arg3)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))

/-- A position's rows, read off the call's arguments. -/
def RK (c : Dev nD) (n : Fin 16384) : Row :=
  Cert.Reference2Ideal.Reads.R (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg6)) (⟨n.val / 2048, by omega⟩ : Fin 8) (⟨n.val % 2048, by omega⟩ : Fin 2048)

/-- Position `p` of tile `i`. -/
abbrev pos (i : Fin 32) (p : Fin 512) : Fin 16384 := ⟨i.val * 512 + p.val, by omega⟩

theorem wt_eq (c : Dev nD) (t : Fin cfg0.N) : wt m c t = WK m c := by
  unfold wt wtOf WK Cert.Reference2Ideal.Reads.W
  congr 1
  · funext k; rw [blk5, V19]
  · funext k j; rw [blk9, V1]
  · funext k; rw [blk10, V24]
  · funext k j; rw [blk11, V3]
  · funext k j; rw [blk12, V5]
  · funext k j; rw [blk13, V7]
  · funext k j; rw [blk14, V9]
  · funext k; rw [blk15, V26]
  · funext k j; rw [blk16, V11]
  · funext k j; rw [blk17, V13]
  · funext k j; rw [blk18, V15]
  · funext k; rw [blk19, V27]

theorem x1_eq (c : Dev nD) (t : Fin cfg0.N) (i : Fin 32) (h : t.val = i.val) (p : Fin 512) (u : Fin 512 → EReal) :
    x1Of (WK m c) (row m c t p) u = x1Of (WK m c) (RK m c (pos i p)) u := by
  have e0 : (row m c t p).x = (RK m c (pos i p)).x := by
    funext k
    exact (blk0 m c t i h p k).trans (V16 m c _ k)
  have e1 : (row m c t p).sgu = (RK m c (pos i p)).sgu := by
    funext k
    exact (blk6 m c t i h p k).trans (V20 m c _ k)
  have e2 : (row m c t p).attn = (RK m c (pos i p)).attn := by
    funext k
    exact (blk7 m c t i h p k).trans (V21 m c _ k)
  have e3 : (row m c t p).gate = (RK m c (pos i p)).gate := by
    funext b k
    exact (blk8 m c t i h p _).trans (V22 m c _ _)
  unfold x1Of
  rw [e0, e1, e2, e3]

theorem za2_eq (c : Dev nD) (t : Fin cfg0.N) (i : Fin 32) (h : i.val = 0) (p : Fin 512) :
    (fun k => (iblk m c 2 t : Vec Ideal S512x512 .f32) (ix2 p k)) = (RK m c (pos i p)).za := by
  funext k
  exact (blk2 m c t i h p k).trans (V17 m c _ k)

theorem za4_eq (c : Dev nD) (t : Fin cfg0.N) (i : Fin 32) (h : t.val + 1 = i.val) (p : Fin 512) :
    (fun k => (iblk m c 4 t : Vec Ideal S512x512 .f32) (ix2 p k)) = (RK m c (pos i p)).za := by
  funext k
  exact (blk4 m c t i h p k).trans (V17 m c _ k)

theorem y_pos (c : Dev nD) (i : Fin 32) (p k : Fin 512) :
    (m ((c : Thread nD τ).loc main_arg1) : Vec Ideal S32x1024x256 .bf16)
      (ix3 (⟨k.val / 16, by omega⟩ : Fin 32) (⟨i.val * 32 + p.val / 16, by omega⟩ : Fin 1024) (⟨p.val % 16 * 16 + k.val % 16, by omega⟩ : Fin 256))
    = (RK m c (pos i p)).y k := by
  unfold RK Cert.Reference2Ideal.Reads.R pos
  dsimp only
  congr 2
  · apply Fin.ext; dsimp only; omega
  · apply Fin.ext; dsimp only; omega

theorem y1_eq (c : Dev nD) (t : Fin cfg0.N) (i : Fin 32) (h : i.val = 0) (p : Fin 512) :
    (fun k => yOf (iblk m c 1 t) p k) = (RK m c (pos i p)).y := by
  funext k
  exact (blk1 m c t i h _ _ _).trans (y_pos m c i p k)

theorem y3_eq (c : Dev nD) (t : Fin cfg0.N) (i : Fin 32) (h : t.val + 1 = i.val) (p : Fin 512) :
    (fun k => yOf (iblk m c 3 t) p k) = (RK m c (pos i p)).y := by
  funext k
  exact (blk3 m c t i h _ _ _).trans (y_pos m c i p k)

/-- Every entry of the recurrence's row is a real number. -/
def Live (c : Dev nD) : Prop := ∀ (n : Fin 16384) (k : Fin 512), ∃ r : ℝ, (RK m c n).y k + (WK m c).dskip k * (RK m c n).za k = r

end Cert.Kernel2Ideal.Hand

end
-- ==== Proof.Seq2.lean ====
/- The three points a tile goes through, and the merge call's whole result. -/
module

public import proofs.«01_k».proof.Proof.Whole2

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Arith Cert.Merge

variable (m : (ℓ : Loc nD τ sig) → Buf (Elt Ideal) ℓ)

/-- After a point, the kept gated linear unit is the next tile's. -/
theorem glu_at (c : Dev nD) (hl : Live m c) (t : Fin cfg0.N) (i : Fin 32) (h : t.val + 1 = i.val) (p k : Fin 512) :
    (outsAt0 m c t.val t.isLt).2.1 (ix2 p k) = gluRow (WK m c) (RK m c (pos i p)).y (RK m c (pos i p)).za k := by
  have hr : ∀ p k : Fin 512, ∃ r : ℝ, yOf (iblk m c 3 t) p k + (wt m c t).dskip k * iblk m c 4 t (ix2 p k) = r := by
    intro p k
    rw [congrFun (y3_eq m c t i h p) k, congrFun (za4_eq m c t i h p) k, wt_eq]
    exact hl (pos i p) k
  by_cases h0 : t.val % 33 = 0
  · rw [glu_A m c t h0 (by omega) (by omega) hr p k, y3_eq m c t i h p, za4_eq m c t i h p, wt_eq]
  · rw [glu_B m c t h0 (by omega) (by omega) hr p k, y3_eq m c t i h p, za4_eq m c t i h p, wt_eq]

/-- After a point, the kept residual is this tile's. -/
theorem x2_at (c : Dev nD) (hl : Live m c) (t : Fin cfg0.N) (i : Fin 32) (h : t.val = i.val) (p : Fin 512) (j : Fin 1024) :
    (outsAt0 m c t.val t.isLt).2.2 (ix2 p j)
    = x2Of (WK m c) (x1Of (WK m c) (RK m c (pos i p)) (gluRow (WK m c) (RK m c (pos i p)).y (RK m c (pos i p)).za)) j := by
  by_cases h0 : t.val % 33 = 0
  · have hi : i.val = 0 := by omega
    have hr : ∀ p k : Fin 512, ∃ r : ℝ, yOf (iblk m c 1 t) p k + (wt m c t).dskip k * iblk m c 2 t (ix2 p k) = r := by
      intro p k
      rw [congrFun (y1_eq m c t i hi p) k, congrFun (za2_eq m c t i hi p) k, wt_eq]
      exact hl (pos i p) k
    rw [x2_A m c t h0 (by omega) (by omega) hr p j, y1_eq m c t i hi p, za2_eq m c t i hi p, wt_eq, x1_eq m c t i h p]
  · have hb : t.val - 1 < cfg0.N := lt_of_le_of_lt (Nat.sub_le _ _) t.isLt
    have e : (fun k => (outsAt0 m c (t.val - 1) hb).2.1 (ix2 p k))
        = gluRow (WK m c) (RK m c (pos i p)).y (RK m c (pos i p)).za := by
      funext k
      exact glu_at m c hl ⟨t.val - 1, hb⟩ i (by dsimp only; omega) p k
    rw [x2_B m c t h0 (by omega) (by omega) p j, e, wt_eq, x1_eq m c t i h p]

/-- A point's output is the tile before's. -/
theorem out_at (c : Dev nD) (hl : Live m c) (t : Fin cfg0.N) (i : Fin 32) (h : t.val = i.val + 1) (p : Fin 512) (j : Fin 1024) :
    (outsAt0 m c t.val t.isLt).1 (ix2 p j) = out (WK m c) (RK m c (pos i p)) j := by
  have hb : t.val - 1 < cfg0.N := lt_of_le_of_lt (Nat.sub_le _ _) t.isLt
  have e : (fun k => (outsAt0 m c (t.val - 1) hb).2.2 (ix2 p k))
      = x2Of (WK m c) (x1Of (WK m c) (RK m c (pos i p)) (gluRow (WK m c) (RK m c (pos i p)).y (RK m c (pos i p)).za)) := by
    funext k
    exact x2_at m c hl ⟨t.val - 1, hb⟩ i (by dsimp only; omega) p k
  by_cases h2 : t.val < 32
  · rw [out_B m c t (by omega) (by omega) h2 p j, e, wt_eq]
    rfl
  · rw [out_C m c t (by omega) (by omega) h2 p j, e, wt_eq]
    rfl

/-- A point that writes its block back is not the first. -/
theorem flush_pos : ∀ t : Fin cfg0.N, (cfg0.win 20).flush t = true → 0 < t.val ∧ t.val < 33 :=
  (by decide +kernel : ∀ t : Fin grid0.N, _)

/-- The result, position by position. -/
def whole (c : Dev nD) : Vec Ideal S16384x1024 .f32 := fun y => out (WK m c) (RK m c (y 0)) (y 1)

theorem out_idx (c : Dev nD) (hl : Live m c) (t : Fin cfg0.N) (i : Fin 32) (h : t.val = i.val + 1) (y : S512x1024.Idx)
    (n : S16384x1024.Idx) (h0 : (n 0).val = i.val * 512 + (y 0).val) (h1 : (n 1).val = (y 1).val) :
    (outsAt0 m c t.val t.isLt).1 y = whole m c n := by
  have ey : y = (ix2 (y 0 : Fin 512) (y 1 : Fin 1024) : S512x1024.Idx) := by
    funext a; fin_cases a <;> rfl
  have e0 : n 0 = pos i (y 0) := Fin.ext h0
  have e1 : n 1 = y 1 := Fin.ext h1
  have e := out_at m c hl t i h (y 0) (y 1)
  refine (congrArg _ ey).trans (e.trans ?_)
  unfold whole
  rw [e0, e1]

theorem final (c : Dev nD) (hl : Live m c) : (dats m 0 c).arrAt 20 cfg0.N = whole m c := by
  refine (dats m 0 c).arrAt_eq_of_covers 20 _ (by decide +kernel) fun t hf y => ?_
  have hp := flush_pos t hf
  have hq := idxOut t
  blk_simp
  rw [after0_20]
  refine out_idx m c hl t ⟨t.val - 1, by omega⟩ (by dsimp only; omega) _ _ ?_ ?_
  · blk_simp [hq]
  · blk_simp [hq]

end Cert.Kernel2Ideal.Hand

namespace Cert.Held

open Idealize.ShloMosaic Idealize.ShloMosaic.TcCoe Idealize.SL.Sem

theorem real_of_lt (x : EReal) (h : Ideal.cmp .olt (max x (-x)) (Ideal.ofBits .f32 0x7F800000#32) = 1) : ∃ r : ℝ, x = r := by
  rw [Cert.Arith.w_inf] at h
  induction x with
  | bot => simp [Ideal.cmp] at h
  | top => simp [Ideal.cmp] at h
  | coe r => exact ⟨r, rfl⟩

theorem live (m : (ℓ : Loc Cert.Kernel2Ideal.nD Cert.Kernel2Ideal.τ Cert.Kernel2Ideal.sig) → Buf (Elt Ideal) ℓ)
    (h : Pre_Kernel2Ideal_finite_inputs2 m) (c : Dev Cert.Kernel2Ideal.nD) : Cert.Kernel2Ideal.Hand.Live m c := by
  obtain ⟨hy, hz, hd⟩ := h c
  intro n k
  obtain ⟨a, ha⟩ := real_of_lt ((Cert.Kernel2Ideal.Hand.RK m c n).y k) (congrFun hy _)
  obtain ⟨b, hb⟩ := real_of_lt ((Cert.Kernel2Ideal.Hand.RK m c n).za k) (congrFun hz _)
  obtain ⟨d, he⟩ := real_of_lt ((Cert.Kernel2Ideal.Hand.WK m c).dskip k) (congrFun hd _)
  rw [ha, hb, he]
  exact ⟨a + d * b, by push_cast; rfl⟩

/-- The merge call and its reference leave the same result. -/
theorem algebraic2 : Cert.algebraic_Kernel2Ideal_Reference2Ideal_pre_finite_inputs2 := by
  pair_intro
  · run_from Cert.Kernel2Ideal.Value.run_blocks m g
  · run_from Cert.Reference2Ideal.Value.run m' g'
    obtain ⟨a0, a1, a2, a3, a4, a5, a6, a7, a8, a9, a10, a11, a12, a13, a14, a15, a16, a17⟩ := hagree c
    rw [Cert.Kernel2Ideal.Hand.final m c (live m hpre c), ← a17]
    refine (Cert.Reference2Ideal.Read.val_main_v95_eq (F := Ideal) (StableHlo.launchContents m' c)).trans ?_
    funext y
    have ey : y = (ix2 (y 0 : Fin 16384) (y 1 : Fin 1024) : Cert.Reference2Ideal.S16384x1024.Idx) := by
      funext a; fin_cases a <;> rfl
    refine (congrArg _ ey).trans ?_
    refine (Cert.Reference2Ideal.Reads.v95 _ _ _ _ _ _ _ _ _ _ _ _ _ _ _ _ _ _ _ _).trans ?_
    unfold Cert.Kernel2Ideal.Hand.whole Cert.Kernel2Ideal.Hand.WK Cert.Kernel2Ideal.Hand.RK
    rw [← a0, ← a1, ← a2, ← a3, ← a4, ← a5, ← a6, ← a7, ← a8, ← a9, ← a10, ← a11, ← a12, ← a13, ← a14, ← a15, ← a16, ← a17]

end Cert.Held

end
-- ==== Proof.Fin1.lean ====
/- The first call's twelve whole results: each is covered by the blocks its grid points write. -/
module

public import proofs.«01_k».proof.Proof.Whole1
public import proofs.«01_k».proof.Proof.Seq2
public import proofs.«01_k».proof.Proof.Gen.Pre_finite_inputs

@[expose] public section

set_option maxRecDepth 16384

noncomputable section

namespace Cert.KernelIdeal.Hand

open Cert.KernelIdeal Cert.KernelIdeal.Gen Idealize.ShloMosaic Idealize.ShloMosaic.TcCoe Idealize.SL.Sem
open Cert.Arith Cert.Merge Cert.Inproj

variable (m : (ℓ : Loc nD τ sig) → Buf (Elt Ideal) ℓ)

/-- The results, position by position. -/
def wholeZa (c : Dev nD) : Vec Ideal S8x2048x512 .f32 := fun y => za (WK m c) (XK m c (y 0) (y 1)) (y 2)

def uvecAt (c : Dev nD) (g : Fin 32) (r : Fin 1024) (l : Fin 256) : EReal :=
  za (WK m c) (XK m c (⟨r.val / 128, by omega⟩ : Fin 8) (⟨r.val % 128 * 16 + l.val / 16, by omega⟩ : Fin 2048))
    (⟨g.val * 16 + l.val % 16, by omega⟩ : Fin 512)

def wholeUvec (c : Dev nD) : Vec Ideal S32x1024x256 .bf16 := fun y => uvecAt m c (y 0) (y 1) (y 2)

def sguAt (c : Dev nD) (b : Fin 8) (T : Fin 2048) (j : Fin 512) : EReal :=
  sgu (WK m c) (fun s => XK m c b (⟨T.val / 128 * 128 + s.val, by omega⟩ : Fin 2048)) (⟨T.val % 128, by omega⟩ : Fin 128) j

def wholeSgu (c : Dev nD) : Vec Ideal S8x2048x512 .f32 := fun y => sguAt m c (y 0) (y 1) (y 2)

def wholeAttn (c : Dev nD) : Vec Ideal S8x2048x512 .f32 := fun y =>
  attn (WK m c) (XK m c (y 0) (y 1)) (KK m c (y 0)) (VK m c (y 0)) (y 2)

def wholeGates (c : Dev nD) : Vec Ideal S8x2048x3072 .f32 := fun y => gates (WK m c) (XK m c (y 0) (y 1)) (y 2)

theorem za_idx (c : Dev nD) (t : Fin cfg0.N) (y : S1x1024x512.Idx) (n : S8x2048x512.Idx) (h0 : (n 0).val = t.val / 2)
    (h1 : (n 1).val = t.val % 2 * 1024 + (y 1).val) (h2 : (n 2).val = (y 2).val) : (outsAt0 m c t).1 y = wholeZa m c n := by
  have ey : y = (ix3 (0 : Fin 1) (y 1 : Fin 1024) (y 2 : Fin 512) : S1x1024x512.Idx) := by
    funext a; fin_cases a
    · exact Fin.ext (by have := (y 0).isLt; change (y 0).val < 1 at this; show (y 0).val = 0; omega)
    · rfl
    · rfl
  have e0 : n 0 = tb t := Fin.ext h0
  have e1 : n 1 = tp t (y 1) := Fin.ext h1
  have e2 : n 2 = y 2 := Fin.ext h2
  refine (congrArg _ ey).trans ((za_at m c t (y 1) (y 2)).trans ?_)
  unfold wholeZa
  rw [e0, e1, e2]

theorem finalZa (c : Dev nD) : (dats m 0 c).arrAt 17 cfg0.N = wholeZa m c := by
  refine (dats m 0 c).arrAt_eq_of_covers 17 _ (by decide +kernel) fun t hf y => ?_
  have hq := (idxTile t).2.1
  blk_simp
  rw [after0_17]
  refine za_idx m c t _ _ ?_ ?_ ?_
  · blk_simp [hq]
  · blk_simp [hq]
  · blk_simp [hq]

theorem sgu_idx (c : Dev nD) (hl : Live m c) (t : Fin cfg0.N) (y : S1x1024x512.Idx) (n : S8x2048x512.Idx) (h0 : (n 0).val = t.val / 2)
    (h1 : (n 1).val = t.val % 2 * 1024 + (y 1).val) (h2 : (n 2).val = (y 2).val) : (outsAt0 m c t).2.2.1 y = wholeSgu m c n := by
  have ey : y = (ix3 (0 : Fin 1) (y 1 : Fin 1024) (y 2 : Fin 512) : S1x1024x512.Idx) := by
    funext a; fin_cases a
    · exact Fin.ext (by have := (y 0).isLt; change (y 0).val < 1 at this; show (y 0).val = 0; omega)
    · rfl
    · rfl
  have e0 : n 0 = tb t := Fin.ext h0
  have e1 : n 1 = tp t (y 1) := Fin.ext h1
  have e2 : n 2 = y 2 := Fin.ext h2
  refine (congrArg _ ey).trans ((sgu_at m c hl t (y 1) (y 2)).trans ?_)
  unfold wholeSgu sguAt
  rw [e0, e1, e2]

theorem finalSgu (c : Dev nD) (hl : Live m c) : (dats m 0 c).arrAt 19 cfg0.N = wholeSgu m c := by
  refine (dats m 0 c).arrAt_eq_of_covers 19 _ (by decide +kernel) fun t hf y => ?_
  have hq := (idxTile t).2.2.2.1
  blk_simp
  rw [after0_19]
  refine sgu_idx m c hl t _ _ ?_ ?_ ?_
  · blk_simp [hq]
  · blk_simp [hq]
  · blk_simp [hq]

theorem attn_idx (c : Dev nD) (hl : Live m c) (t : Fin cfg0.N) (y : S1x1024x512.Idx) (n : S8x2048x512.Idx) (h0 : (n 0).val = t.val / 2)
    (h1 : (n 1).val = t.val % 2 * 1024 + (y 1).val) (h2 : (n 2).val = (y 2).val) : (outsAt0 m c t).2.2.2.1 y = wholeAttn m c n := by
  have ey : y = (ix3 (0 : Fin 1) (y 1 : Fin 1024) (y 2 : Fin 512) : S1x1024x512.Idx) := by
    funext a; fin_cases a
    · exact Fin.ext (by have := (y 0).isLt; change (y 0).val < 1 at this; show (y 0).val = 0; omega)
    · rfl
    · rfl
  have e0 : n 0 = tb t := Fin.ext h0
  have e1 : n 1 = tp t (y 1) := Fin.ext h1
  have e2 : n 2 = y 2 := Fin.ext h2
  refine (congrArg _ ey).trans ((attn_at m c hl t (y 1) (y 2)).trans ?_)
  unfold wholeAttn
  rw [e0, e1, e2]

theorem finalAttn (c : Dev nD) (hl : Live m c) : (dats m 0 c).arrAt 20 cfg0.N = wholeAttn m c := by
  refine (dats m 0 c).arrAt_eq_of_covers 20 _ (by decide +kernel) fun t hf y => ?_
  have hq := (idxTile t).2.2.2.2.1
  blk_simp
  rw [after0_20]
  refine attn_idx m c hl t _ _ ?_ ?_ ?_
  · blk_simp [hq]
  · blk_simp [hq]
  · blk_simp [hq]

theorem gates_idx (c : Dev nD) (t : Fin cfg0.N) (y : S1x1024x3072.Idx) (n : S8x2048x3072.Idx) (h0 : (n 0).val = t.val / 2)
    (h1 : (n 1).val = t.val % 2 * 1024 + (y 1).val) (h2 : (n 2).val = (y 2).val) : (outsAt0 m c t).2.2.2.2.1 y = wholeGates m c n := by
  have ey : y = (ix3 (0 : Fin 1) (y 1 : Fin 1024) (y 2 : Fin 3072) : S1x1024x3072.Idx) := by
    funext a; fin_cases a
    · exact Fin.ext (by have := (y 0).isLt; change (y 0).val < 1 at this; show (y 0).val = 0; omega)
    · rfl
    · rfl
  have e0 : n 0 = tb t := Fin.ext h0
  have e1 : n 1 = tp t (y 1) := Fin.ext h1
  have e2 : n 2 = y 2 := Fin.ext h2
  refine (congrArg _ ey).trans ((gates_at m c t (y 1) (y 2)).trans ?_)
  unfold wholeGates
  rw [e0, e1, e2]

theorem finalGates (c : Dev nD) : (dats m 0 c).arrAt 21 cfg0.N = wholeGates m c := by
  refine (dats m 0 c).arrAt_eq_of_covers 21 _ (by decide +kernel) fun t hf y => ?_
  have hq := (idxTile t).2.2.2.2.2.1
  blk_simp
  rw [after0_21]
  refine gates_idx m c t _ _ ?_ ?_ ?_
  · blk_simp [hq]
  · blk_simp [hq]
  · blk_simp [hq]

theorem uvec_eq (c : Dev nD) (t : Fin cfg0.N) (g : Fin 32) (r : Fin 64) (l : Fin 256) (R : Fin 1024) (h : R.val = t.val * 64 + r.val) :
    (outsAt0 m c t).2.1 (ix3 g r l) = uvecAt m c g R l := by
  rw [uvec_at]
  unfold uvecAt
  refine congr (congrArg (za (WK m c)) (congrArg₂ (XK m c) (Fin.ext ?_) (Fin.ext ?_))) rfl
  · show t.val / 2 = R.val / 128
    omega
  · show t.val % 2 * 1024 + (r.val * 16 + l.val / 16) = R.val % 128 * 16 + l.val / 16
    omega

theorem uvec_idx (c : Dev nD) (t : Fin cfg0.N) (y : S32x64x256.Idx) (n : S32x1024x256.Idx) (h0 : (n 0).val = (y 0).val)
    (h1 : (n 1).val = t.val * 64 + (y 1).val) (h2 : (n 2).val = (y 2).val) : (outsAt0 m c t).2.1 y = wholeUvec m c n := by
  have ey : y = (ix3 (y 0 : Fin 32) (y 1 : Fin 64) (y 2 : Fin 256) : S32x64x256.Idx) := by
    funext a; fin_cases a <;> rfl
  have e0 : n 0 = y 0 := Fin.ext h0
  have e2 : n 2 = y 2 := Fin.ext h2
  refine (congrArg _ ey).trans ((uvec_eq m c t (y 0) (y 1) (y 2) (n 1) h1).trans ?_)
  unfold wholeUvec
  rw [e0, e2]

theorem finalUvec (c : Dev nD) : (dats m 0 c).arrAt 18 cfg0.N = wholeUvec m c := by
  refine (dats m 0 c).arrAt_eq_of_covers 18 _ (by decide +kernel) fun t hf y => ?_
  have hq := (idxTile t).2.2.1
  blk_simp
  rw [after0_18]
  refine uvec_idx m c t _ _ ?_ ?_ ?_
  · blk_simp [hq]
  · blk_simp [hq]
  · blk_simp [hq]

/-- The copies of the weights. -/
def whole22 (c : Dev nD) : Vec Ideal S512x512 .bf16 := fun y =>
  (m ((c : Thread nD τ).loc main_arg10) : Vec Ideal S1x512x512 .f32) (ix3 (0 : Fin 1) (y 0) (y 1))

theorem idx22 (c : Dev nD) (t : Fin cfg0.N) (y : S32x512.Idx) (n : S512x512.Idx) (h0 : (n 0).val = t.val * 32 + (y 0).val)
    (h1 : (n 1).val = (y 1).val) : (outsAt0 m c t).2.2.2.2.2.1 y = whole22 m c n := by
  have ey : y = (ix2 (y 0 : Fin 32) (y 1 : Fin 512) : S32x512.Idx) := by
    funext a; fin_cases a <;> rfl
  have hy0 : (y 0).val < 32 := (y 0).isLt
  have ht : t.val < 16 := t.isLt
  have e0 : n 0 = (⟨t.val * 32 + (y 0).val, by omega⟩ : Fin 512) := Fin.ext h0
  have e1 : n 1 = y 1 := Fin.ext h1
  refine (congrArg _ ey).trans ((cast10_A m c t (y 0) (y 1)).trans (((blk10 m c t (y 0) (y 1)).trans (V29 m c _ (y 1))).trans ?_))
  unfold whole22
  rw [e0, e1]

theorem final22 (c : Dev nD) : (dats m 0 c).arrAt 22 cfg0.N = whole22 m c := by
  refine (dats m 0 c).arrAt_eq_of_covers 22 _ (by decide +kernel) fun t hf y => ?_
  have hq := (idxOut t).1
  blk_simp
  rw [after0_22]
  refine idx22 m c t _ _ ?_ ?_
  · blk_simp [hq]
  · blk_simp [hq]

def whole23 (c : Dev nD) : Vec Ideal S512x1024 .bf16 := fun y =>
  (m ((c : Thread nD τ).loc main_arg11) : Vec Ideal S1x512x1024 .f32) (ix3 (0 : Fin 1) (y 0) (y 1))

theorem idx23 (c : Dev nD) (t : Fin cfg0.N) (y : S32x1024.Idx) (n : S512x1024.Idx) (h0 : (n 0).val = t.val * 32 + (y 0).val)
    (h1 : (n 1).val = (y 1).val) : (outsAt0 m c t).2.2.2.2.2.2.1 y = whole23 m c n := by
  have ey : y = (ix2 (y 0 : Fin 32) (y 1 : Fin 1024) : S32x1024.Idx) := by
    funext a; fin_cases a <;> rfl
  have hy0 : (y 0).val < 32 := (y 0).isLt
  have ht : t.val < 16 := t.isLt
  have e0 : n 0 = (⟨t.val * 32 + (y 0).val, by omega⟩ : Fin 512) := Fin.ext h0
  have e1 : n 1 = y 1 := Fin.ext h1
  refine (congrArg _ ey).trans ((cast11_A m c t (y 0) (y 1)).trans (((blk11 m c t (y 0) (y 1)).trans (V30 m c _ (y 1))).trans ?_))
  unfold whole23
  rw [e0, e1]

theorem final23 (c : Dev nD) : (dats m 0 c).arrAt 23 cfg0.N = whole23 m c := by
  refine (dats m 0 c).arrAt_eq_of_covers 23 _ (by decide +kernel) fun t hf y => ?_
  have hq := (idxOut t).2.1
  blk_simp
  rw [after0_23]
  refine idx23 m c t _ _ ?_ ?_
  · blk_simp [hq]
  · blk_simp [hq]

def whole24 (c : Dev nD) : Vec Ideal S512x1024 .bf16 := fun y =>
  (m ((c : Thread nD τ).loc main_arg12) : Vec Ideal S1x512x1024 .f32) (ix3 (0 : Fin 1) (y 0) (y 1))

theorem idx24 (c : Dev nD) (t : Fin cfg0.N) (y : S32x1024.Idx) (n : S512x1024.Idx) (h0 : (n 0).val = t.val * 32 + (y 0).val)
    (h1 : (n 1).val = (y 1).val) : (outsAt0 m c t).2.2.2.2.2.2.2.1 y = whole24 m c n := by
  have ey : y = (ix2 (y 0 : Fin 32) (y 1 : Fin 1024) : S32x1024.Idx) := by
    funext a; fin_cases a <;> rfl
  have hy0 : (y 0).val < 32 := (y 0).isLt
  have ht : t.val < 16 := t.isLt
  have e0 : n 0 = (⟨t.val * 32 + (y 0).val, by omega⟩ : Fin 512) := Fin.ext h0
  have e1 : n 1 = y 1 := Fin.ext h1
  refine (congrArg _ ey).trans ((cast12_A m c t (y 0) (y 1)).trans (((blk12 m c t (y 0) (y 1)).trans (V31 m c _ (y 1))).trans ?_))
  unfold whole24
  rw [e0, e1]

theorem final24 (c : Dev nD) : (dats m 0 c).arrAt 24 cfg0.N = whole24 m c := by
  refine (dats m 0 c).arrAt_eq_of_covers 24 _ (by decide +kernel) fun t hf y => ?_
  have hq := (idxOut t).2.2.1
  blk_simp
  rw [after0_24]
  refine idx24 m c t _ _ ?_ ?_
  · blk_simp [hq]
  · blk_simp [hq]

def whole25 (c : Dev nD) : Vec Ideal S512x1024 .bf16 := fun y =>
  (m ((c : Thread nD τ).loc main_arg13) : Vec Ideal S1x512x1024 .f32) (ix3 (0 : Fin 1) (y 0) (y 1))

theorem idx25 (c : Dev nD) (t : Fin cfg0.N) (y : S32x1024.Idx) (n : S512x1024.Idx) (h0 : (n 0).val = t.val * 32 + (y 0).val)
    (h1 : (n 1).val = (y 1).val) : (outsAt0 m c t).2.2.2.2.2.2.2.2.1 y = whole25 m c n := by
  have ey : y = (ix2 (y 0 : Fin 32) (y 1 : Fin 1024) : S32x1024.Idx) := by
    funext a; fin_cases a <;> rfl
  have hy0 : (y 0).val < 32 := (y 0).isLt
  have ht : t.val < 16 := t.isLt
  have e0 : n 0 = (⟨t.val * 32 + (y 0).val, by omega⟩ : Fin 512) := Fin.ext h0
  have e1 : n 1 = y 1 := Fin.ext h1
  refine (congrArg _ ey).trans ((cast13_A m c t (y 0) (y 1)).trans (((blk13 m c t (y 0) (y 1)).trans (V32 m c _ (y 1))).trans ?_))
  unfold whole25
  rw [e0, e1]

theorem final25 (c : Dev nD) : (dats m 0 c).arrAt 25 cfg0.N = whole25 m c := by
  refine (dats m 0 c).arrAt_eq_of_covers 25 _ (by decide +kernel) fun t hf y => ?_
  have hq := (idxOut t).2.2.2.1
  blk_simp
  rw [after0_25]
  refine idx25 m c t _ _ ?_ ?_
  · blk_simp [hq]
  · blk_simp [hq]

def whole26 (c : Dev nD) : Vec Ideal S1024x1024 .bf16 := fun y =>
  (m ((c : Thread nD τ).loc main_arg14) : Vec Ideal S1x1024x1024 .f32) (ix3 (0 : Fin 1) (y 0) (y 1))

theorem idx26 (c : Dev nD) (t : Fin cfg0.N) (y : S64x1024.Idx) (n : S1024x1024.Idx) (h0 : (n 0).val = t.val * 64 + (y 0).val)
    (h1 : (n 1).val = (y 1).val) : (outsAt0 m c t).2.2.2.2.2.2.2.2.2.1 y = whole26 m c n := by
  have ey : y = (ix2 (y 0 : Fin 64) (y 1 : Fin 1024) : S64x1024.Idx) := by
    funext a; fin_cases a <;> rfl
  have hy0 : (y 0).val < 64 := (y 0).isLt
  have ht : t.val < 16 := t.isLt
  have e0 : n 0 = (⟨t.val * 64 + (y 0).val, by omega⟩ : Fin 1024) := Fin.ext h0
  have e1 : n 1 = y 1 := Fin.ext h1
  refine (congrArg _ ey).trans ((cast14_A m c t (y 0) (y 1)).trans (((blk14 m c t (y 0) (y 1)).trans (V33 m c _ (y 1))).trans ?_))
  unfold whole26
  rw [e0, e1]

theorem final26 (c : Dev nD) : (dats m 0 c).arrAt 26 cfg0.N = whole26 m c := by
  refine (dats m 0 c).arrAt_eq_of_covers 26 _ (by decide +kernel) fun t hf y => ?_
  have hq := (idxOut t).2.2.2.2.1
  blk_simp
  rw [after0_26]
  refine idx26 m c t _ _ ?_ ?_
  · blk_simp [hq]
  · blk_simp [hq]

def whole27 (c : Dev nD) : Vec Ideal S1024x2816 .bf16 := fun y =>
  (m ((c : Thread nD τ).loc main_arg15) : Vec Ideal S1x1024x2816 .f32) (ix3 (0 : Fin 1) (y 0) (y 1))

theorem idx27 (c : Dev nD) (t : Fin cfg0.N) (y : S64x2816.Idx) (n : S1024x2816.Idx) (h0 : (n 0).val = t.val * 64 + (y 0).val)
    (h1 : (n 1).val = (y 1).val) : (outsAt0 m c t).2.2.2.2.2.2.2.2.2.2.1 y = whole27 m c n := by
  have ey : y = (ix2 (y 0 : Fin 64) (y 1 : Fin 2816) : S64x2816.Idx) := by
    funext a; fin_cases a <;> rfl
  have hy0 : (y 0).val < 64 := (y 0).isLt
  have ht : t.val < 16 := t.isLt
  have e0 : n 0 = (⟨t.val * 64 + (y 0).val, by omega⟩ : Fin 1024) := Fin.ext h0
  have e1 : n 1 = y 1 := Fin.ext h1
  refine (congrArg _ ey).trans ((cast15_A m c t (y 0) (y 1)).trans (((blk15 m c t (y 0) (y 1)).trans (V34 m c _ (y 1))).trans ?_))
  unfold whole27
  rw [e0, e1]

theorem final27 (c : Dev nD) : (dats m 0 c).arrAt 27 cfg0.N = whole27 m c := by
  refine (dats m 0 c).arrAt_eq_of_covers 27 _ (by decide +kernel) fun t hf y => ?_
  have hq := (idxOut t).2.2.2.2.2.1
  blk_simp
  rw [after0_27]
  refine idx27 m c t _ _ ?_ ?_
  · blk_simp [hq]
  · blk_simp [hq]

def whole28 (c : Dev nD) : Vec Ideal S1024x2816 .bf16 := fun y =>
  (m ((c : Thread nD τ).loc main_arg16) : Vec Ideal S1x1024x2816 .f32) (ix3 (0 : Fin 1) (y 0) (y 1))

theorem idx28 (c : Dev nD) (t : Fin cfg0.N) (y : S64x2816.Idx) (n : S1024x2816.Idx) (h0 : (n 0).val = t.val * 64 + (y 0).val)
    (h1 : (n 1).val = (y 1).val) : (outsAt0 m c t).2.2.2.2.2.2.2.2.2.2.2 y = whole28 m c n := by
  have ey : y = (ix2 (y 0 : Fin 64) (y 1 : Fin 2816) : S64x2816.Idx) := by
    funext a; fin_cases a <;> rfl
  have hy0 : (y 0).val < 64 := (y 0).isLt
  have ht : t.val < 16 := t.isLt
  have e0 : n 0 = (⟨t.val * 64 + (y 0).val, by omega⟩ : Fin 1024) := Fin.ext h0
  have e1 : n 1 = y 1 := Fin.ext h1
  refine (congrArg _ ey).trans ((cast16_A m c t (y 0) (y 1)).trans (((blk16 m c t (y 0) (y 1)).trans (V35 m c _ (y 1))).trans ?_))
  unfold whole28
  rw [e0, e1]

theorem final28 (c : Dev nD) : (dats m 0 c).arrAt 28 cfg0.N = whole28 m c := by
  refine (dats m 0 c).arrAt_eq_of_covers 28 _ (by decide +kernel) fun t hf y => ?_
  have hq := (idxOut t).2.2.2.2.2.2
  blk_simp
  rw [after0_28]
  refine idx28 m c t _ _ ?_ ?_
  · blk_simp [hq]
  · blk_simp [hq]

end Cert.KernelIdeal.Hand

end
-- ==== Proof.Ref1C.lean ====
/- The reference of the first half's copies of the weights, position by position. -/
module

public import proofs.«01_k».proof.Proof.Gen.ReferenceIdeal.Read
public import Idealize.ShloMosaic.Lib.Pointwise

@[expose] public section

set_option maxRecDepth 16384

noncomputable section

namespace Cert.ReferenceIdeal.Reads

open Idealize.ShloMosaic
open Cert.ReferenceIdeal Cert.ReferenceIdeal.Read

theorem v129 (x10 : Vec Ideal S1x512x512 .f32) (k : Fin 512) (j : Fin 512) : val_main_v129 (F := Ideal) x10 (ix2 k j) = x10 (ix3 0 k j) := by
  pointwise [val_main_v129, val_main_v128]

theorem v131 (x11 : Vec Ideal S1x512x1024 .f32) (k : Fin 512) (j : Fin 1024) : val_main_v131 (F := Ideal) x11 (ix2 k j) = x11 (ix3 0 k j) := by
  pointwise [val_main_v131, val_main_v130]

theorem v133 (x12 : Vec Ideal S1x512x1024 .f32) (k : Fin 512) (j : Fin 1024) : val_main_v133 (F := Ideal) x12 (ix2 k j) = x12 (ix3 0 k j) := by
  pointwise [val_main_v133, val_main_v132]

theorem v135 (x13 : Vec Ideal S1x512x1024 .f32) (k : Fin 512) (j : Fin 1024) : val_main_v135 (F := Ideal) x13 (ix2 k j) = x13 (ix3 0 k j) := by
  pointwise [val_main_v135, val_main_v134]

theorem v137 (x14 : Vec Ideal S1x1024x1024 .f32) (k : Fin 1024) (j : Fin 1024) : val_main_v137 (F := Ideal) x14 (ix2 k j) = x14 (ix3 0 k j) := by
  pointwise [val_main_v137, val_main_v136]

theorem v139 (x15 : Vec Ideal S1x1024x2816 .f32) (k : Fin 1024) (j : Fin 2816) : val_main_v139 (F := Ideal) x15 (ix2 k j) = x15 (ix3 0 k j) := by
  pointwise [val_main_v139, val_main_v138]

theorem v141 (x16 : Vec Ideal S1x1024x2816 .f32) (k : Fin 1024) (j : Fin 2816) : val_main_v141 (F := Ideal) x16 (ix2 k j) = x16 (ix3 0 k j) := by
  pointwise [val_main_v141, val_main_v140]

end Cert.ReferenceIdeal.Reads

end
-- ==== Proof.Seq1.lean ====
/- The first call and its reference leave the same results. -/
module

public import proofs.«01_k».proof.Proof.Fin1
public import proofs.«01_k».proof.Proof.Ref1C
public import proofs.«01_k».proof.Proof.Seq2
public import proofs.«01_k».proof.Proof.Gen.Pre_finite_inputs

@[expose] public section

set_option maxRecDepth 16384
set_option maxHeartbeats 4000000

noncomputable section

namespace Cert.Held

open Idealize.ShloMosaic Idealize.ShloMosaic.TcCoe Idealize.SL.Sem

theorem live1 (m : (ℓ : Loc Cert.KernelIdeal.nD Cert.KernelIdeal.τ Cert.KernelIdeal.sig) → Buf (Elt Ideal) ℓ)
    (h : Pre_KernelIdeal_finite_inputs m) (c : Dev Cert.KernelIdeal.nD) : Cert.KernelIdeal.Hand.Live m c := by
  obtain ⟨hg, hw, hk⟩ := h c
  exact {
    g := fun k => real_of_lt ((Cert.KernelIdeal.Hand.WK m c).g k) (congrFun hg _)
    w := fun k j => real_of_lt ((Cert.KernelIdeal.Hand.WK m c).w k j) (congrFun hw _)
    key := fun b n j => real_of_lt (Cert.KernelIdeal.Hand.KK m c b n j) (congrFun hk _) }

/-! The reference's results are the same functions of the call's arguments. -/

section Refs

open Cert.KernelIdeal Cert.KernelIdeal.Hand

variable (m : (ℓ : Loc Cert.KernelIdeal.nD Cert.KernelIdeal.τ Cert.KernelIdeal.sig) → Buf (Elt Ideal) ℓ) (c : Dev Cert.KernelIdeal.nD)

theorem refZa : Cert.ReferenceIdeal.Read.val_main_v16 (F := Ideal) (m ((c.tc : Thread nD τ).loc main_arg0)) (m ((c.tc : Thread nD τ).loc main_arg1)) (m ((c.tc : Thread nD τ).loc main_arg2)) = wholeZa m c := by
  funext y
  have ey : y = (ix3 (y 0 : Fin 8) (y 1 : Fin 2048) (y 2 : Fin 512) : S8x2048x512.Idx) := by
    funext a; fin_cases a <;> rfl
  exact (congrArg _ ey).trans (Cert.ReferenceIdeal.Reads.v16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2))

theorem refUvec : Cert.ReferenceIdeal.Read.val_main_v124 (F := Ideal) (m ((c.tc : Thread nD τ).loc main_arg0)) (m ((c.tc : Thread nD τ).loc main_arg1)) (m ((c.tc : Thread nD τ).loc main_arg2)) = wholeUvec m c := by
  funext y
  have ey : y = (ix3 (y 0 : Fin 32) (y 1 : Fin 1024) (y 2 : Fin 256) : S32x1024x256.Idx) := by
    funext a; fin_cases a <;> rfl
  exact (congrArg _ ey).trans ((Cert.ReferenceIdeal.Reads.v124 (m ((c.tc : Thread nD τ).loc main_arg0)) (m ((c.tc : Thread nD τ).loc main_arg1)) (m ((c.tc : Thread nD τ).loc main_arg2)) (y 0) (y 1) (y 2)).trans (Cert.ReferenceIdeal.Reads.v16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) _ _ _))

theorem refSgu : Cert.ReferenceIdeal.Read.val_main_v125 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) = wholeSgu m c := by
  funext y
  have ey : y = (ix3 (y 0 : Fin 8) (y 1 : Fin 2048) (y 2 : Fin 512) : S8x2048x512.Idx) := by
    funext a; fin_cases a <;> rfl
  exact (congrArg _ ey).trans (Cert.ReferenceIdeal.Reads.r_sgu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2))

theorem refAttn : Cert.ReferenceIdeal.Read.val_main_v126 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) = wholeAttn m c := by
  funext y
  have ey : y = (ix3 (y 0 : Fin 8) (y 1 : Fin 2048) (y 2 : Fin 512) : S8x2048x512.Idx) := by
    funext a; fin_cases a <;> rfl
  exact (congrArg _ ey).trans (Cert.ReferenceIdeal.Reads.r_attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) (y 2))

theorem refGates : Cert.ReferenceIdeal.Read.val_main_v127 (F := Ideal) (m ((c.tc : Thread nD τ).loc main_arg0)) (m ((c.tc : Thread nD τ).loc main_arg1)) (m ((c.tc : Thread nD τ).loc main_arg2)) (m ((c.tc : Thread nD τ).loc main_arg3)) = wholeGates m c := by
  funext y
  have ey : y = (ix3 (y 0 : Fin 8) (y 1 : Fin 2048) (y 2 : Fin 3072) : S8x2048x3072.Idx) := by
    funext a; fin_cases a <;> rfl
  exact (congrArg _ ey).trans (Cert.ReferenceIdeal.Reads.v127 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2))

theorem ref22 : Cert.ReferenceIdeal.Read.val_main_v129 (F := Ideal) (m ((c.tc : Thread nD τ).loc main_arg10)) = whole22 m c := by
  funext y
  have ey : y = (ix2 (y 0 : Fin 512) (y 1 : Fin 512) : S512x512.Idx) := by
    funext a; fin_cases a <;> rfl
  exact (congrArg _ ey).trans (Cert.ReferenceIdeal.Reads.v129 (m ((c.tc : Thread nD τ).loc main_arg10)) (y 0) (y 1))

theorem ref23 : Cert.ReferenceIdeal.Read.val_main_v131 (F := Ideal) (m ((c.tc : Thread nD τ).loc main_arg11)) = whole23 m c := by
  funext y
  have ey : y = (ix2 (y 0 : Fin 512) (y 1 : Fin 1024) : S512x1024.Idx) := by
    funext a; fin_cases a <;> rfl
  exact (congrArg _ ey).trans (Cert.ReferenceIdeal.Reads.v131 (m ((c.tc : Thread nD τ).loc main_arg11)) (y 0) (y 1))

theorem ref24 : Cert.ReferenceIdeal.Read.val_main_v133 (F := Ideal) (m ((c.tc : Thread nD τ).loc main_arg12)) = whole24 m c := by
  funext y
  have ey : y = (ix2 (y 0 : Fin 512) (y 1 : Fin 1024) : S512x1024.Idx) := by
    funext a; fin_cases a <;> rfl
  exact (congrArg _ ey).trans (Cert.ReferenceIdeal.Reads.v133 (m ((c.tc : Thread nD τ).loc main_arg12)) (y 0) (y 1))

theorem ref25 : Cert.ReferenceIdeal.Read.val_main_v135 (F := Ideal) (m ((c.tc : Thread nD τ).loc main_arg13)) = whole25 m c := by
  funext y
  have ey : y = (ix2 (y 0 : Fin 512) (y 1 : Fin 1024) : S512x1024.Idx) := by
    funext a; fin_cases a <;> rfl
  exact (congrArg _ ey).trans (Cert.ReferenceIdeal.Reads.v135 (m ((c.tc : Thread nD τ).loc main_arg13)) (y 0) (y 1))

theorem ref26 : Cert.ReferenceIdeal.Read.val_main_v137 (F := Ideal) (m ((c.tc : Thread nD τ).loc main_arg14)) = whole26 m c := by
  funext y
  have ey : y = (ix2 (y 0 : Fin 1024) (y 1 : Fin 1024) : S1024x1024.Idx) := by
    funext a; fin_cases a <;> rfl
  exact (congrArg _ ey).trans (Cert.ReferenceIdeal.Reads.v137 (m ((c.tc : Thread nD τ).loc main_arg14)) (y 0) (y 1))

theorem ref27 : Cert.ReferenceIdeal.Read.val_main_v139 (F := Ideal) (m ((c.tc : Thread nD τ).loc main_arg15)) = whole27 m c := by
  funext y
  have ey : y = (ix2 (y 0 : Fin 1024) (y 1 : Fin 2816) : S1024x2816.Idx) := by
    funext a; fin_cases a <;> rfl
  exact (congrArg _ ey).trans (Cert.ReferenceIdeal.Reads.v139 (m ((c.tc : Thread nD τ).loc main_arg15)) (y 0) (y 1))

theorem ref28 : Cert.ReferenceIdeal.Read.val_main_v141 (F := Ideal) (m ((c.tc : Thread nD τ).loc main_arg16)) = whole28 m c := by
  funext y
  have ey : y = (ix2 (y 0 : Fin 1024) (y 1 : Fin 2816) : S1024x2816.Idx) := by
    funext a; fin_cases a <;> rfl
  exact (congrArg _ ey).trans (Cert.ReferenceIdeal.Reads.v141 (m ((c.tc : Thread nD τ).loc main_arg16)) (y 0) (y 1))

end Refs

/-- The first call and its reference leave the same results. -/
theorem algebraic1 : Cert.algebraic_KernelIdeal_ReferenceIdeal_pre_finite_inputs := by
  pair_intro
  · run_from Cert.KernelIdeal.Value.run_blocks m g
  · run_from Cert.ReferenceIdeal.Value.run m' g'
    · exact (Cert.ReferenceIdeal.Read.val_main_v16_eq (F := Ideal) _ _ _).trans ((refZa m c).trans (Cert.KernelIdeal.Hand.finalZa m c).symm)
    · exact (Cert.ReferenceIdeal.Read.val_main_v124_eq (F := Ideal) _ _ _).trans ((refUvec m c).trans (Cert.KernelIdeal.Hand.finalUvec m c).symm)
    · obtain ⟨a0, a1, a2, a3, a4, a5, a6, a7, a8, a9, a10, a11, a12, a13, a14, a15, a16⟩ := hagree c
      refine (Cert.ReferenceIdeal.Read.val_main_v125_eq (F := Ideal) m' c).trans ?_
      rw [a0, a1, a2, a4, a5, a6, a7]
      exact (refSgu m c).trans (Cert.KernelIdeal.Hand.finalSgu m c (live1 m hpre c)).symm
    · obtain ⟨a0, a1, a2, a3, a4, a5, a6, a7, a8, a9, a10, a11, a12, a13, a14, a15, a16⟩ := hagree c
      refine (Cert.ReferenceIdeal.Read.val_main_v126_eq (F := Ideal) m' c).trans ?_
      rw [a0, a1, a2, a8, a9]
      exact (refAttn m c).trans (Cert.KernelIdeal.Hand.finalAttn m c (live1 m hpre c)).symm
    · exact (Cert.ReferenceIdeal.Read.val_main_v127_eq (F := Ideal) _ _ _ _).trans ((refGates m c).trans (Cert.KernelIdeal.Hand.finalGates m c).symm)
    · exact (Cert.ReferenceIdeal.Read.val_main_v129_eq (F := Ideal) _).trans ((ref22 m c).trans (Cert.KernelIdeal.Hand.final22 m c).symm)
    · exact (Cert.ReferenceIdeal.Read.val_main_v131_eq (F := Ideal) _).trans ((ref23 m c).trans (Cert.KernelIdeal.Hand.final23 m c).symm)
    · exact (Cert.ReferenceIdeal.Read.val_main_v133_eq (F := Ideal) _).trans ((ref24 m c).trans (Cert.KernelIdeal.Hand.final24 m c).symm)
    · exact (Cert.ReferenceIdeal.Read.val_main_v135_eq (F := Ideal) _).trans ((ref25 m c).trans (Cert.KernelIdeal.Hand.final25 m c).symm)
    · exact (Cert.ReferenceIdeal.Read.val_main_v137_eq (F := Ideal) _).trans ((ref26 m c).trans (Cert.KernelIdeal.Hand.final26 m c).symm)
    · exact (Cert.ReferenceIdeal.Read.val_main_v139_eq (F := Ideal) _).trans ((ref27 m c).trans (Cert.KernelIdeal.Hand.final27 m c).symm)
    · exact (Cert.ReferenceIdeal.Read.val_main_v141_eq (F := Ideal) _).trans ((ref28 m c).trans (Cert.KernelIdeal.Hand.final28 m c).symm)

end Cert.Held

end
-- ==== Proof.lean ====
module

public import proofs.«01_k».proof.Defs
public import proofs.«01_k».proof.Proof.Gen.Pre_finite_inputs
public import proofs.«01_k».proof.Proof.Gen.Pre_finite_inputs2
public import proofs.«01_k».proof.Proof.Held
public import proofs.«01_k».proof.Proof.Seq1
public import proofs.«01_k».proof.Proof.Seq2

@[expose] public section

noncomputable section

namespace Cert.Proof

open Idealize.ShloMosaic Idealize.SL.Sem

theorem p1i : Cert.quiescent_KernelIdeal_pre_finite_inputs := fun m ρ _ => Cert.KernelIdeal.Gen.frame m ρ

theorem r1i : Cert.quiescent_ReferenceIdeal_pre_finite_inputs := fun m ρ _ => Cert.Held.ri m ρ trivial

theorem p2i : Cert.quiescent_Kernel2Ideal_pre_finite_inputs2 := fun m ρ _ => Cert.Kernel2Ideal.Gen.frame m ρ

theorem r2i : Cert.quiescent_Reference2Ideal_pre_finite_inputs2 := fun m ρ _ => Cert.Held.r2i m ρ trivial

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite_inputs.Gen.facts, Cert.Pre_finite_inputs2.Gen.facts,
    Cert.Held.p, Cert.Held.pi, p1i, Cert.Held.ri, r1i, Cert.Held.p2, Cert.Held.p2i, p2i, Cert.Held.r2i, r2i,
    Cert.Held.preserves, Cert.Held.algebraic1, Cert.Held.preserves2, Cert.Held.algebraic2⟩

end Cert.Proof

end
